-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7)
      ∧ r.2.mem ((c.tc : Thread Cert.Kernel25.nD Cert.Kernel25.τ).loc Cert.Kernel25.main_arg8) = m ((c.tc : Thread Cert.Kernel25.nD Cert.Kernel25.τ).loc Cert.Kernel25.main_arg8)
      ∧ r.2.mem ((c.tc : Thread Cert.Kernel25.nD Cert.Kernel25.τ).loc Cert.Kernel25.main_arg9) = m ((c.tc : Thread Cert.Kernel25.nD Cert.Kernel25.τ).loc Cert.Kernel25.main_arg9)
      ∧ r.2.mem ((c.tc : Thread Cert.Kernel25.nD Cert.Kernel25.τ).loc Cert.Kernel25.main_arg10) = m ((c.tc : Thread Cert.Kernel25.nD Cert.Kernel25.τ).loc Cert.Kernel25.main_arg10)
      ∧ r.2.mem ((c.tc : Thread Cert.Kernel25.nD Cert.Kernel25.τ).loc Cert.Kernel25.main_arg11) = m ((c.tc : Thread Cert.Kernel25.nD Cert.Kernel25.τ).loc Cert.Kernel25.main_arg11)
      ∧ r.2.mem ((c.tc : Thread Cert.Kernel25.nD Cert.Kernel25.τ).loc Cert.Kernel25.main_arg12) = m ((c.tc : Thread Cert.Kernel25.nD Cert.Kernel25.τ).loc Cert.Kernel25.main_arg12)
      ∧ r.2.mem ((c.tc : Thread Cert.Kernel25.nD Cert.Kernel25.τ).loc Cert.Kernel25.main_arg13) = m ((c.tc : Thread Cert.Kernel25.nD Cert.Kernel25.τ).loc Cert.Kernel25.main_arg13)
      ∧ r.2.mem ((c.tc : Thread Cert.Kernel25.nD Cert.Kernel25.τ).loc Cert.Kernel25.main_arg14) = m ((c.tc : Thread Cert.Kernel25.nD Cert.Kernel25.τ).loc Cert.Kernel25.main_arg14)
      ∧ r.2.mem ((c.tc : Thread Cert.Kernel25.nD Cert.Kernel25.τ).loc Cert.Kernel25.main_arg15) = m ((c.tc : Thread Cert.Kernel25.nD Cert.Kernel25.τ).loc Cert.Kernel25.main_arg15)
      ∧ r.2.mem ((c.tc : Thread Cert.Kernel25.nD Cert.Kernel25.τ).loc Cert.Kernel25.main_arg16) = m ((c.tc : Thread Cert.Kernel25.nD Cert.Kernel25.τ).loc Cert.Kernel25.main_arg16)
      ∧ r.2.mem ((c.tc : Thread Cert.Kernel25.nD Cert.Kernel25.τ).loc Cert.Kernel25.main_arg17) = m ((c.tc : Thread Cert.Kernel25.nD Cert.Kernel25.τ).loc Cert.Kernel25.main_arg17)
      ∧ r.2.mem ((c.tc : Thread Cert.Kernel25.nD Cert.Kernel25.τ).loc Cert.Kernel25.main_arg18) = m ((c.tc : Thread Cert.Kernel25.nD Cert.Kernel25.τ).loc Cert.Kernel25.main_arg18)
      ∧ r.2.mem ((c.tc : Thread Cert.Kernel25.nD Cert.Kernel25.τ).loc Cert.Kernel25.main_arg19) = m ((c.tc : Thread Cert.Kernel25.nD Cert.Kernel25.τ).loc Cert.Kernel25.main_arg19)
      ∧ r.2.mem ((c.tc : Thread Cert.Kernel25.nD Cert.Kernel25.τ).loc Cert.Kernel25.main_arg20) = m ((c.tc : Thread Cert.Kernel25.nD Cert.Kernel25.τ).loc Cert.Kernel25.main_arg20)
      ∧ r.2.mem ((c.tc : Thread Cert.Kernel25.nD Cert.Kernel25.τ).loc Cert.Kernel25.main_arg21) = m ((c.tc : Thread Cert.Kernel25.nD Cert.Kernel25.τ).loc Cert.Kernel25.main_arg21)
      ∧ r.2.mem ((c.tc : Thread Cert.Kernel25.nD Cert.Kernel25.τ).loc Cert.Kernel25.main_arg22) = m ((c.tc : Thread Cert.Kernel25.nD Cert.Kernel25.τ).loc Cert.Kernel25.main_arg22)
      ∧ r.2.mem ((c.tc : Thread Cert.Kernel25.nD Cert.Kernel25.τ).loc Cert.Kernel25.main_arg23) = m ((c.tc : Thread Cert.Kernel25.nD Cert.Kernel25.τ).loc Cert.Kernel25.main_arg23)
      ∧ r.2.mem ((c.tc : Thread Cert.Kernel25.nD Cert.Kernel25.τ).loc Cert.Kernel25.main_arg24) = m ((c.tc : Thread Cert.Kernel25.nD Cert.Kernel25.τ).loc Cert.Kernel25.main_arg24)
      ∧ r.2.mem ((c.tc : Thread Cert.Kernel25.nD Cert.Kernel25.τ).loc Cert.Kernel25.main_arg25) = m ((c.tc : Thread Cert.Kernel25.nD Cert.Kernel25.τ).loc Cert.Kernel25.main_arg25)
      ∧ r.2.mem ((c.tc : Thread Cert.Kernel25.nD Cert.Kernel25.τ).loc Cert.Kernel25.main_arg26) = m ((c.tc : Thread Cert.Kernel25.nD Cert.Kernel25.τ).loc Cert.Kernel25.main_arg26)
      ∧ r.2.mem ((c.tc : Thread Cert.Kernel25.nD Cert.Kernel25.τ).loc Cert.Kernel25.main_arg27) = m ((c.tc : Thread Cert.Kernel25.nD Cert.Kernel25.τ).loc Cert.Kernel25.main_arg27)
      ∧ r.2.mem ((c.tc : Thread Cert.Kernel25.nD Cert.Kernel25.τ).loc Cert.Kernel25.main_arg28) = m ((c.tc : Thread Cert.Kernel25.nD Cert.Kernel25.τ).loc Cert.Kernel25.main_arg28)
      ∧ r.2.mem ((c.tc : Thread Cert.Kernel25.nD Cert.Kernel25.τ).loc Cert.Kernel25.main_arg29) = m ((c.tc : Thread Cert.Kernel25.nD Cert.Kernel25.τ).loc Cert.Kernel25.main_arg29)
      ∧ r.2.mem ((c.tc : Thread Cert.Kernel25.nD Cert.Kernel25.τ).loc Cert.Kernel25.main_arg30) = m ((c.tc : Thread Cert.Kernel25.nD Cert.Kernel25.τ).loc Cert.Kernel25.main_arg30)
      ∧ r.2.mem ((c.tc : Thread Cert.Kernel25.nD Cert.Kernel25.τ).loc Cert.Kernel25.main_arg31) = m ((c.tc : Thread Cert.Kernel25.nD Cert.Kernel25.τ).loc Cert.Kernel25.main_arg31)
      ∧ r.2.mem ((c.tc : Thread Cert.Kernel25.nD Cert.Kernel25.τ).loc Cert.Kernel25.main_arg32) = m ((c.tc : Thread Cert.Kernel25.nD Cert.Kernel25.τ).loc Cert.Kernel25.main_arg32)
      ∧ r.2.mem ((c.tc : Thread Cert.Kernel25.nD Cert.Kernel25.τ).loc Cert.Kernel25.main_arg33) = m ((c.tc : Thread Cert.Kernel25.nD Cert.Kernel25.τ).loc Cert.Kernel25.main_arg33)
      ∧ r.2.mem ((c.tc : Thread Cert.Kernel25.nD Cert.Kernel25.τ).loc Cert.Kernel25.main_arg34) = m ((c.tc : Thread Cert.Kernel25.nD Cert.Kernel25.τ).loc Cert.Kernel25.main_arg34)
      ∧ r.2.mem ((c.tc : Thread Cert.Kernel25.nD Cert.Kernel25.τ).loc Cert.Kernel25.main_arg35) = m ((c.tc : Thread Cert.Kernel25.nD Cert.Kernel25.τ).loc Cert.Kernel25.main_arg35))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
      ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
      ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
      ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
      ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
      ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12)
      ∧ r.2.mem ((c.tc : Thread Cert.Kernel25Ideal.nD Cert.Kernel25Ideal.τ).loc Cert.Kernel25Ideal.main_arg13) = m ((c.tc : Thread Cert.Kernel25Ideal.nD Cert.Kernel25Ideal.τ).loc Cert.Kernel25Ideal.main_arg13)
      ∧ r.2.mem ((c.tc : Thread Cert.Kernel25Ideal.nD Cert.Kernel25Ideal.τ).loc Cert.Kernel25Ideal.main_arg14) = m ((c.tc : Thread Cert.Kernel25Ideal.nD Cert.Kernel25Ideal.τ).loc Cert.Kernel25Ideal.main_arg14)
      ∧ r.2.mem ((c.tc : Thread Cert.Kernel25Ideal.nD Cert.Kernel25Ideal.τ).loc Cert.Kernel25Ideal.main_arg15) = m ((c.tc : Thread Cert.Kernel25Ideal.nD Cert.Kernel25Ideal.τ).loc Cert.Kernel25Ideal.main_arg15)
      ∧ r.2.mem ((c.tc : Thread Cert.Kernel25Ideal.nD Cert.Kernel25Ideal.τ).loc Cert.Kernel25Ideal.main_arg16) = m ((c.tc : Thread Cert.Kernel25Ideal.nD Cert.Kernel25Ideal.τ).loc Cert.Kernel25Ideal.main_arg16)
      ∧ r.2.mem ((c.tc : Thread Cert.Kernel25Ideal.nD Cert.Kernel25Ideal.τ).loc Cert.Kernel25Ideal.main_arg17) = m ((c.tc : Thread Cert.Kernel25Ideal.nD Cert.Kernel25Ideal.τ).loc Cert.Kernel25Ideal.main_arg17)
      ∧ r.2.mem ((c.tc : Thread Cert.Kernel25Ideal.nD Cert.Kernel25Ideal.τ).loc Cert.Kernel25Ideal.main_arg18) = m ((c.tc : Thread Cert.Kernel25Ideal.nD Cert.Kernel25Ideal.τ).loc Cert.Kernel25Ideal.main_arg18)
      ∧ r.2.mem ((c.tc : Thread Cert.Kernel25Ideal.nD Cert.Kernel25Ideal.τ).loc Cert.Kernel25Ideal.main_arg19) = m ((c.tc : Thread Cert.Kernel25Ideal.nD Cert.Kernel25Ideal.τ).loc Cert.Kernel25Ideal.main_arg19)
      ∧ r.2.mem ((c.tc : Thread Cert.Kernel25Ideal.nD Cert.Kernel25Ideal.τ).loc Cert.Kernel25Ideal.main_arg20) = m ((c.tc : Thread Cert.Kernel25Ideal.nD Cert.Kernel25Ideal.τ).loc Cert.Kernel25Ideal.main_arg20)
      ∧ r.2.mem ((c.tc : Thread Cert.Kernel25Ideal.nD Cert.Kernel25Ideal.τ).loc Cert.Kernel25Ideal.main_arg21) = m ((c.tc : Thread Cert.Kernel25Ideal.nD Cert.Kernel25Ideal.τ).loc Cert.Kernel25Ideal.main_arg21)
      ∧ r.2.mem ((c.tc : Thread Cert.Kernel25Ideal.nD Cert.Kernel25Ideal.τ).loc Cert.Kernel25Ideal.main_arg22) = m ((c.tc : Thread Cert.Kernel25Ideal.nD Cert.Kernel25Ideal.τ).loc Cert.Kernel25Ideal.main_arg22)
      ∧ r.2.mem ((c.tc : Thread Cert.Kernel25Ideal.nD Cert.Kernel25Ideal.τ).loc Cert.Kernel25Ideal.main_arg23) = m ((c.tc : Thread Cert.Kernel25Ideal.nD Cert.Kernel25Ideal.τ).loc Cert.Kernel25Ideal.main_arg23)
      ∧ r.2.mem ((c.tc : Thread Cert.Kernel25Ideal.nD Cert.Kernel25Ideal.τ).loc Cert.Kernel25Ideal.main_arg24) = m ((c.tc : Thread Cert.Kernel25Ideal.nD Cert.Kernel25Ideal.τ).loc Cert.Kernel25Ideal.main_arg24)
      ∧ r.2.mem ((c.tc : Thread Cert.Kernel25Ideal.nD Cert.Kernel25Ideal.τ).loc Cert.Kernel25Ideal.main_arg25) = m ((c.tc : Thread Cert.Kernel25Ideal.nD Cert.Kernel25Ideal.τ).loc Cert.Kernel25Ideal.main_arg25)
      ∧ r.2.mem ((c.tc : Thread Cert.Kernel25Ideal.nD Cert.Kernel25Ideal.τ).loc Cert.Kernel25Ideal.main_arg26) = m ((c.tc : Thread Cert.Kernel25Ideal.nD Cert.Kernel25Ideal.τ).loc Cert.Kernel25Ideal.main_arg26)
      ∧ r.2.mem ((c.tc : Thread Cert.Kernel25Ideal.nD Cert.Kernel25Ideal.τ).loc Cert.Kernel25Ideal.main_arg27) = m ((c.tc : Thread Cert.Kernel25Ideal.nD Cert.Kernel25Ideal.τ).loc Cert.Kernel25Ideal.main_arg27)
      ∧ r.2.mem ((c.tc : Thread Cert.Kernel25Ideal.nD Cert.Kernel25Ideal.τ).loc Cert.Kernel25Ideal.main_arg28) = m ((c.tc : Thread Cert.Kernel25Ideal.nD Cert.Kernel25Ideal.τ).loc Cert.Kernel25Ideal.main_arg28)
      ∧ r.2.mem ((c.tc : Thread Cert.Kernel25Ideal.nD Cert.Kernel25Ideal.τ).loc Cert.Kernel25Ideal.main_arg29) = m ((c.tc : Thread Cert.Kernel25Ideal.nD Cert.Kernel25Ideal.τ).loc Cert.Kernel25Ideal.main_arg29)
      ∧ r.2.mem ((c.tc : Thread Cert.Kernel25Ideal.nD Cert.Kernel25Ideal.τ).loc Cert.Kernel25Ideal.main_arg30) = m ((c.tc : Thread Cert.Kernel25Ideal.nD Cert.Kernel25Ideal.τ).loc Cert.Kernel25Ideal.main_arg30)
      ∧ r.2.mem ((c.tc : Thread Cert.Kernel25Ideal.nD Cert.Kernel25Ideal.τ).loc Cert.Kernel25Ideal.main_arg31) = m ((c.tc : Thread Cert.Kernel25Ideal.nD Cert.Kernel25Ideal.τ).loc Cert.Kernel25Ideal.main_arg31)
      ∧ r.2.mem ((c.tc : Thread Cert.Kernel25Ideal.nD Cert.Kernel25Ideal.τ).loc Cert.Kernel25Ideal.main_arg32) = m ((c.tc : Thread Cert.Kernel25Ideal.nD Cert.Kernel25Ideal.τ).loc Cert.Kernel25Ideal.main_arg32)
      ∧ r.2.mem ((c.tc : Thread Cert.Kernel25Ideal.nD Cert.Kernel25Ideal.τ).loc Cert.Kernel25Ideal.main_arg33) = m ((c.tc : Thread Cert.Kernel25Ideal.nD Cert.Kernel25Ideal.τ).loc Cert.Kernel25Ideal.main_arg33)
      ∧ r.2.mem ((c.tc : Thread Cert.Kernel25Ideal.nD Cert.Kernel25Ideal.τ).loc Cert.Kernel25Ideal.main_arg34) = m ((c.tc : Thread Cert.Kernel25Ideal.nD Cert.Kernel25Ideal.τ).loc Cert.Kernel25Ideal.main_arg34)
      ∧ r.2.mem ((c.tc : Thread Cert.Kernel25Ideal.nD Cert.Kernel25Ideal.τ).loc Cert.Kernel25Ideal.main_arg35) = m ((c.tc : Thread Cert.Kernel25Ideal.nD Cert.Kernel25Ideal.τ).loc Cert.Kernel25Ideal.main_arg35))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7)
      ∧ r.2.mem ((c.tc : Thread Cert.Reference25Ideal.nD Cert.Reference25Ideal.τ).loc Cert.Reference25Ideal.main_arg8) = m ((c.tc : Thread Cert.Reference25Ideal.nD Cert.Reference25Ideal.τ).loc Cert.Reference25Ideal.main_arg8)
      ∧ r.2.mem ((c.tc : Thread Cert.Reference25Ideal.nD Cert.Reference25Ideal.τ).loc Cert.Reference25Ideal.main_arg9) = m ((c.tc : Thread Cert.Reference25Ideal.nD Cert.Reference25Ideal.τ).loc Cert.Reference25Ideal.main_arg9)
      ∧ r.2.mem ((c.tc : Thread Cert.Reference25Ideal.nD Cert.Reference25Ideal.τ).loc Cert.Reference25Ideal.main_arg10) = m ((c.tc : Thread Cert.Reference25Ideal.nD Cert.Reference25Ideal.τ).loc Cert.Reference25Ideal.main_arg10)
      ∧ r.2.mem ((c.tc : Thread Cert.Reference25Ideal.nD Cert.Reference25Ideal.τ).loc Cert.Reference25Ideal.main_arg11) = m ((c.tc : Thread Cert.Reference25Ideal.nD Cert.Reference25Ideal.τ).loc Cert.Reference25Ideal.main_arg11)
      ∧ r.2.mem ((c.tc : Thread Cert.Reference25Ideal.nD Cert.Reference25Ideal.τ).loc Cert.Reference25Ideal.main_arg12) = m ((c.tc : Thread Cert.Reference25Ideal.nD Cert.Reference25Ideal.τ).loc Cert.Reference25Ideal.main_arg12)
      ∧ r.2.mem ((c.tc : Thread Cert.Reference25Ideal.nD Cert.Reference25Ideal.τ).loc Cert.Reference25Ideal.main_arg13) = m ((c.tc : Thread Cert.Reference25Ideal.nD Cert.Reference25Ideal.τ).loc Cert.Reference25Ideal.main_arg13)
      ∧ r.2.mem ((c.tc : Thread Cert.Reference25Ideal.nD Cert.Reference25Ideal.τ).loc Cert.Reference25Ideal.main_arg14) = m ((c.tc : Thread Cert.Reference25Ideal.nD Cert.Reference25Ideal.τ).loc Cert.Reference25Ideal.main_arg14)
      ∧ r.2.mem ((c.tc : Thread Cert.Reference25Ideal.nD Cert.Reference25Ideal.τ).loc Cert.Reference25Ideal.main_arg15) = m ((c.tc : Thread Cert.Reference25Ideal.nD Cert.Reference25Ideal.τ).loc Cert.Reference25Ideal.main_arg15)
      ∧ r.2.mem ((c.tc : Thread Cert.Reference25Ideal.nD Cert.Reference25Ideal.τ).loc Cert.Reference25Ideal.main_arg16) = m ((c.tc : Thread Cert.Reference25Ideal.nD Cert.Reference25Ideal.τ).loc Cert.Reference25Ideal.main_arg16)
      ∧ r.2.mem ((c.tc : Thread Cert.Reference25Ideal.nD Cert.Reference25Ideal.τ).loc Cert.Reference25Ideal.main_arg17) = m ((c.tc : Thread Cert.Reference25Ideal.nD Cert.Reference25Ideal.τ).loc Cert.Reference25Ideal.main_arg17)
      ∧ r.2.mem ((c.tc : Thread Cert.Reference25Ideal.nD Cert.Reference25Ideal.τ).loc Cert.Reference25Ideal.main_arg18) = m ((c.tc : Thread Cert.Reference25Ideal.nD Cert.Reference25Ideal.τ).loc Cert.Reference25Ideal.main_arg18)
      ∧ r.2.mem ((c.tc : Thread Cert.Reference25Ideal.nD Cert.Reference25Ideal.τ).loc Cert.Reference25Ideal.main_arg19) = m ((c.tc : Thread Cert.Reference25Ideal.nD Cert.Reference25Ideal.τ).loc Cert.Reference25Ideal.main_arg19)
      ∧ r.2.mem ((c.tc : Thread Cert.Reference25Ideal.nD Cert.Reference25Ideal.τ).loc Cert.Reference25Ideal.main_arg20) = m ((c.tc : Thread Cert.Reference25Ideal.nD Cert.Reference25Ideal.τ).loc Cert.Reference25Ideal.main_arg20)
      ∧ r.2.mem ((c.tc : Thread Cert.Reference25Ideal.nD Cert.Reference25Ideal.τ).loc Cert.Reference25Ideal.main_arg21) = m ((c.tc : Thread Cert.Reference25Ideal.nD Cert.Reference25Ideal.τ).loc Cert.Reference25Ideal.main_arg21)
      ∧ r.2.mem ((c.tc : Thread Cert.Reference25Ideal.nD Cert.Reference25Ideal.τ).loc Cert.Reference25Ideal.main_arg22) = m ((c.tc : Thread Cert.Reference25Ideal.nD Cert.Reference25Ideal.τ).loc Cert.Reference25Ideal.main_arg22)
      ∧ r.2.mem ((c.tc : Thread Cert.Reference25Ideal.nD Cert.Reference25Ideal.τ).loc Cert.Reference25Ideal.main_arg23) = m ((c.tc : Thread Cert.Reference25Ideal.nD Cert.Reference25Ideal.τ).loc Cert.Reference25Ideal.main_arg23)
      ∧ r.2.mem ((c.tc : Thread Cert.Reference25Ideal.nD Cert.Reference25Ideal.τ).loc Cert.Reference25Ideal.main_arg24) = m ((c.tc : Thread Cert.Reference25Ideal.nD Cert.Reference25Ideal.τ).loc Cert.Reference25Ideal.main_arg24)
      ∧ r.2.mem ((c.tc : Thread Cert.Reference25Ideal.nD Cert.Reference25Ideal.τ).loc Cert.Reference25Ideal.main_arg25) = m ((c.tc : Thread Cert.Reference25Ideal.nD Cert.Reference25Ideal.τ).loc Cert.Reference25Ideal.main_arg25)
      ∧ r.2.mem ((c.tc : Thread Cert.Reference25Ideal.nD Cert.Reference25Ideal.τ).loc Cert.Reference25Ideal.main_arg26) = m ((c.tc : Thread Cert.Reference25Ideal.nD Cert.Reference25Ideal.τ).loc Cert.Reference25Ideal.main_arg26)
      ∧ r.2.mem ((c.tc : Thread Cert.Reference25Ideal.nD Cert.Reference25Ideal.τ).loc Cert.Reference25Ideal.main_arg27) = m ((c.tc : Thread Cert.Reference25Ideal.nD Cert.Reference25Ideal.τ).loc Cert.Reference25Ideal.main_arg27)
      ∧ r.2.mem ((c.tc : Thread Cert.Reference25Ideal.nD Cert.Reference25Ideal.τ).loc Cert.Reference25Ideal.main_arg28) = m ((c.tc : Thread Cert.Reference25Ideal.nD Cert.Reference25Ideal.τ).loc Cert.Reference25Ideal.main_arg28)
      ∧ r.2.mem ((c.tc : Thread Cert.Reference25Ideal.nD Cert.Reference25Ideal.τ).loc Cert.Reference25Ideal.main_arg29) = m ((c.tc : Thread Cert.Reference25Ideal.nD Cert.Reference25Ideal.τ).loc Cert.Reference25Ideal.main_arg29)
      ∧ r.2.mem ((c.tc : Thread Cert.Reference25Ideal.nD Cert.Reference25Ideal.τ).loc Cert.Reference25Ideal.main_arg30) = m ((c.tc : Thread Cert.Reference25Ideal.nD Cert.Reference25Ideal.τ).loc Cert.Reference25Ideal.main_arg30)
      ∧ r.2.mem ((c.tc : Thread Cert.Reference25Ideal.nD Cert.Reference25Ideal.τ).loc Cert.Reference25Ideal.main_arg31) = m ((c.tc : Thread Cert.Reference25Ideal.nD Cert.Reference25Ideal.τ).loc Cert.Reference25Ideal.main_arg31)
      ∧ r.2.mem ((c.tc : Thread Cert.Reference25Ideal.nD Cert.Reference25Ideal.τ).loc Cert.Reference25Ideal.main_arg32) = m ((c.tc : Thread Cert.Reference25Ideal.nD Cert.Reference25Ideal.τ).loc Cert.Reference25Ideal.main_arg32)
      ∧ r.2.mem ((c.tc : Thread Cert.Reference25Ideal.nD Cert.Reference25Ideal.τ).loc Cert.Reference25Ideal.main_arg33) = m ((c.tc : Thread Cert.Reference25Ideal.nD Cert.Reference25Ideal.τ).loc Cert.Reference25Ideal.main_arg33)
      ∧ r.2.mem ((c.tc : Thread Cert.Reference25Ideal.nD Cert.Reference25Ideal.τ).loc Cert.Reference25Ideal.main_arg34) = m ((c.tc : Thread Cert.Reference25Ideal.nD Cert.Reference25Ideal.τ).loc Cert.Reference25Ideal.main_arg34)
      ∧ r.2.mem ((c.tc : Thread Cert.Reference25Ideal.nD Cert.Reference25Ideal.τ).loc Cert.Reference25Ideal.main_arg35) = m ((c.tc : Thread Cert.Reference25Ideal.nD Cert.Reference25Ideal.τ).loc Cert.Reference25Ideal.main_arg35))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v26) = v1 c
          ∧ r.2.mem ((c.tc : Thread Cert.Reference19Ideal.nD Cert.Reference19Ideal.τ).loc Cert.Reference19Ideal.main_v7) = v2 c
          ∧ r.2.mem ((c.tc : Thread Cert.Reference19Ideal.nD Cert.Reference19Ideal.τ).loc Cert.Reference19Ideal.main_v13) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v7) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v26) = v1 c
          ∧ r.2.mem ((c.tc : Thread Cert.Reference23Ideal.nD Cert.Reference23Ideal.τ).loc Cert.Reference23Ideal.main_v7) = v2 c
          ∧ r.2.mem ((c.tc : Thread Cert.Reference23Ideal.nD Cert.Reference23Ideal.τ).loc Cert.Reference23Ideal.main_v13) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)
      ∧ m' ((c.tc : Thread Cert.Reference25Ideal.nD Cert.Reference25Ideal.τ).loc Cert.Reference25Ideal.main_arg8) = m ((c.tc : Thread Cert.Kernel25Ideal.nD Cert.Kernel25Ideal.τ).loc Cert.Kernel25Ideal.main_arg8)
      ∧ m' ((c.tc : Thread Cert.Reference25Ideal.nD Cert.Reference25Ideal.τ).loc Cert.Reference25Ideal.main_arg9) = m ((c.tc : Thread Cert.Kernel25Ideal.nD Cert.Kernel25Ideal.τ).loc Cert.Kernel25Ideal.main_arg9)
      ∧ m' ((c.tc : Thread Cert.Reference25Ideal.nD Cert.Reference25Ideal.τ).loc Cert.Reference25Ideal.main_arg10) = m ((c.tc : Thread Cert.Kernel25Ideal.nD Cert.Kernel25Ideal.τ).loc Cert.Kernel25Ideal.main_arg10)
      ∧ m' ((c.tc : Thread Cert.Reference25Ideal.nD Cert.Reference25Ideal.τ).loc Cert.Reference25Ideal.main_arg11) = m ((c.tc : Thread Cert.Kernel25Ideal.nD Cert.Kernel25Ideal.τ).loc Cert.Kernel25Ideal.main_arg11)
      ∧ m' ((c.tc : Thread Cert.Reference25Ideal.nD Cert.Reference25Ideal.τ).loc Cert.Reference25Ideal.main_arg12) = m ((c.tc : Thread Cert.Kernel25Ideal.nD Cert.Kernel25Ideal.τ).loc Cert.Kernel25Ideal.main_arg12)
      ∧ m' ((c.tc : Thread Cert.Reference25Ideal.nD Cert.Reference25Ideal.τ).loc Cert.Reference25Ideal.main_arg13) = m ((c.tc : Thread Cert.Kernel25Ideal.nD Cert.Kernel25Ideal.τ).loc Cert.Kernel25Ideal.main_arg13)
      ∧ m' ((c.tc : Thread Cert.Reference25Ideal.nD Cert.Reference25Ideal.τ).loc Cert.Reference25Ideal.main_arg14) = m ((c.tc : Thread Cert.Kernel25Ideal.nD Cert.Kernel25Ideal.τ).loc Cert.Kernel25Ideal.main_arg14)
      ∧ m' ((c.tc : Thread Cert.Reference25Ideal.nD Cert.Reference25Ideal.τ).loc Cert.Reference25Ideal.main_arg15) = m ((c.tc : Thread Cert.Kernel25Ideal.nD Cert.Kernel25Ideal.τ).loc Cert.Kernel25Ideal.main_arg15)
      ∧ m' ((c.tc : Thread Cert.Reference25Ideal.nD Cert.Reference25Ideal.τ).loc Cert.Reference25Ideal.main_arg16) = m ((c.tc : Thread Cert.Kernel25Ideal.nD Cert.Kernel25Ideal.τ).loc Cert.Kernel25Ideal.main_arg16)
      ∧ m' ((c.tc : Thread Cert.Reference25Ideal.nD Cert.Reference25Ideal.τ).loc Cert.Reference25Ideal.main_arg17) = m ((c.tc : Thread Cert.Kernel25Ideal.nD Cert.Kernel25Ideal.τ).loc Cert.Kernel25Ideal.main_arg17)
      ∧ m' ((c.tc : Thread Cert.Reference25Ideal.nD Cert.Reference25Ideal.τ).loc Cert.Reference25Ideal.main_arg18) = m ((c.tc : Thread Cert.Kernel25Ideal.nD Cert.Kernel25Ideal.τ).loc Cert.Kernel25Ideal.main_arg18)
      ∧ m' ((c.tc : Thread Cert.Reference25Ideal.nD Cert.Reference25Ideal.τ).loc Cert.Reference25Ideal.main_arg19) = m ((c.tc : Thread Cert.Kernel25Ideal.nD Cert.Kernel25Ideal.τ).loc Cert.Kernel25Ideal.main_arg19)
      ∧ m' ((c.tc : Thread Cert.Reference25Ideal.nD Cert.Reference25Ideal.τ).loc Cert.Reference25Ideal.main_arg20) = m ((c.tc : Thread Cert.Kernel25Ideal.nD Cert.Kernel25Ideal.τ).loc Cert.Kernel25Ideal.main_arg20)
      ∧ m' ((c.tc : Thread Cert.Reference25Ideal.nD Cert.Reference25Ideal.τ).loc Cert.Reference25Ideal.main_arg21) = m ((c.tc : Thread Cert.Kernel25Ideal.nD Cert.Kernel25Ideal.τ).loc Cert.Kernel25Ideal.main_arg21)
      ∧ m' ((c.tc : Thread Cert.Reference25Ideal.nD Cert.Reference25Ideal.τ).loc Cert.Reference25Ideal.main_arg22) = m ((c.tc : Thread Cert.Kernel25Ideal.nD Cert.Kernel25Ideal.τ).loc Cert.Kernel25Ideal.main_arg22)
      ∧ m' ((c.tc : Thread Cert.Reference25Ideal.nD Cert.Reference25Ideal.τ).loc Cert.Reference25Ideal.main_arg23) = m ((c.tc : Thread Cert.Kernel25Ideal.nD Cert.Kernel25Ideal.τ).loc Cert.Kernel25Ideal.main_arg23)
      ∧ m' ((c.tc : Thread Cert.Reference25Ideal.nD Cert.Reference25Ideal.τ).loc Cert.Reference25Ideal.main_arg24) = m ((c.tc : Thread Cert.Kernel25Ideal.nD Cert.Kernel25Ideal.τ).loc Cert.Kernel25Ideal.main_arg24)
      ∧ m' ((c.tc : Thread Cert.Reference25Ideal.nD Cert.Reference25Ideal.τ).loc Cert.Reference25Ideal.main_arg25) = m ((c.tc : Thread Cert.Kernel25Ideal.nD Cert.Kernel25Ideal.τ).loc Cert.Kernel25Ideal.main_arg25)
      ∧ m' ((c.tc : Thread Cert.Reference25Ideal.nD Cert.Reference25Ideal.τ).loc Cert.Reference25Ideal.main_arg26) = m ((c.tc : Thread Cert.Kernel25Ideal.nD Cert.Kernel25Ideal.τ).loc Cert.Kernel25Ideal.main_arg26)
      ∧ m' ((c.tc : Thread Cert.Reference25Ideal.nD Cert.Reference25Ideal.τ).loc Cert.Reference25Ideal.main_arg27) = m ((c.tc : Thread Cert.Kernel25Ideal.nD Cert.Kernel25Ideal.τ).loc Cert.Kernel25Ideal.main_arg27)
      ∧ m' ((c.tc : Thread Cert.Reference25Ideal.nD Cert.Reference25Ideal.τ).loc Cert.Reference25Ideal.main_arg28) = m ((c.tc : Thread Cert.Kernel25Ideal.nD Cert.Kernel25Ideal.τ).loc Cert.Kernel25Ideal.main_arg28)
      ∧ m' ((c.tc : Thread Cert.Reference25Ideal.nD Cert.Reference25Ideal.τ).loc Cert.Reference25Ideal.main_arg29) = m ((c.tc : Thread Cert.Kernel25Ideal.nD Cert.Kernel25Ideal.τ).loc Cert.Kernel25Ideal.main_arg29)
      ∧ m' ((c.tc : Thread Cert.Reference25Ideal.nD Cert.Reference25Ideal.τ).loc Cert.Reference25Ideal.main_arg30) = m ((c.tc : Thread Cert.Kernel25Ideal.nD Cert.Kernel25Ideal.τ).loc Cert.Kernel25Ideal.main_arg30)
      ∧ m' ((c.tc : Thread Cert.Reference25Ideal.nD Cert.Reference25Ideal.τ).loc Cert.Reference25Ideal.main_arg31) = m ((c.tc : Thread Cert.Kernel25Ideal.nD Cert.Kernel25Ideal.τ).loc Cert.Kernel25Ideal.main_arg31)
      ∧ m' ((c.tc : Thread Cert.Reference25Ideal.nD Cert.Reference25Ideal.τ).loc Cert.Reference25Ideal.main_arg32) = m ((c.tc : Thread Cert.Kernel25Ideal.nD Cert.Kernel25Ideal.τ).loc Cert.Kernel25Ideal.main_arg32)
      ∧ m' ((c.tc : Thread Cert.Reference25Ideal.nD Cert.Reference25Ideal.τ).loc Cert.Reference25Ideal.main_arg33) = m ((c.tc : Thread Cert.Kernel25Ideal.nD Cert.Kernel25Ideal.τ).loc Cert.Kernel25Ideal.main_arg33)
      ∧ m' ((c.tc : Thread Cert.Reference25Ideal.nD Cert.Reference25Ideal.τ).loc Cert.Reference25Ideal.main_arg34) = m ((c.tc : Thread Cert.Kernel25Ideal.nD Cert.Kernel25Ideal.τ).loc Cert.Kernel25Ideal.main_arg34)
      ∧ m' ((c.tc : Thread Cert.Reference25Ideal.nD Cert.Reference25Ideal.τ).loc Cert.Reference25Ideal.main_arg35) = m ((c.tc : Thread Cert.Kernel25Ideal.nD Cert.Kernel25Ideal.τ).loc Cert.Kernel25Ideal.main_arg35)) →
    ∃ (v0 : (c : Dev Cert.Kernel25Ideal.nD) → Buf (Elt Ideal) ((c.tc : Thread Cert.Kernel25Ideal.nD Cert.Kernel25Ideal.τ).loc Cert.Kernel25Ideal.main_v123)) (v1 : (c : Dev Cert.Kernel25Ideal.nD) → Buf (Elt Ideal) ((c.tc : Thread Cert.Kernel25Ideal.nD Cert.Kernel25Ideal.τ).loc Cert.Kernel25Ideal.main_v126)) (v2 : (c : Dev Cert.Kernel25Ideal.nD) → Buf (Elt Ideal) ((c.tc : Thread Cert.Kernel25Ideal.nD Cert.Kernel25Ideal.τ).loc Cert.Kernel25Ideal.main_v130)) (v3 : (c : Dev Cert.Kernel25Ideal.nD) → Buf (Elt Ideal) ((c.tc : Thread Cert.Kernel25Ideal.nD Cert.Kernel25Ideal.τ).loc Cert.Kernel25Ideal.main_v134)) (v4 : (c : Dev Cert.Kernel25Ideal.nD) → Buf (Elt Ideal) ((c.tc : Thread Cert.Kernel25Ideal.nD Cert.Kernel25Ideal.τ).loc Cert.Kernel25Ideal.main_v137)) (v5 : (c : Dev Cert.Kernel25Ideal.nD) → Buf (Elt Ideal) ((c.tc : Thread Cert.Kernel25Ideal.nD Cert.Kernel25Ideal.τ).loc Cert.Kernel25Ideal.main_v149)) (v6 : (c : Dev Cert.Kernel25Ideal.nD) → Buf (Elt Ideal) ((c.tc : Thread Cert.Kernel25Ideal.nD Cert.Kernel25Ideal.τ).loc Cert.Kernel25Ideal.main_v140)) (v7 : (c : Dev Cert.Kernel25Ideal.nD) → Buf (Elt Ideal) ((c.tc : Thread Cert.Kernel25Ideal.nD Cert.Kernel25Ideal.τ).loc Cert.Kernel25Ideal.main_v143)) (v8 : (c : Dev Cert.Kernel25Ideal.nD) → Buf (Elt Ideal) ((c.tc : Thread Cert.Kernel25Ideal.nD Cert.Kernel25Ideal.τ).loc Cert.Kernel25Ideal.main_v145)) (v9 : (c : Dev Cert.Kernel25Ideal.nD) → Buf (Elt Ideal) ((c.tc : Thread Cert.Kernel25Ideal.nD Cert.Kernel25Ideal.τ).loc Cert.Kernel25Ideal.main_v152)) (v10 : (c : Dev Cert.Kernel25Ideal.nD) → Buf (Elt Ideal) ((c.tc : Thread Cert.Kernel25Ideal.nD Cert.Kernel25Ideal.τ).loc Cert.Kernel25Ideal.main_v155)) (v11 : (c : Dev Cert.Kernel25Ideal.nD) → Buf (Elt Ideal) ((c.tc : Thread Cert.Kernel25Ideal.nD Cert.Kernel25Ideal.τ).loc Cert.Kernel25Ideal.main_v159)) (v12 : (c : Dev Cert.Kernel25Ideal.nD) → Buf (Elt Ideal) ((c.tc : Thread Cert.Kernel25Ideal.nD Cert.Kernel25Ideal.τ).loc Cert.Kernel25Ideal.main_v163)) (v13 : (c : Dev Cert.Kernel25Ideal.nD) → Buf (Elt Ideal) ((c.tc : Thread Cert.Kernel25Ideal.nD Cert.Kernel25Ideal.τ).loc Cert.Kernel25Ideal.main_v166)) (v14 : (c : Dev Cert.Kernel25Ideal.nD) → Buf (Elt Ideal) ((c.tc : Thread Cert.Kernel25Ideal.nD Cert.Kernel25Ideal.τ).loc Cert.Kernel25Ideal.main_v178)) (v15 : (c : Dev Cert.Kernel25Ideal.nD) → Buf (Elt Ideal) ((c.tc : Thread Cert.Kernel25Ideal.nD Cert.Kernel25Ideal.τ).loc Cert.Kernel25Ideal.main_v169)) (v16 : (c : Dev Cert.Kernel25Ideal.nD) → Buf (Elt Ideal) ((c.tc : Thread Cert.Kernel25Ideal.nD Cert.Kernel25Ideal.τ).loc Cert.Kernel25Ideal.main_v172)) (v17 : (c : Dev Cert.Kernel25Ideal.nD) → Buf (Elt Ideal) ((c.tc : Thread Cert.Kernel25Ideal.nD Cert.Kernel25Ideal.τ).loc Cert.Kernel25Ideal.main_v174)) (v18 : (c : Dev Cert.Kernel25Ideal.nD) → Buf (Elt Ideal) ((c.tc : Thread Cert.Kernel25Ideal.nD Cert.Kernel25Ideal.τ).loc Cert.Kernel25Ideal.main_v181)) (v19 : (c : Dev Cert.Kernel25Ideal.nD) → Buf (Elt Ideal) ((c.tc : Thread Cert.Kernel25Ideal.nD Cert.Kernel25Ideal.τ).loc Cert.Kernel25Ideal.main_v184)) (v20 : (c : Dev Cert.Kernel25Ideal.nD) → Buf (Elt Ideal) ((c.tc : Thread Cert.Kernel25Ideal.nD Cert.Kernel25Ideal.τ).loc Cert.Kernel25Ideal.main_v188)) (v21 : (c : Dev Cert.Kernel25Ideal.nD) → Buf (Elt Ideal) ((c.tc : Thread Cert.Kernel25Ideal.nD Cert.Kernel25Ideal.τ).loc Cert.Kernel25Ideal.main_v192)) (v22 : (c : Dev Cert.Kernel25Ideal.nD) → Buf (Elt Ideal) ((c.tc : Thread Cert.Kernel25Ideal.nD Cert.Kernel25Ideal.τ).loc Cert.Kernel25Ideal.main_v195)) (v23 : (c : Dev Cert.Kernel25Ideal.nD) → Buf (Elt Ideal) ((c.tc : Thread Cert.Kernel25Ideal.nD Cert.Kernel25Ideal.τ).loc Cert.Kernel25Ideal.main_v207)) (v24 : (c : Dev Cert.Kernel25Ideal.nD) → Buf (Elt Ideal) ((c.tc : Thread Cert.Kernel25Ideal.nD Cert.Kernel25Ideal.τ).loc Cert.Kernel25Ideal.main_v198)) (v25 : (c : Dev Cert.Kernel25Ideal.nD) → Buf (Elt Ideal) ((c.tc : Thread Cert.Kernel25Ideal.nD Cert.Kernel25Ideal.τ).loc Cert.Kernel25Ideal.main_v201)) (v26 : (c : Dev Cert.Kernel25Ideal.nD) → Buf (Elt Ideal) ((c.tc : Thread Cert.Kernel25Ideal.nD Cert.Kernel25Ideal.τ).loc Cert.Kernel25Ideal.main_v203)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v123) = v0 c
          ∧ r.2.mem ((c.tc : Thread Cert.Kernel25Ideal.nD Cert.Kernel25Ideal.τ).loc Cert.Kernel25Ideal.main_v126) = v1 c
          ∧ r.2.mem ((c.tc : Thread Cert.Kernel25Ideal.nD Cert.Kernel25Ideal.τ).loc Cert.Kernel25Ideal.main_v130) = v2 c
          ∧ r.2.mem ((c.tc : Thread Cert.Kernel25Ideal.nD Cert.Kernel25Ideal.τ).loc Cert.Kernel25Ideal.main_v134) = v3 c
          ∧ r.2.mem ((c.tc : Thread Cert.Kernel25Ideal.nD Cert.Kernel25Ideal.τ).loc Cert.Kernel25Ideal.main_v137) = v4 c
          ∧ r.2.mem ((c.tc : Thread Cert.Kernel25Ideal.nD Cert.Kernel25Ideal.τ).loc Cert.Kernel25Ideal.main_v149) = v5 c
          ∧ r.2.mem ((c.tc : Thread Cert.Kernel25Ideal.nD Cert.Kernel25Ideal.τ).loc Cert.Kernel25Ideal.main_v140) = v6 c
          ∧ r.2.mem ((c.tc : Thread Cert.Kernel25Ideal.nD Cert.Kernel25Ideal.τ).loc Cert.Kernel25Ideal.main_v143) = v7 c
          ∧ r.2.mem ((c.tc : Thread Cert.Kernel25Ideal.nD Cert.Kernel25Ideal.τ).loc Cert.Kernel25Ideal.main_v145) = v8 c
          ∧ r.2.mem ((c.tc : Thread Cert.Kernel25Ideal.nD Cert.Kernel25Ideal.τ).loc Cert.Kernel25Ideal.main_v152) = v9 c
          ∧ r.2.mem ((c.tc : Thread Cert.Kernel25Ideal.nD Cert.Kernel25Ideal.τ).loc Cert.Kernel25Ideal.main_v155) = v10 c
          ∧ r.2.mem ((c.tc : Thread Cert.Kernel25Ideal.nD Cert.Kernel25Ideal.τ).loc Cert.Kernel25Ideal.main_v159) = v11 c
          ∧ r.2.mem ((c.tc : Thread Cert.Kernel25Ideal.nD Cert.Kernel25Ideal.τ).loc Cert.Kernel25Ideal.main_v163) = v12 c
          ∧ r.2.mem ((c.tc : Thread Cert.Kernel25Ideal.nD Cert.Kernel25Ideal.τ).loc Cert.Kernel25Ideal.main_v166) = v13 c
          ∧ r.2.mem ((c.tc : Thread Cert.Kernel25Ideal.nD Cert.Kernel25Ideal.τ).loc Cert.Kernel25Ideal.main_v178) = v14 c
          ∧ r.2.mem ((c.tc : Thread Cert.Kernel25Ideal.nD Cert.Kernel25Ideal.τ).loc Cert.Kernel25Ideal.main_v169) = v15 c
          ∧ r.2.mem ((c.tc : Thread Cert.Kernel25Ideal.nD Cert.Kernel25Ideal.τ).loc Cert.Kernel25Ideal.main_v172) = v16 c
          ∧ r.2.mem ((c.tc : Thread Cert.Kernel25Ideal.nD Cert.Kernel25Ideal.τ).loc Cert.Kernel25Ideal.main_v174) = v17 c
          ∧ r.2.mem ((c.tc : Thread Cert.Kernel25Ideal.nD Cert.Kernel25Ideal.τ).loc Cert.Kernel25Ideal.main_v181) = v18 c
          ∧ r.2.mem ((c.tc : Thread Cert.Kernel25Ideal.nD Cert.Kernel25Ideal.τ).loc Cert.Kernel25Ideal.main_v184) = v19 c
          ∧ r.2.mem ((c.tc : Thread Cert.Kernel25Ideal.nD Cert.Kernel25Ideal.τ).loc Cert.Kernel25Ideal.main_v188) = v20 c
          ∧ r.2.mem ((c.tc : Thread Cert.Kernel25Ideal.nD Cert.Kernel25Ideal.τ).loc Cert.Kernel25Ideal.main_v192) = v21 c
          ∧ r.2.mem ((c.tc : Thread Cert.Kernel25Ideal.nD Cert.Kernel25Ideal.τ).loc Cert.Kernel25Ideal.main_v195) = v22 c
          ∧ r.2.mem ((c.tc : Thread Cert.Kernel25Ideal.nD Cert.Kernel25Ideal.τ).loc Cert.Kernel25Ideal.main_v207) = v23 c
          ∧ r.2.mem ((c.tc : Thread Cert.Kernel25Ideal.nD Cert.Kernel25Ideal.τ).loc Cert.Kernel25Ideal.main_v198) = v24 c
          ∧ r.2.mem ((c.tc : Thread Cert.Kernel25Ideal.nD Cert.Kernel25Ideal.τ).loc Cert.Kernel25Ideal.main_v201) = v25 c
          ∧ r.2.mem ((c.tc : Thread Cert.Kernel25Ideal.nD Cert.Kernel25Ideal.τ).loc Cert.Kernel25Ideal.main_v203) = v26 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7)
          ∧ r.2.mem ((c.tc : Thread Cert.Kernel25Ideal.nD Cert.Kernel25Ideal.τ).loc Cert.Kernel25Ideal.main_arg8) = m ((c.tc : Thread Cert.Kernel25Ideal.nD Cert.Kernel25Ideal.τ).loc Cert.Kernel25Ideal.main_arg8)
          ∧ r.2.mem ((c.tc : Thread Cert.Kernel25Ideal.nD Cert.Kernel25Ideal.τ).loc Cert.Kernel25Ideal.main_arg9) = m ((c.tc : Thread Cert.Kernel25Ideal.nD Cert.Kernel25Ideal.τ).loc Cert.Kernel25Ideal.main_arg9)
          ∧ r.2.mem ((c.tc : Thread Cert.Kernel25Ideal.nD Cert.Kernel25Ideal.τ).loc Cert.Kernel25Ideal.main_arg10) = m ((c.tc : Thread Cert.Kernel25Ideal.nD Cert.Kernel25Ideal.τ).loc Cert.Kernel25Ideal.main_arg10)
          ∧ r.2.mem ((c.tc : Thread Cert.Kernel25Ideal.nD Cert.Kernel25Ideal.τ).loc Cert.Kernel25Ideal.main_arg11) = m ((c.tc : Thread Cert.Kernel25Ideal.nD Cert.Kernel25Ideal.τ).loc Cert.Kernel25Ideal.main_arg11)
          ∧ r.2.mem ((c.tc : Thread Cert.Kernel25Ideal.nD Cert.Kernel25Ideal.τ).loc Cert.Kernel25Ideal.main_arg12) = m ((c.tc : Thread Cert.Kernel25Ideal.nD Cert.Kernel25Ideal.τ).loc Cert.Kernel25Ideal.main_arg12)
          ∧ r.2.mem ((c.tc : Thread Cert.Kernel25Ideal.nD Cert.Kernel25Ideal.τ).loc Cert.Kernel25Ideal.main_arg13) = m ((c.tc : Thread Cert.Kernel25Ideal.nD Cert.Kernel25Ideal.τ).loc Cert.Kernel25Ideal.main_arg13)
          ∧ r.2.mem ((c.tc : Thread Cert.Kernel25Ideal.nD Cert.Kernel25Ideal.τ).loc Cert.Kernel25Ideal.main_arg14) = m ((c.tc : Thread Cert.Kernel25Ideal.nD Cert.Kernel25Ideal.τ).loc Cert.Kernel25Ideal.main_arg14)
          ∧ r.2.mem ((c.tc : Thread Cert.Kernel25Ideal.nD Cert.Kernel25Ideal.τ).loc Cert.Kernel25Ideal.main_arg15) = m ((c.tc : Thread Cert.Kernel25Ideal.nD Cert.Kernel25Ideal.τ).loc Cert.Kernel25Ideal.main_arg15)
          ∧ r.2.mem ((c.tc : Thread Cert.Kernel25Ideal.nD Cert.Kernel25Ideal.τ).loc Cert.Kernel25Ideal.main_arg16) = m ((c.tc : Thread Cert.Kernel25Ideal.nD Cert.Kernel25Ideal.τ).loc Cert.Kernel25Ideal.main_arg16)
          ∧ r.2.mem ((c.tc : Thread Cert.Kernel25Ideal.nD Cert.Kernel25Ideal.τ).loc Cert.Kernel25Ideal.main_arg17) = m ((c.tc : Thread Cert.Kernel25Ideal.nD Cert.Kernel25Ideal.τ).loc Cert.Kernel25Ideal.main_arg17)
          ∧ r.2.mem ((c.tc : Thread Cert.Kernel25Ideal.nD Cert.Kernel25Ideal.τ).loc Cert.Kernel25Ideal.main_arg18) = m ((c.tc : Thread Cert.Kernel25Ideal.nD Cert.Kernel25Ideal.τ).loc Cert.Kernel25Ideal.main_arg18)
          ∧ r.2.mem ((c.tc : Thread Cert.Kernel25Ideal.nD Cert.Kernel25Ideal.τ).loc Cert.Kernel25Ideal.main_arg19) = m ((c.tc : Thread Cert.Kernel25Ideal.nD Cert.Kernel25Ideal.τ).loc Cert.Kernel25Ideal.main_arg19)
          ∧ r.2.mem ((c.tc : Thread Cert.Kernel25Ideal.nD Cert.Kernel25Ideal.τ).loc Cert.Kernel25Ideal.main_arg20) = m ((c.tc : Thread Cert.Kernel25Ideal.nD Cert.Kernel25Ideal.τ).loc Cert.Kernel25Ideal.main_arg20)
          ∧ r.2.mem ((c.tc : Thread Cert.Kernel25Ideal.nD Cert.Kernel25Ideal.τ).loc Cert.Kernel25Ideal.main_arg21) = m ((c.tc : Thread Cert.Kernel25Ideal.nD Cert.Kernel25Ideal.τ).loc Cert.Kernel25Ideal.main_arg21)
          ∧ r.2.mem ((c.tc : Thread Cert.Kernel25Ideal.nD Cert.Kernel25Ideal.τ).loc Cert.Kernel25Ideal.main_arg22) = m ((c.tc : Thread Cert.Kernel25Ideal.nD Cert.Kernel25Ideal.τ).loc Cert.Kernel25Ideal.main_arg22)
          ∧ r.2.mem ((c.tc : Thread Cert.Kernel25Ideal.nD Cert.Kernel25Ideal.τ).loc Cert.Kernel25Ideal.main_arg23) = m ((c.tc : Thread Cert.Kernel25Ideal.nD Cert.Kernel25Ideal.τ).loc Cert.Kernel25Ideal.main_arg23)
          ∧ r.2.mem ((c.tc : Thread Cert.Kernel25Ideal.nD Cert.Kernel25Ideal.τ).loc Cert.Kernel25Ideal.main_arg24) = m ((c.tc : Thread Cert.Kernel25Ideal.nD Cert.Kernel25Ideal.τ).loc Cert.Kernel25Ideal.main_arg24)
          ∧ r.2.mem ((c.tc : Thread Cert.Kernel25Ideal.nD Cert.Kernel25Ideal.τ).loc Cert.Kernel25Ideal.main_arg25) = m ((c.tc : Thread Cert.Kernel25Ideal.nD Cert.Kernel25Ideal.τ).loc Cert.Kernel25Ideal.main_arg25)
          ∧ r.2.mem ((c.tc : Thread Cert.Kernel25Ideal.nD Cert.Kernel25Ideal.τ).loc Cert.Kernel25Ideal.main_arg26) = m ((c.tc : Thread Cert.Kernel25Ideal.nD Cert.Kernel25Ideal.τ).loc Cert.Kernel25Ideal.main_arg26)
          ∧ r.2.mem ((c.tc : Thread Cert.Kernel25Ideal.nD Cert.Kernel25Ideal.τ).loc Cert.Kernel25Ideal.main_arg27) = m ((c.tc : Thread Cert.Kernel25Ideal.nD Cert.Kernel25Ideal.τ).loc Cert.Kernel25Ideal.main_arg27)
          ∧ r.2.mem ((c.tc : Thread Cert.Kernel25Ideal.nD Cert.Kernel25Ideal.τ).loc Cert.Kernel25Ideal.main_arg28) = m ((c.tc : Thread Cert.Kernel25Ideal.nD Cert.Kernel25Ideal.τ).loc Cert.Kernel25Ideal.main_arg28)
          ∧ r.2.mem ((c.tc : Thread Cert.Kernel25Ideal.nD Cert.Kernel25Ideal.τ).loc Cert.Kernel25Ideal.main_arg29) = m ((c.tc : Thread Cert.Kernel25Ideal.nD Cert.Kernel25Ideal.τ).loc Cert.Kernel25Ideal.main_arg29)
          ∧ r.2.mem ((c.tc : Thread Cert.Kernel25Ideal.nD Cert.Kernel25Ideal.τ).loc Cert.Kernel25Ideal.main_arg30) = m ((c.tc : Thread Cert.Kernel25Ideal.nD Cert.Kernel25Ideal.τ).loc Cert.Kernel25Ideal.main_arg30)
          ∧ r.2.mem ((c.tc : Thread Cert.Kernel25Ideal.nD Cert.Kernel25Ideal.τ).loc Cert.Kernel25Ideal.main_arg31) = m ((c.tc : Thread Cert.Kernel25Ideal.nD Cert.Kernel25Ideal.τ).loc Cert.Kernel25Ideal.main_arg31)
          ∧ r.2.mem ((c.tc : Thread Cert.Kernel25Ideal.nD Cert.Kernel25Ideal.τ).loc Cert.Kernel25Ideal.main_arg32) = m ((c.tc : Thread Cert.Kernel25Ideal.nD Cert.Kernel25Ideal.τ).loc Cert.Kernel25Ideal.main_arg32)
          ∧ r.2.mem ((c.tc : Thread Cert.Kernel25Ideal.nD Cert.Kernel25Ideal.τ).loc Cert.Kernel25Ideal.main_arg33) = m ((c.tc : Thread Cert.Kernel25Ideal.nD Cert.Kernel25Ideal.τ).loc Cert.Kernel25Ideal.main_arg33)
          ∧ r.2.mem ((c.tc : Thread Cert.Kernel25Ideal.nD Cert.Kernel25Ideal.τ).loc Cert.Kernel25Ideal.main_arg34) = m ((c.tc : Thread Cert.Kernel25Ideal.nD Cert.Kernel25Ideal.τ).loc Cert.Kernel25Ideal.main_arg34)
          ∧ r.2.mem ((c.tc : Thread Cert.Kernel25Ideal.nD Cert.Kernel25Ideal.τ).loc Cert.Kernel25Ideal.main_arg35) = m ((c.tc : Thread Cert.Kernel25Ideal.nD Cert.Kernel25Ideal.τ).loc Cert.Kernel25Ideal.main_arg35))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v47) = v1 c
          ∧ r.2.mem ((c.tc : Thread Cert.Reference25Ideal.nD Cert.Reference25Ideal.τ).loc Cert.Reference25Ideal.main_v71) = v2 c
          ∧ r.2.mem ((c.tc : Thread Cert.Reference25Ideal.nD Cert.Reference25Ideal.τ).loc Cert.Reference25Ideal.main_v95) = v3 c
          ∧ r.2.mem ((c.tc : Thread Cert.Reference25Ideal.nD Cert.Reference25Ideal.τ).loc Cert.Reference25Ideal.main_v119) = v4 c
          ∧ r.2.mem ((c.tc : Thread Cert.Reference25Ideal.nD Cert.Reference25Ideal.τ).loc Cert.Reference25Ideal.main_v143) = v5 c
          ∧ r.2.mem ((c.tc : Thread Cert.Reference25Ideal.nD Cert.Reference25Ideal.τ).loc Cert.Reference25Ideal.main_v167) = v6 c
          ∧ r.2.mem ((c.tc : Thread Cert.Reference25Ideal.nD Cert.Reference25Ideal.τ).loc Cert.Reference25Ideal.main_v191) = v7 c
          ∧ r.2.mem ((c.tc : Thread Cert.Reference25Ideal.nD Cert.Reference25Ideal.τ).loc Cert.Reference25Ideal.main_v215) = v8 c
          ∧ r.2.mem ((c.tc : Thread Cert.Reference25Ideal.nD Cert.Reference25Ideal.τ).loc Cert.Reference25Ideal.main_v4) = v9 c
          ∧ r.2.mem ((c.tc : Thread Cert.Reference25Ideal.nD Cert.Reference25Ideal.τ).loc Cert.Reference25Ideal.main_v28) = v10 c
          ∧ r.2.mem ((c.tc : Thread Cert.Reference25Ideal.nD Cert.Reference25Ideal.τ).loc Cert.Reference25Ideal.main_v52) = v11 c
          ∧ r.2.mem ((c.tc : Thread Cert.Reference25Ideal.nD Cert.Reference25Ideal.τ).loc Cert.Reference25Ideal.main_v76) = v12 c
          ∧ r.2.mem ((c.tc : Thread Cert.Reference25Ideal.nD Cert.Reference25Ideal.τ).loc Cert.Reference25Ideal.main_v100) = v13 c
          ∧ r.2.mem ((c.tc : Thread Cert.Reference25Ideal.nD Cert.Reference25Ideal.τ).loc Cert.Reference25Ideal.main_v124) = v14 c
          ∧ r.2.mem ((c.tc : Thread Cert.Reference25Ideal.nD Cert.Reference25Ideal.τ).loc Cert.Reference25Ideal.main_v148) = v15 c
          ∧ r.2.mem ((c.tc : Thread Cert.Reference25Ideal.nD Cert.Reference25Ideal.τ).loc Cert.Reference25Ideal.main_v172) = v16 c
          ∧ r.2.mem ((c.tc : Thread Cert.Reference25Ideal.nD Cert.Reference25Ideal.τ).loc Cert.Reference25Ideal.main_v196) = v17 c
          ∧ r.2.mem ((c.tc : Thread Cert.Reference25Ideal.nD Cert.Reference25Ideal.τ).loc Cert.Reference25Ideal.main_v10) = v18 c
          ∧ r.2.mem ((c.tc : Thread Cert.Reference25Ideal.nD Cert.Reference25Ideal.τ).loc Cert.Reference25Ideal.main_v34) = v19 c
          ∧ r.2.mem ((c.tc : Thread Cert.Reference25Ideal.nD Cert.Reference25Ideal.τ).loc Cert.Reference25Ideal.main_v58) = v20 c
          ∧ r.2.mem ((c.tc : Thread Cert.Reference25Ideal.nD Cert.Reference25Ideal.τ).loc Cert.Reference25Ideal.main_v82) = v21 c
          ∧ r.2.mem ((c.tc : Thread Cert.Reference25Ideal.nD Cert.Reference25Ideal.τ).loc Cert.Reference25Ideal.main_v106) = v22 c
          ∧ r.2.mem ((c.tc : Thread Cert.Reference25Ideal.nD Cert.Reference25Ideal.τ).loc Cert.Reference25Ideal.main_v130) = v23 c
          ∧ r.2.mem ((c.tc : Thread Cert.Reference25Ideal.nD Cert.Reference25Ideal.τ).loc Cert.Reference25Ideal.main_v154) = v24 c
          ∧ r.2.mem ((c.tc : Thread Cert.Reference25Ideal.nD Cert.Reference25Ideal.τ).loc Cert.Reference25Ideal.main_v178) = v25 c
          ∧ r.2.mem ((c.tc : Thread Cert.Reference25Ideal.nD Cert.Reference25Ideal.τ).loc Cert.Reference25Ideal.main_v202) = v26 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7)
          ∧ r.2.mem ((c.tc : Thread Cert.Reference25Ideal.nD Cert.Reference25Ideal.τ).loc Cert.Reference25Ideal.main_arg8) = m' ((c.tc : Thread Cert.Reference25Ideal.nD Cert.Reference25Ideal.τ).loc Cert.Reference25Ideal.main_arg8)
          ∧ r.2.mem ((c.tc : Thread Cert.Reference25Ideal.nD Cert.Reference25Ideal.τ).loc Cert.Reference25Ideal.main_arg9) = m' ((c.tc : Thread Cert.Reference25Ideal.nD Cert.Reference25Ideal.τ).loc Cert.Reference25Ideal.main_arg9)
          ∧ r.2.mem ((c.tc : Thread Cert.Reference25Ideal.nD Cert.Reference25Ideal.τ).loc Cert.Reference25Ideal.main_arg10) = m' ((c.tc : Thread Cert.Reference25Ideal.nD Cert.Reference25Ideal.τ).loc Cert.Reference25Ideal.main_arg10)
          ∧ r.2.mem ((c.tc : Thread Cert.Reference25Ideal.nD Cert.Reference25Ideal.τ).loc Cert.Reference25Ideal.main_arg11) = m' ((c.tc : Thread Cert.Reference25Ideal.nD Cert.Reference25Ideal.τ).loc Cert.Reference25Ideal.main_arg11)
          ∧ r.2.mem ((c.tc : Thread Cert.Reference25Ideal.nD Cert.Reference25Ideal.τ).loc Cert.Reference25Ideal.main_arg12) = m' ((c.tc : Thread Cert.Reference25Ideal.nD Cert.Reference25Ideal.τ).loc Cert.Reference25Ideal.main_arg12)
          ∧ r.2.mem ((c.tc : Thread Cert.Reference25Ideal.nD Cert.Reference25Ideal.τ).loc Cert.Reference25Ideal.main_arg13) = m' ((c.tc : Thread Cert.Reference25Ideal.nD Cert.Reference25Ideal.τ).loc Cert.Reference25Ideal.main_arg13)
          ∧ r.2.mem ((c.tc : Thread Cert.Reference25Ideal.nD Cert.Reference25Ideal.τ).loc Cert.Reference25Ideal.main_arg14) = m' ((c.tc : Thread Cert.Reference25Ideal.nD Cert.Reference25Ideal.τ).loc Cert.Reference25Ideal.main_arg14)
          ∧ r.2.mem ((c.tc : Thread Cert.Reference25Ideal.nD Cert.Reference25Ideal.τ).loc Cert.Reference25Ideal.main_arg15) = m' ((c.tc : Thread Cert.Reference25Ideal.nD Cert.Reference25Ideal.τ).loc Cert.Reference25Ideal.main_arg15)
          ∧ r.2.mem ((c.tc : Thread Cert.Reference25Ideal.nD Cert.Reference25Ideal.τ).loc Cert.Reference25Ideal.main_arg16) = m' ((c.tc : Thread Cert.Reference25Ideal.nD Cert.Reference25Ideal.τ).loc Cert.Reference25Ideal.main_arg16)
          ∧ r.2.mem ((c.tc : Thread Cert.Reference25Ideal.nD Cert.Reference25Ideal.τ).loc Cert.Reference25Ideal.main_arg17) = m' ((c.tc : Thread Cert.Reference25Ideal.nD Cert.Reference25Ideal.τ).loc Cert.Reference25Ideal.main_arg17)
          ∧ r.2.mem ((c.tc : Thread Cert.Reference25Ideal.nD Cert.Reference25Ideal.τ).loc Cert.Reference25Ideal.main_arg18) = m' ((c.tc : Thread Cert.Reference25Ideal.nD Cert.Reference25Ideal.τ).loc Cert.Reference25Ideal.main_arg18)
          ∧ r.2.mem ((c.tc : Thread Cert.Reference25Ideal.nD Cert.Reference25Ideal.τ).loc Cert.Reference25Ideal.main_arg19) = m' ((c.tc : Thread Cert.Reference25Ideal.nD Cert.Reference25Ideal.τ).loc Cert.Reference25Ideal.main_arg19)
          ∧ r.2.mem ((c.tc : Thread Cert.Reference25Ideal.nD Cert.Reference25Ideal.τ).loc Cert.Reference25Ideal.main_arg20) = m' ((c.tc : Thread Cert.Reference25Ideal.nD Cert.Reference25Ideal.τ).loc Cert.Reference25Ideal.main_arg20)
          ∧ r.2.mem ((c.tc : Thread Cert.Reference25Ideal.nD Cert.Reference25Ideal.τ).loc Cert.Reference25Ideal.main_arg21) = m' ((c.tc : Thread Cert.Reference25Ideal.nD Cert.Reference25Ideal.τ).loc Cert.Reference25Ideal.main_arg21)
          ∧ r.2.mem ((c.tc : Thread Cert.Reference25Ideal.nD Cert.Reference25Ideal.τ).loc Cert.Reference25Ideal.main_arg22) = m' ((c.tc : Thread Cert.Reference25Ideal.nD Cert.Reference25Ideal.τ).loc Cert.Reference25Ideal.main_arg22)
          ∧ r.2.mem ((c.tc : Thread Cert.Reference25Ideal.nD Cert.Reference25Ideal.τ).loc Cert.Reference25Ideal.main_arg23) = m' ((c.tc : Thread Cert.Reference25Ideal.nD Cert.Reference25Ideal.τ).loc Cert.Reference25Ideal.main_arg23)
          ∧ r.2.mem ((c.tc : Thread Cert.Reference25Ideal.nD Cert.Reference25Ideal.τ).loc Cert.Reference25Ideal.main_arg24) = m' ((c.tc : Thread Cert.Reference25Ideal.nD Cert.Reference25Ideal.τ).loc Cert.Reference25Ideal.main_arg24)
          ∧ r.2.mem ((c.tc : Thread Cert.Reference25Ideal.nD Cert.Reference25Ideal.τ).loc Cert.Reference25Ideal.main_arg25) = m' ((c.tc : Thread Cert.Reference25Ideal.nD Cert.Reference25Ideal.τ).loc Cert.Reference25Ideal.main_arg25)
          ∧ r.2.mem ((c.tc : Thread Cert.Reference25Ideal.nD Cert.Reference25Ideal.τ).loc Cert.Reference25Ideal.main_arg26) = m' ((c.tc : Thread Cert.Reference25Ideal.nD Cert.Reference25Ideal.τ).loc Cert.Reference25Ideal.main_arg26)
          ∧ r.2.mem ((c.tc : Thread Cert.Reference25Ideal.nD Cert.Reference25Ideal.τ).loc Cert.Reference25Ideal.main_arg27) = m' ((c.tc : Thread Cert.Reference25Ideal.nD Cert.Reference25Ideal.τ).loc Cert.Reference25Ideal.main_arg27)
          ∧ r.2.mem ((c.tc : Thread Cert.Reference25Ideal.nD Cert.Reference25Ideal.τ).loc Cert.Reference25Ideal.main_arg28) = m' ((c.tc : Thread Cert.Reference25Ideal.nD Cert.Reference25Ideal.τ).loc Cert.Reference25Ideal.main_arg28)
          ∧ r.2.mem ((c.tc : Thread Cert.Reference25Ideal.nD Cert.Reference25Ideal.τ).loc Cert.Reference25Ideal.main_arg29) = m' ((c.tc : Thread Cert.Reference25Ideal.nD Cert.Reference25Ideal.τ).loc Cert.Reference25Ideal.main_arg29)
          ∧ r.2.mem ((c.tc : Thread Cert.Reference25Ideal.nD Cert.Reference25Ideal.τ).loc Cert.Reference25Ideal.main_arg30) = m' ((c.tc : Thread Cert.Reference25Ideal.nD Cert.Reference25Ideal.τ).loc Cert.Reference25Ideal.main_arg30)
          ∧ r.2.mem ((c.tc : Thread Cert.Reference25Ideal.nD Cert.Reference25Ideal.τ).loc Cert.Reference25Ideal.main_arg31) = m' ((c.tc : Thread Cert.Reference25Ideal.nD Cert.Reference25Ideal.τ).loc Cert.Reference25Ideal.main_arg31)
          ∧ r.2.mem ((c.tc : Thread Cert.Reference25Ideal.nD Cert.Reference25Ideal.τ).loc Cert.Reference25Ideal.main_arg32) = m' ((c.tc : Thread Cert.Reference25Ideal.nD Cert.Reference25Ideal.τ).loc Cert.Reference25Ideal.main_arg32)
          ∧ r.2.mem ((c.tc : Thread Cert.Reference25Ideal.nD Cert.Reference25Ideal.τ).loc Cert.Reference25Ideal.main_arg33) = m' ((c.tc : Thread Cert.Reference25Ideal.nD Cert.Reference25Ideal.τ).loc Cert.Reference25Ideal.main_arg33)
          ∧ r.2.mem ((c.tc : Thread Cert.Reference25Ideal.nD Cert.Reference25Ideal.τ).loc Cert.Reference25Ideal.main_arg34) = m' ((c.tc : Thread Cert.Reference25Ideal.nD Cert.Reference25Ideal.τ).loc Cert.Reference25Ideal.main_arg34)
          ∧ r.2.mem ((c.tc : Thread Cert.Reference25Ideal.nD Cert.Reference25Ideal.τ).loc Cert.Reference25Ideal.main_arg35) = m' ((c.tc : Thread Cert.Reference25Ideal.nD Cert.Reference25Ideal.τ).loc Cert.Reference25Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite_scores.lean ====
abbrev S4096x7168 : Shape := ⟨2, ![4096, 7168]⟩
abbrev S8x257 : Shape := ⟨2, ![8, 257]⟩
abbrev S4096x2048 : Shape := ⟨2, ![4096, 2048]⟩
abbrev S_ : Shape := ⟨0, ![]⟩

class Facts : Prop where
  slices_S4096x7168_S4096x2048_0_4096 : S4096x7168.Slices ![0, 4096] S4096x2048
  bcast_S_S4096x2048 : S_.BroadcastsInDim S4096x2048 (![] : Fin 0 → Fin S4096x2048.rank)
  bcast_S_S8x257 : S_.BroadcastsInDim S8x257 (![] : Fin 0 → Fin S8x257.rank)

variable [Facts]

def fn {F : FTy → Type} [FloatOps F] (main_arg0 : FVec F S4096x7168 .f32) (main_arg1 : FVec F S8x257 .f32) (main_arg2 : FVec F S4096x2048 .f32) (main_arg3 : FVec F S4096x7168 .bf16) : IVec S4096x2048 1 × IVec S8x257 1 :=
  let main_v0 : FVec F S4096x2048 .f32 := (extractStridedSlice S4096x2048 ![0, 4096] · slices_S4096x7168_S4096x2048_0_4096) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S4096x7168 : Shape := ⟨2, ![4096, 7168]⟩
abbrev S8x257 : Shape := ⟨2, ![8, 257]⟩
abbrev S4096x2048 : Shape := ⟨2, ![4096, 2048]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S8x256x768 : Shape := ⟨3, ![8, 256, 768]⟩
abbrev S4096x1024 : Shape := ⟨2, ![4096, 1024]⟩
abbrev S256x256 : Shape := ⟨2, ![256, 256]⟩
abbrev S4096x256 : Shape := ⟨2, ![4096, 256]⟩
abbrev S2x256x768 : Shape := ⟨3, ![2, 256, 768]⟩
abbrev S4608x256 : Shape := ⟨2, ![4608, 256]⟩
abbrev S512x256 : Shape := ⟨2, ![512, 256]⟩
abbrev S256x128 : Shape := ⟨2, ![256, 128]⟩
abbrev S768x128 : Shape := ⟨2, ![768, 128]⟩
abbrev S1x256x768 : Shape := ⟨3, ![1, 256, 768]⟩

abbrev nBuf : Space → Nat
  | .hbm => 76
  | .vmem => 22
  | .smem => 0
  | _ => 0

abbrev bufTy : (tb : Table) → Fin (tcTables nBuf tb) → BufTy
  | .hbm, ⟨0, _⟩ => ⟨S4096x7168, .f32⟩
  | .hbm, ⟨1, _⟩ => ⟨S8x257, .f32⟩
  | .hbm, ⟨2, _⟩ => ⟨S4096x2048, .f32⟩
  | .hbm, ⟨3, _⟩ => ⟨S4096x7168, .bf16⟩
  | .hbm, ⟨4, _⟩ => ⟨S256, .i32⟩
  | .hbm, ⟨5, _⟩ => ⟨S256x1, .i32⟩
  | .hbm, ⟨6, _⟩ => ⟨S768, .i32⟩
  | .hbm, ⟨7, _⟩ => ⟨S1x768, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x768, .i32⟩
  | .hbm, ⟨12, _⟩ => ⟨S256x768, .i32⟩
  | .hbm, ⟨13, _⟩ => ⟨S256x768, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S256x768, .i32⟩
  | .hbm, ⟨18, _⟩ => ⟨S256x768, .i32⟩
  | .hbm, ⟨19, _⟩ => ⟨S_, .i32⟩
  | .hbm, ⟨20, _⟩ => ⟨S256x768, .i32⟩
  | .hbm, ⟨21, _⟩ => ⟨S256x768, .i32⟩
  | .hbm, ⟨22, _⟩ => ⟨S_, .i32⟩
  | .hbm, ⟨23, _⟩ => ⟨S256x768, .i32⟩
  | .hbm, ⟨24, _⟩ => ⟨S256x768, .i32⟩
  | .hbm, ⟨25, _⟩ => ⟨S_, .i32⟩
  | .hbm, ⟨26, _⟩ => ⟨S256x768, .i32⟩
  | .hbm, ⟨27, _⟩ => ⟨S256x768, .i1⟩
  | .hbm, ⟨28, _⟩ => ⟨S_, .i32⟩
  | .hbm, ⟨29, _⟩ => ⟨S256x768, .i32⟩
  | .hbm, ⟨30, _⟩ => ⟨S256x768, .i32⟩
  | .hbm, ⟨31, _⟩ => ⟨S256x768, .i32⟩
  | .hbm, ⟨32, _⟩ => ⟨S256x768x1, .i32⟩
  | .hbm, ⟨33, _⟩ => ⟨S8x256x768, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S_, .i32⟩
  | .hbm, ⟨46, _⟩ => ⟨S256x1, .i32⟩
  | .hbm, ⟨47, _⟩ => ⟨S256x1, .i1⟩
  | .hbm, ⟨48, _⟩ => ⟨S_, .i32⟩
  | .hbm, ⟨49, _⟩ => ⟨S_, .i1⟩
  | .hbm, ⟨50, _⟩ => ⟨S256x1, .i1⟩
  | .hbm, ⟨51, _⟩ => ⟨S256x1, .i1⟩
  | .hbm, ⟨52, _⟩ => ⟨S256x1, .i1⟩
  | .hbm, ⟨53, _⟩ => ⟨S256x1, .i32⟩
  | .hbm, ⟨54, _⟩ => ⟨S256x1, .i32⟩
  | .hbm, ⟨55, _⟩ => ⟨S256x1, .i32⟩
  | .hbm, ⟨56, _⟩ => ⟨S256x1, .i32⟩
  | .hbm, ⟨57, _⟩ => ⟨S256x768, .i32⟩
  | .hbm, ⟨58, _⟩ => ⟨S256x768, .i32⟩
  | .hbm, ⟨59, _⟩ => ⟨S256x768, .i1⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x768, .i32⟩
  | .hbm, ⟨64, _⟩ => ⟨S256x768, .i32⟩
  | .hbm, ⟨65, _⟩ => ⟨S256x768, .i1⟩
  | .hbm, ⟨66, _⟩ => ⟨S256x768, .i1⟩
  | .hbm, ⟨67, _⟩ => ⟨S_, .f32⟩
  | .hbm, ⟨68, _⟩ => ⟨S_, .f32⟩
  | .hbm, ⟨69, _⟩ => ⟨S8x256x768, .i1⟩
  | .hbm, ⟨70, _⟩ => ⟨S8x256x768, .f32⟩
  | .hbm, ⟨71, _⟩ => ⟨S8x256x768, .f32⟩
  | .hbm, ⟨72, _⟩ => ⟨S4096x7168, .bf16⟩
  | .hbm, ⟨73, _⟩ => ⟨S4096x1024, .bf16⟩
  | .hbm, ⟨74, _⟩ => ⟨S4096x1024, .bf16⟩
  | .hbm, ⟨75, _⟩ => ⟨S8x256x768, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2x256x768, .f32⟩
  | .local _ .vmem, ⟨7, _⟩ => ⟨S2x256x768, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S2x256x768, .f32⟩
  | .local _ .vmem, ⟨17, _⟩ => ⟨S2x256x768, .f32⟩
  | .local _ .vmem, ⟨18, _⟩ => ⟨S4608x256, .bf16⟩
  | .local _ .vmem, ⟨19, _⟩ => ⟨S4608x256, .bf16⟩
  | .local _ .vmem, ⟨20, _⟩ => ⟨S4608x256, .f32⟩
  | .local _ .vmem, ⟨21, _⟩ => ⟨S4608x256, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v30 : Ref sig .tc := ⟨.hbm, 71, rfl⟩
abbrev main_v31_0 : Ref sig .tc := ⟨.hbm, 72, rfl⟩
abbrev main_v31_1 : Ref sig .tc := ⟨.hbm, 73, rfl⟩
abbrev main_v31_2 : Ref sig .tc := ⟨.hbm, 74, rfl⟩
abbrev main_v31_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v7 : BitVec 32 := Scalar.muli arg1 c256_i32
  v7
def k0_off1 (i : grid0.Coords) : Fin 2 → Nat :=
  let arg1 : BitVec 32 := BitVec.ofNat 32 (i 1).val
  let c256_i32 : BitVec 32 := 256#32
  let v7 : BitVec 32 := Scalar.muli arg1 c256_i32
  let v8 : BitVec 32 := v7
  let v9 : Index := Scalar.indexCast v8
  let c0_2 : Index := 0#32
  ![v9.toNat, 0]
def k0_mult2 (i : grid0.Coords) : BitVec 32 :=
  let arg1 : BitVec 32 := BitVec.ofNat 32 (i 1).val
  let c256_i32_35 : BitVec 32 := 256#32
  let v77 : BitVec 32 := Scalar.muli arg1 c256_i32_35
  v77
def k0_off2 (i : grid0.Coords) : Fin 2 → Nat :=
  let arg1 : BitVec 32 := BitVec.ofNat 32 (i 1).val
  let c256_i32_35 : BitVec 32 := 256#32
  let v77 : BitVec 32 := Scalar.muli arg1 c256_i32_35
  let v78 : BitVec 32 := v77
  let v79 : Index := Scalar.indexCast v78
  let c128_36 : Index := 128#32
  ![v79.toNat, 128]
def k0_cond2 (i : grid0.Coords) : BitVec 1 :=
  let arg1 : BitVec 32 := BitVec.ofNat 32 (i 1).val
  let c15_i32 : BitVec 32 := 15#32
  let v143 : BitVec 1 := Scalar.cmpi .eq arg1 c15_i32
  let v144 : BitVec 32 := Scalar.extui v143
  let c0_i32_67 : BitVec 32 := 0#32
  let v145 : BitVec 1 := Scalar.cmpi .ne v144 c0_i32_67
  v145

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "masked" => some ⊥
  | _ => none
-- ==== ReferenceIdeal.lean ====
abbrev S4096x7168 : Shape := ⟨2, ![4096, 7168]⟩
abbrev S8x257 : Shape := ⟨2, ![8, 257]⟩
abbrev S4096x2048 : Shape := ⟨2, ![4096, 2048]⟩
abbrev S4096x1024 : Shape := ⟨2, ![4096, 1024]⟩
abbrev S4096x8x128 : Shape := ⟨3, ![4096, 8, 128]⟩
abbrev S8x4096x128 : Shape := ⟨3, ![8, 4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S8x4096x4096 : Shape := ⟨3, ![8, 4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩

abbrev nBuf : Space → Nat
  | .hbm => 163
  | .vmem => 0
  | .smem => 0
  | _ => 0

abbrev hbmTy0_0 (i : Nat) : BufTy := match i % 128 with
  | 0 => ⟨S4096x7168, .f32⟩
  | 1 => ⟨S8x257, .f32⟩
  | 2 => ⟨S4096x2048, .f32⟩
  | 3 => ⟨S4096x7168, .bf16⟩
  | 4 => ⟨S4096x1024, .f32⟩
  | 5 => ⟨S4096x1024, .f32⟩
  | 6 => ⟨S4096x1024, .f32⟩
  | 7 => ⟨S4096x8x128, .f32⟩
  | 8 => ⟨S8x4096x128, .f32⟩
  | 9 => ⟨S_, .f32⟩
  | 10 => ⟨S8x4096x128, .f32⟩
  | 11 => ⟨S8x4096x128, .f32⟩
  | 12 => ⟨S4096x8x128, .f32⟩
  | 13 => ⟨S8x4096x128, .f32⟩
  | 14 => ⟨S4096x8x128, .f32⟩
  | 15 => ⟨S8x4096x128, .f32⟩
  | 16 => ⟨S4096, .i32⟩
  | 17 => ⟨S4096x1, .i32⟩
  | 18 => ⟨S1x4096, .i32⟩
  | 19 => ⟨S4096x4096, .i32⟩
  | 20 => ⟨S4096x4096, .i32⟩
  | 21 => ⟨S4096x4096, .i32⟩
  | 22 => ⟨S_, .i32⟩
  | 23 => ⟨S_, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S_, .i32⟩
  | 31 => ⟨S4096x4096, .i32⟩
  | 32 => ⟨S4096x4096, .i32⟩
  | 33 => ⟨S_, .i32⟩
  | 34 => ⟨S4096x4096, .i32⟩
  | 35 => ⟨S4096x4096, .i1⟩
  | 36 => ⟨S_, .i32⟩
  | 37 => ⟨S4096x4096, .i32⟩
  | 38 => ⟨S4096x4096, .i32⟩
  | 39 => ⟨S4096x4096, .i32⟩
  | 40 => ⟨S4096x4096x1, .i32⟩
  | 41 => ⟨S8x4096x4096, .f32⟩
  | 42 => ⟨S_, .i32⟩
  | 43 => ⟨S_, .i32⟩
  | 44 => ⟨S4096, .i32⟩
  | 45 => ⟨S4096, .i32⟩
  | 46 => ⟨S4096, .i32⟩
  | 47 => ⟨S_, .i32⟩
  | 48 => ⟨S4096, .i32⟩
  | 49 => ⟨S4096, .i1⟩
  | 50 => ⟨S4096, .i32⟩
  | 51 => ⟨S4096, .i32⟩
  | 52 => ⟨S_, .i32⟩
  | 53 => ⟨S4096, .i32⟩
  | 54 => ⟨S4096, .i1⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1x4096, .i32⟩
  | 62 => ⟨S4096x4096, .i32⟩
  | 63 => ⟨S4096x4096, .i32⟩
  | 64 => ⟨S4096x4096, .i32⟩
  | 65 => ⟨S_, .i32⟩
  | 66 => ⟨S4096x4096, .i32⟩
  | 67 => ⟨S4096x4096, .i1⟩
  | 68 => ⟨S_, .i32⟩
  | 69 => ⟨S4096x4096, .i32⟩
  | 70 => ⟨S4096x4096, .i1⟩
  | 71 => ⟨S4096x4096, .i1⟩
  | 72 => ⟨S8x4096x4096, .f32⟩
  | 73 => ⟨S8x4096x4096, .f32⟩
  | 74 => ⟨S1x4096x4096, .i1⟩
  | 75 => ⟨S_, .f32⟩
  | 76 => ⟨S_, .f32⟩
  | 77 => ⟨S8x4096x4096, .i1⟩
  | 78 => ⟨S8x4096x4096, .f32⟩
  | 79 => ⟨S8x4096x4096, .f32⟩
  | 80 => ⟨S_, .f32⟩
  | 81 => ⟨S8x4096x4096, .f32⟩
  | 82 => ⟨S_, .f32⟩
  | 83 => ⟨S8x4096, .f32⟩
  | 84 => ⟨S8x4096x1, .f32⟩
  | 85 => ⟨S8x4096x4096, .f32⟩
  | 86 => ⟨S8x4096x4096, .i1⟩
  | 87 => ⟨S8x4096x4096, .f32⟩
  | 88 => ⟨S_, .f32⟩
  | 89 => ⟨S8x4096, .f32⟩
  | 90 => ⟨S_, .f32⟩
  | 91 => ⟨S8x4096, .f32⟩
  | 92 => ⟨S8x4096, .f32⟩
  | 93 => ⟨S_, .f32⟩
  | 94 => ⟨S8x4096, .f32⟩
  | 95 => ⟨S8x4096, .i1⟩
  | 96 => ⟨S_, .f32⟩
  | 97 => ⟨S8x4096, .f32⟩
  | 98 => ⟨S8x4096, .i1⟩
  | 99 => ⟨S_, .f32⟩
  | 100 => ⟨S8x4096, .f32⟩
  | 101 => ⟨S_, .f32⟩
  | 102 => ⟨S8x4096, .f32⟩
  | 103 => ⟨S_, .f32⟩
  | 104 => ⟨S8x4096, .f32⟩
  | 105 => ⟨S8x4096, .f32⟩
  | 106 => ⟨S8x4096, .f32⟩
  | 107 => ⟨S8x4096x1, .f32⟩
  | 108 => ⟨S8x4096x4096, .f32⟩
  | 109 => ⟨S8x4096x4096, .f32⟩
  | 110 => ⟨S8x4096x4096, .f32⟩
  | 111 => ⟨S_, .f32⟩
  | 112 => ⟨S8x4096, .f32⟩
  | 113 => ⟨S8x4096x1, .f32⟩
  | 114 => ⟨S8x4096x4096, .f32⟩
  | 115 => ⟨S8x4096x4096, .f32⟩
  | 116 => ⟨S8x4096x1, .f32⟩
  | 117 => ⟨S_, .f32⟩
  | 118 => ⟨S8x4096x1, .f32⟩
  | 119 => ⟨S8x4096x1, .f32⟩
  | 120 => ⟨S8x4096x128, .f32⟩
  | 121 => ⟨S4096x8x128, .f32⟩
  | 122 => ⟨S4096x1024, .f32⟩
  | 123 => ⟨S4096x1024, .f32⟩
  | 124 => ⟨S4096x8x128, .f32⟩
  | 125 => ⟨S8x4096x128, .f32⟩
  | 126 => ⟨S8x128x4096, .f32⟩
  | 127 => ⟨S8x4096x128, .f32⟩
  | _ => ⟨S4096x7168, .f32⟩

abbrev hbmTy0_1 (i : Nat) : BufTy := match i % 128 with
  | 0 => ⟨S8x4096x4096, .f32⟩
  | 1 => ⟨S8x4096x4096, .f32⟩
  | 2 => ⟨S8x4096x4096, .f32⟩
  | 3 => ⟨S8x4096x4096, .f32⟩
  | 4 => ⟨S_, .f32⟩
  | 5 => ⟨S8x4096, .f32⟩
  | 6 => ⟨S8x4096x1, .f32⟩
  | 7 => ⟨S8x4096x1, .f32⟩
  | 8 => ⟨S8x4096x4096, .f32⟩
  | 9 => ⟨S8x4096x4096, .f32⟩
  | 10 => ⟨S_, .f32⟩
  | 11 => ⟨S8x4096, .f32⟩
  | 12 => ⟨S8x4096x4096, .f32⟩
  | 13 => ⟨S8x4096x4096, .f32⟩
  | 14 => ⟨S8x4096x4096, .f32⟩
  | 15 => ⟨S_, .f32⟩
  | 16 => ⟨S8x4096x4096, .f32⟩
  | 17 => ⟨S8x4096x4096, .f32⟩
  | 18 => ⟨S8x4096x128, .f32⟩
  | 19 => ⟨S8x4096x128, .f32⟩
  | 20 => ⟨S4096x8x128, .f32⟩
  | 21 => ⟨S4096x1024, .f32⟩
  | 22 => ⟨S4096x8x128, .f32⟩
  | 23 => ⟨S4096x1024, .f32⟩
  | 24 => ⟨S_, .f32⟩
  | 25 => ⟨S8x4096x128, .f32⟩
  | 26 => ⟨S8x4096x128, .f32⟩
  | 27 => ⟨S4096x8x128, .f32⟩
  | 28 => ⟨S4096x1024, .f32⟩
  | 29 => ⟨S4096x4096, .bf16⟩
  | 30 => ⟨S4096x1024, .bf16⟩
  | 31 => ⟨S4096x2048, .bf16⟩
  | 32 => ⟨S4096x7168, .bf16⟩
  | 33 => ⟨S4096x1024, .bf16⟩
  | 34 => ⟨S4096x1024, .bf16⟩
  | _ => ⟨S4096x7168, .f32⟩

abbrev hbmTy (i : Nat) : BufTy := match i / 128 with
  | 0 => hbmTy0_0 i
  | 1 => hbmTy0_1 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_5 : Ref sig .tc := ⟨.hbm, 65, rfl⟩
abbrev main_v33 : Ref sig .tc := ⟨.hbm, 66, rfl⟩
abbrev main_v34 : Ref sig .tc := ⟨.hbm, 67, rfl⟩
abbrev main_c_6 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_7 : Ref sig .tc := ⟨.hbm, 75, rfl⟩
abbrev main_call2_v0 : Ref sig .tc := ⟨.hbm, 76, rfl⟩
abbrev main_v41_1 : Ref sig .tc := ⟨.hbm, 77, rfl⟩
abbrev main_call2_v2 : Ref sig .tc := ⟨.hbm, 78, rfl⟩
abbrev main_v41_0 : Ref sig .tc := ⟨.hbm, 79, rfl⟩
abbrev main_call2_cst : Ref sig .tc := ⟨.hbm, 80, rfl⟩
abbrev main_v41_2 : Ref sig .tc := ⟨.hbm, 81, rfl⟩
abbrev main_cst_8 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_9 : Ref sig .tc := ⟨.hbm, 88, rfl⟩
abbrev main_v47 : Ref sig .tc := ⟨.hbm, 89, rfl⟩
abbrev main_cst_10 : Ref sig .tc := ⟨.hbm, 90, rfl⟩
abbrev main_v48 : Ref sig .tc := ⟨.hbm, 91, rfl⟩
abbrev main_v49 : Ref sig .tc := ⟨.hbm, 92, rfl⟩
abbrev main_cst_11 : Ref sig .tc := ⟨.hbm, 93, rfl⟩
abbrev main_v50 : Ref sig .tc := ⟨.hbm, 94, rfl⟩
abbrev main_v51 : Ref sig .tc := ⟨.hbm, 95, rfl⟩
abbrev main_cst_12 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_cst_14 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_16 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_17 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_18 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_cst_19 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_call3_cst : Ref sig .tc := ⟨.hbm, 143, rfl⟩
abbrev main_call3_v0 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_20 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩

abbrev nD : Nat := 1
abbrev τ : Topo := Topo.v7x

variable {F : FTy → Type} [FloatOps F]
-- ==== Kernel2.lean ====
abbrev S4096x2048 : Shape := ⟨2, ![4096, 2048]⟩
abbrev S4096x11264 : Shape := ⟨2, ![4096, 11264]⟩
abbrev S2048x11264 : Shape := ⟨2, ![2048, 11264]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S2048x11264, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x11264 : Shape := ⟨2, ![4096, 11264]⟩
abbrev S2048x11264 : Shape := ⟨2, ![2048, 11264]⟩
abbrev S4096x2048 : Shape := ⟨2, ![4096, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S4096x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S2048x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | .hbm, ⟨8, _⟩ => ⟨S4096x2048, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S4096x7168 : Shape := ⟨2, ![4096, 7168]⟩
abbrev S2048x7168 : Shape := ⟨2, ![2048, 7168]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S2048x7168, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x7168 : Shape := ⟨2, ![4096, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x7168, .bf16⟩
  | .hbm, ⟨2, _⟩ => ⟨S_, .f32⟩
  | .hbm, ⟨3, _⟩ => ⟨S2048x7168, .f32⟩
  | .hbm, ⟨4, _⟩ => ⟨S4096x2048, .f32⟩
  | .hbm, ⟨5, _⟩ => ⟨S4096x7168, .f32⟩
  | .hbm, ⟨6, _⟩ => ⟨S4096x7168, .f32⟩
  | .hbm, ⟨7, _⟩ => ⟨S7168x2048, .f32⟩
  | .hbm, ⟨8, _⟩ => ⟨S2048x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x7168 : Shape := ⟨2, ![4096, 7168]⟩
abbrev S2048x7168 : Shape := ⟨2, ![2048, 7168]⟩
abbrev S4096x2048 : Shape := ⟨2, ![4096, 2048]⟩
abbrev S1024x1792 : Shape := ⟨2, ![1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S4096x2048, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x7168 : Shape := ⟨2, ![4096, 7168]⟩
abbrev S2048x7168 : Shape := ⟨2, ![2048, 7168]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S2048x7168, .bf16⟩
  | .hbm, ⟨2, _⟩ => ⟨S_, .f32⟩
  | .hbm, ⟨3, _⟩ => ⟨S4096x2048, .f32⟩
  | .hbm, ⟨4, _⟩ => ⟨S2048x7168, .f32⟩
  | .hbm, ⟨5, _⟩ => ⟨S4096x7168, .f32⟩
  | .hbm, ⟨6, _⟩ => ⟨S4096x7168, .f32⟩
  | .hbm, ⟨7, _⟩ => ⟨S4096x2048, .f32⟩
  | .hbm, ⟨8, _⟩ => ⟨S4096x2048, .bf16⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x256 : Shape := ⟨2, ![4096, 256]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S256x2048, .f32⟩
  | .local _ .vmem, ⟨0, _⟩ => ⟨S4096x256, .f32⟩
  | .local _ .vmem, ⟨1, _⟩ => ⟨S4096x1024, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .bf16⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S4096x2048, .f32⟩
  | .hbm, ⟨6, _⟩ => ⟨S2048x256, .f32⟩
  | .hbm, ⟨7, _⟩ => ⟨S256x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x2048 : Shape := ⟨2, ![4096, 2048]⟩
abbrev S2048x11264 : Shape := ⟨2, ![2048, 11264]⟩
abbrev S4096x11264 : Shape := ⟨2, ![4096, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x2048 : Shape := ⟨2, ![4096, 2048]⟩
abbrev S2048x7168 : Shape := ⟨2, ![2048, 7168]⟩
abbrev S4096x7168 : Shape := ⟨2, ![4096, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x7168 : Shape := ⟨2, ![2048, 7168]⟩
abbrev S4096x7168 : Shape := ⟨2, ![4096, 7168]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7168, .bf16⟩
  | .hbm, ⟨2, _⟩ => ⟨S4096x2048, .f32⟩
  | .hbm, ⟨3, _⟩ => ⟨S2048x7168, .f32⟩
  | .hbm, ⟨4, _⟩ => ⟨S4096x7168, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .bf16⟩
  | .hbm, ⟨2, _⟩ => ⟨S256x2048, .f32⟩
  | .hbm, ⟨3, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel19.lean ====
abbrev S2048x896 : Shape := ⟨2, ![2048, 896]⟩
abbrev S3x2048x896 : Shape := ⟨3, ![3, 2048, 896]⟩
abbrev S256x896 : Shape := ⟨2, ![256, 896]⟩
abbrev S3x256x896 : Shape := ⟨3, ![3, 256, 896]⟩
abbrev S1x256x896 : Shape := ⟨3, ![1, 256, 896]⟩

abbrev nBuf : Space → Nat
  | .hbm => 9
  | .vmem => 18
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S3x2048x896, .bf16⟩
  | .hbm, ⟨5, _⟩ => ⟨S2048x896, .f32⟩
  | .hbm, ⟨6, _⟩ => ⟨S2048x896, .f32⟩
  | .hbm, ⟨7, _⟩ => ⟨S2048x896, .f32⟩
  | .hbm, ⟨8, _⟩ => ⟨S2048x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S3x256x896, .bf16⟩
  | .local _ .vmem, ⟨9, _⟩ => ⟨S3x256x896, .bf16⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | .local _ .vmem, ⟨16, _⟩ => ⟨S256x896, .f32⟩
  | .local _ .vmem, ⟨17, _⟩ => ⟨S256x896, .f32⟩
  | _, _ => ⟨S2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x896 : Shape := ⟨2, ![2048, 896]⟩
abbrev S3x2048x896 : Shape := ⟨3, ![3, 2048, 896]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x896, .f32⟩
  | .hbm, ⟨1, _⟩ => ⟨S2048x896, .f32⟩
  | .hbm, ⟨2, _⟩ => ⟨S2048x896, .f32⟩
  | .hbm, ⟨3, _⟩ => ⟨S2048x896, .f32⟩
  | .hbm, ⟨4, _⟩ => ⟨S3x2048x896, .bf16⟩
  | .hbm, ⟨5, _⟩ => ⟨S3x2048x896, .f32⟩
  | .hbm, ⟨6, _⟩ => ⟨S_, .f32⟩
  | .hbm, ⟨7, _⟩ => ⟨S2048x896, .f32⟩
  | .hbm, ⟨8, _⟩ => ⟨S2048x896, .f32⟩
  | .hbm, ⟨9, _⟩ => ⟨S_, .f32⟩
  | .hbm, ⟨10, _⟩ => ⟨S2048x896, .f32⟩
  | .hbm, ⟨11, _⟩ => ⟨S2048x896, .f32⟩
  | .hbm, ⟨12, _⟩ => ⟨S_, .f32⟩
  | .hbm, ⟨13, _⟩ => ⟨S2048x896, .f32⟩
  | .hbm, ⟨14, _⟩ => ⟨S2048x896, .f32⟩
  | .hbm, ⟨15, _⟩ => ⟨S2048x896, .f32⟩
  | .hbm, ⟨16, _⟩ => ⟨S_, .f32⟩
  | .hbm, ⟨17, _⟩ => ⟨S2048x896, .f32⟩
  | .hbm, ⟨18, _⟩ => ⟨S2048x896, .f32⟩
  | .hbm, ⟨19, _⟩ => ⟨S2048x896, .f32⟩
  | .hbm, ⟨20, _⟩ => ⟨S_, .f32⟩
  | .hbm, ⟨21, _⟩ => ⟨S2048x896, .f32⟩
  | .hbm, ⟨22, _⟩ => ⟨S2048x896, .f32⟩
  | .hbm, ⟨23, _⟩ => ⟨S2048x896, .f32⟩
  | .hbm, ⟨24, _⟩ => ⟨S_, .f32⟩
  | .hbm, ⟨25, _⟩ => ⟨S2048x896, .f32⟩
  | .hbm, ⟨26, _⟩ => ⟨S2048x896, .f32⟩
  | .hbm, ⟨27, _⟩ => ⟨S_, .f32⟩
  | .hbm, ⟨28, _⟩ => ⟨S2048x896, .f32⟩
  | .hbm, ⟨29, _⟩ => ⟨S2048x896, .f32⟩
  | .hbm, ⟨30, _⟩ => ⟨S2048x896, .f32⟩
  | .hbm, ⟨31, _⟩ => ⟨S_, .f32⟩
  | .hbm, ⟨32, _⟩ => ⟨S2048x896, .f32⟩
  | .hbm, ⟨33, _⟩ => ⟨S2048x896, .f32⟩
  | .hbm, ⟨34, _⟩ => ⟨S2048x896, .f32⟩
  | .hbm, ⟨35, _⟩ => ⟨S_, .f32⟩
  | .hbm, ⟨36, _⟩ => ⟨S2048x896, .f32⟩
  | .hbm, ⟨37, _⟩ => ⟨S2048x896, .f32⟩
  | .hbm, ⟨38, _⟩ => ⟨S2048x896, .f32⟩
  | .hbm, ⟨39, _⟩ => ⟨S_, .f32⟩
  | .hbm, ⟨40, _⟩ => ⟨S2048x896, .f32⟩
  | .hbm, ⟨41, _⟩ => ⟨S2048x896, .f32⟩
  | _, _ => ⟨S2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel20.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S3x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference20Ideal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S3x256x2048, .bf16⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel21.lean ====
abbrev S2048x1408 : Shape := ⟨2, ![2048, 1408]⟩
abbrev S3x2048x1408 : Shape := ⟨3, ![3, 2048, 1408]⟩
abbrev S256x1408 : Shape := ⟨2, ![256, 1408]⟩
abbrev S3x256x1408 : Shape := ⟨3, ![3, 256, 1408]⟩
abbrev S1x256x1408 : Shape := ⟨3, ![1, 256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S3x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S3x256x1408, .bf16⟩
  | .local _ .vmem, ⟨9, _⟩ => ⟨S3x256x1408, .bf16⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S2048x1408 : Shape := ⟨2, ![2048, 1408]⟩
abbrev S3x2048x1408 : Shape := ⟨3, ![3, 2048, 1408]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S3x2048x1408, .bf16⟩
  | .hbm, ⟨5, _⟩ => ⟨S3x2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel22.lean ====
abbrev S704x2048 : Shape := ⟨2, ![704, 2048]⟩
abbrev S3x704x2048 : Shape := ⟨3, ![3, 704, 2048]⟩
abbrev S176x2048 : Shape := ⟨2, ![176, 2048]⟩
abbrev S3x176x2048 : Shape := ⟨3, ![3, 176, 2048]⟩
abbrev S1x176x2048 : Shape := ⟨3, ![1, 176, 2048]⟩

abbrev nBuf : Space → Nat
  | .hbm => 9
  | .vmem => 18
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S3x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S3x176x2048, .bf16⟩
  | .local _ .vmem, ⟨9, _⟩ => ⟨S3x176x2048, .bf16⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S704x2048 : Shape := ⟨2, ![704, 2048]⟩
abbrev S3x704x2048 : Shape := ⟨3, ![3, 704, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S704x2048, .f32⟩
  | .hbm, ⟨4, _⟩ => ⟨S3x704x2048, .bf16⟩
  | .hbm, ⟨5, _⟩ => ⟨S3x704x2048, .f32⟩
  | .hbm, ⟨6, _⟩ => ⟨S_, .f32⟩
  | .hbm, ⟨7, _⟩ => ⟨S704x2048, .f32⟩
  | .hbm, ⟨8, _⟩ => ⟨S704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S704x2048, .f32⟩
  | .hbm, ⟨16, _⟩ => ⟨S_, .f32⟩
  | .hbm, ⟨17, _⟩ => ⟨S704x2048, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel23.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S3x256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference23Ideal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S3x256x2048, .bf16⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel24.lean ====
abbrev S256x256 : Shape := ⟨2, ![256, 256]⟩
abbrev S3x256x256 : Shape := ⟨3, ![3, 256, 256]⟩
abbrev S1x256x256 : Shape := ⟨3, ![1, 256, 256]⟩

abbrev nBuf : Space → Nat
  | .hbm => 9
  | .vmem => 9
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S3x256x256, .bf16⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S3x256x256, .bf16⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference24Ideal.lean ====
abbrev S256x256 : Shape := ⟨2, ![256, 256]⟩
abbrev S3x256x256 : Shape := ⟨3, ![3, 256, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S3x256x256, .bf16⟩
  | .hbm, ⟨5, _⟩ => ⟨S3x256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel25.lean ====
abbrev S1x2048 : Shape := ⟨2, ![1, 2048]⟩
abbrev S2x1024 : Shape := ⟨2, ![2, 1024]⟩
abbrev S1x128 : Shape := ⟨2, ![1, 128]⟩
abbrev S1x8x257 : Shape := ⟨3, ![1, 8, 257]⟩
abbrev S1x3x1408 : Shape := ⟨3, ![1, 3, 1408]⟩
abbrev S1x11264 : Shape := ⟨2, ![1, 11264]⟩
abbrev S2048 : Shape := ⟨1, ![2048]⟩
abbrev S_ : Shape := ⟨0, ![]⟩
abbrev S16x128 : Shape := ⟨2, ![16, 128]⟩
abbrev S128 : Shape := ⟨1, ![128]⟩
abbrev S1024 : Shape := ⟨1, ![1024]⟩
abbrev S8x128 : Shape := ⟨2, ![8, 128]⟩
abbrev S8x257 : Shape := ⟨2, ![8, 257]⟩
abbrev S8x384 : Shape := ⟨2, ![8, 384]⟩
abbrev S3072 : Shape := ⟨1, ![3072]⟩
abbrev S24x128 : Shape := ⟨2, ![24, 128]⟩
abbrev S11264 : Shape := ⟨1, ![11264]⟩
abbrev S88x128 : Shape := ⟨2, ![88, 128]⟩
abbrev S200x128 : Shape := ⟨2, ![200, 128]⟩
abbrev S4224 : Shape := ⟨1, ![4224]⟩
abbrev S5120 : Shape := ⟨1, ![5120]⟩
abbrev S40x128 : Shape := ⟨2, ![40, 128]⟩
abbrev S240x128 : Shape := ⟨2, ![240, 128]⟩

abbrev nBuf : Space → Nat
  | .hbm => 326
  | .vmem => 7
  | .smem => 0
  | _ => 0

abbrev hbmTy0_0 (i : Nat) : BufTy := match i % 128 with
  | 0 => ⟨S1x2048, .f32⟩
  | 1 => ⟨S2x1024, .f32⟩
  | 2 => ⟨S1x128, .f32⟩
  | 3 => ⟨S1x8x257, .f32⟩
  | 4 => ⟨S1x2048, .f32⟩
  | 5 => ⟨S1x3x1408, .f32⟩
  | 6 => ⟨S1x11264, .f32⟩
  | 7 => ⟨S1x2048, .f32⟩
  | 8 => ⟨S2048, .f32⟩
  | 9 => ⟨S1x2048, .f32⟩
  | 10 => ⟨S2x1024, .f32⟩
  | 11 => ⟨S1x128, .f32⟩
  | 12 => ⟨S1x8x257, .f32⟩
  | 13 => ⟨S1x2048, .f32⟩
  | 14 => ⟨S1x3x1408, .f32⟩
  | 15 => ⟨S1x11264, .f32⟩
  | 16 => ⟨S1x2048, .f32⟩
  | 17 => ⟨S2048, .f32⟩
  | 18 => ⟨S1x2048, .f32⟩
  | 19 => ⟨S2x1024, .f32⟩
  | 20 => ⟨S1x128, .f32⟩
  | 21 => ⟨S1x8x257, .f32⟩
  | 22 => ⟨S1x2048, .f32⟩
  | 23 => ⟨S1x3x1408, .f32⟩
  | 24 => ⟨S1x11264, .f32⟩
  | 25 => ⟨S1x2048, .f32⟩
  | 26 => ⟨S2048, .f32⟩
  | 27 => ⟨S1x2048, .f32⟩
  | 28 => ⟨S2x1024, .f32⟩
  | 29 => ⟨S1x128, .f32⟩
  | 30 => ⟨S1x8x257, .f32⟩
  | 31 => ⟨S1x2048, .f32⟩
  | 32 => ⟨S1x3x1408, .f32⟩
  | 33 => ⟨S1x11264, .f32⟩
  | 34 => ⟨S1x2048, .f32⟩
  | 35 => ⟨S2048, .f32⟩
  | 36 => ⟨S2048, .f32⟩
  | 37 => ⟨S_, .i32⟩
  | 38 => ⟨S_, .f32⟩
  | 39 => ⟨S2048, .f32⟩
  | 40 => ⟨S16x128, .f32⟩
  | 41 => ⟨S2048, .f32⟩
  | 42 => ⟨S_, .i32⟩
  | 43 => ⟨S_, .f32⟩
  | 44 => ⟨S2048, .f32⟩
  | 45 => ⟨S16x128, .f32⟩
  | 46 => ⟨S128, .f32⟩
  | 47 => ⟨S_, .i32⟩
  | 48 => ⟨S_, .f32⟩
  | 49 => ⟨S1024, .f32⟩
  | 50 => ⟨S8x128, .f32⟩
  | 51 => ⟨S8x257, .f32⟩
  | 52 => ⟨S_, .i32⟩
  | 53 => ⟨S_, .f32⟩
  | 54 => ⟨S8x384, .f32⟩
  | 55 => ⟨S3072, .f32⟩
  | 56 => ⟨S_, .i32⟩
  | 57 => ⟨S_, .f32⟩
  | 58 => ⟨S3072, .f32⟩
  | 59 => ⟨S24x128, .f32⟩
  | 60 => ⟨S2048, .f32⟩
  | 61 => ⟨S_, .i32⟩
  | 62 => ⟨S_, .f32⟩
  | 63 => ⟨S2048, .f32⟩
  | 64 => ⟨S16x128, .f32⟩
  | 65 => ⟨S11264, .f32⟩
  | 66 => ⟨S_, .i32⟩
  | 67 => ⟨S_, .f32⟩
  | 68 => ⟨S11264, .f32⟩
  | 69 => ⟨S88x128, .f32⟩
  | 70 => ⟨S2048, .f32⟩
  | 71 => ⟨S_, .i32⟩
  | 72 => ⟨S_, .f32⟩
  | 73 => ⟨S2048, .f32⟩
  | 74 => ⟨S16x128, .f32⟩
  | 75 => ⟨S_, .i32⟩
  | 76 => ⟨S_, .f32⟩
  | 77 => ⟨S2048, .f32⟩
  | 78 => ⟨S16x128, .f32⟩
  | 79 => ⟨S200x128, .f32⟩
  | 80 => ⟨S4224, .f32⟩
  | 81 => ⟨S_, .i32⟩
  | 82 => ⟨S_, .f32⟩
  | 83 => ⟨S5120, .f32⟩
  | 84 => ⟨S40x128, .f32⟩
  | 85 => ⟨S240x128, .f32⟩
  | 86 => ⟨S2048, .f32⟩
  | 87 => ⟨S_, .i32⟩
  | 88 => ⟨S_, .f32⟩
  | 89 => ⟨S2048, .f32⟩
  | 90 => ⟨S16x128, .f32⟩
  | 91 => ⟨S2048, .f32⟩
  | 92 => ⟨S_, .i32⟩
  | 93 => ⟨S_, .f32⟩
  | 94 => ⟨S2048, .f32⟩
  | 95 => ⟨S16x128, .f32⟩
  | 96 => ⟨S128, .f32⟩
  | 97 => ⟨S_, .i32⟩
  | 98 => ⟨S_, .f32⟩
  | 99 => ⟨S1024, .f32⟩
  | 100 => ⟨S8x128, .f32⟩
  | 101 => ⟨S8x257, .f32⟩
  | 102 => ⟨S_, .i32⟩
  | 103 => ⟨S_, .f32⟩
  | 104 => ⟨S8x384, .f32⟩
  | 105 => ⟨S3072, .f32⟩
  | 106 => ⟨S_, .i32⟩
  | 107 => ⟨S_, .f32⟩
  | 108 => ⟨S3072, .f32⟩
  | 109 => ⟨S24x128, .f32⟩
  | 110 => ⟨S2048, .f32⟩
  | 111 => ⟨S_, .i32⟩
  | 112 => ⟨S_, .f32⟩
  | 113 => ⟨S2048, .f32⟩
  | 114 => ⟨S16x128, .f32⟩
  | 115 => ⟨S11264, .f32⟩
  | 116 => ⟨S_, .i32⟩
  | 117 => ⟨S_, .f32⟩
  | 118 => ⟨S11264, .f32⟩
  | 119 => ⟨S88x128, .f32⟩
  | 120 => ⟨S2048, .f32⟩
  | 121 => ⟨S_, .i32⟩
  | 122 => ⟨S_, .f32⟩
  | 123 => ⟨S2048, .f32⟩
  | 124 => ⟨S16x128, .f32⟩
  | 125 => ⟨S_, .i32⟩
  | 126 => ⟨S_, .f32⟩
  | 127 => ⟨S2048, .f32⟩
  | _ => ⟨S1x2048, .f32⟩

abbrev hbmTy0_1 (i : Nat) : BufTy := match i % 128 with
  | 0 => ⟨S16x128, .f32⟩
  | 1 => ⟨S200x128, .f32⟩
  | 2 => ⟨S4224, .f32⟩
  | 3 => ⟨S_, .i32⟩
  | 4 => ⟨S_, .f32⟩
  | 5 => ⟨S5120, .f32⟩
  | 6 => ⟨S40x128, .f32⟩
  | 7 => ⟨S240x128, .f32⟩
  | 8 => ⟨S2048, .f32⟩
  | 9 => ⟨S_, .i32⟩
  | 10 => ⟨S_, .f32⟩
  | 11 => ⟨S2048, .f32⟩
  | 12 => ⟨S16x128, .f32⟩
  | 13 => ⟨S2048, .f32⟩
  | 14 => ⟨S_, .i32⟩
  | 15 => ⟨S_, .f32⟩
  | 16 => ⟨S2048, .f32⟩
  | 17 => ⟨S16x128, .f32⟩
  | 18 => ⟨S128, .f32⟩
  | 19 => ⟨S_, .i32⟩
  | 20 => ⟨S_, .f32⟩
  | 21 => ⟨S1024, .f32⟩
  | 22 => ⟨S8x128, .f32⟩
  | 23 => ⟨S8x257, .f32⟩
  | 24 => ⟨S_, .i32⟩
  | 25 => ⟨S_, .f32⟩
  | 26 => ⟨S8x384, .f32⟩
  | 27 => ⟨S3072, .f32⟩
  | 28 => ⟨S_, .i32⟩
  | 29 => ⟨S_, .f32⟩
  | 30 => ⟨S3072, .f32⟩
  | 31 => ⟨S24x128, .f32⟩
  | 32 => ⟨S2048, .f32⟩
  | 33 => ⟨S_, .i32⟩
  | 34 => ⟨S_, .f32⟩
  | 35 => ⟨S2048, .f32⟩
  | 36 => ⟨S16x128, .f32⟩
  | 37 => ⟨S11264, .f32⟩
  | 38 => ⟨S_, .i32⟩
  | 39 => ⟨S_, .f32⟩
  | 40 => ⟨S11264, .f32⟩
  | 41 => ⟨S88x128, .f32⟩
  | 42 => ⟨S2048, .f32⟩
  | 43 => ⟨S_, .i32⟩
  | 44 => ⟨S_, .f32⟩
  | 45 => ⟨S2048, .f32⟩
  | 46 => ⟨S16x128, .f32⟩
  | 47 => ⟨S_, .i32⟩
  | 48 => ⟨S_, .f32⟩
  | 49 => ⟨S2048, .f32⟩
  | 50 => ⟨S16x128, .f32⟩
  | 51 => ⟨S200x128, .f32⟩
  | 52 => ⟨S4224, .f32⟩
  | 53 => ⟨S_, .i32⟩
  | 54 => ⟨S_, .f32⟩
  | 55 => ⟨S5120, .f32⟩
  | 56 => ⟨S40x128, .f32⟩
  | 57 => ⟨S240x128, .f32⟩
  | 58 => ⟨S2048, .f32⟩
  | 59 => ⟨S_, .i32⟩
  | 60 => ⟨S_, .f32⟩
  | 61 => ⟨S2048, .f32⟩
  | 62 => ⟨S16x128, .f32⟩
  | 63 => ⟨S2048, .f32⟩
  | 64 => ⟨S_, .i32⟩
  | 65 => ⟨S_, .f32⟩
  | 66 => ⟨S2048, .f32⟩
  | 67 => ⟨S16x128, .f32⟩
  | 68 => ⟨S128, .f32⟩
  | 69 => ⟨S_, .i32⟩
  | 70 => ⟨S_, .f32⟩
  | 71 => ⟨S1024, .f32⟩
  | 72 => ⟨S8x128, .f32⟩
  | 73 => ⟨S8x257, .f32⟩
  | 74 => ⟨S_, .i32⟩
  | 75 => ⟨S_, .f32⟩
  | 76 => ⟨S8x384, .f32⟩
  | 77 => ⟨S3072, .f32⟩
  | 78 => ⟨S_, .i32⟩
  | 79 => ⟨S_, .f32⟩
  | 80 => ⟨S3072, .f32⟩
  | 81 => ⟨S24x128, .f32⟩
  | 82 => ⟨S2048, .f32⟩
  | 83 => ⟨S_, .i32⟩
  | 84 => ⟨S_, .f32⟩
  | 85 => ⟨S2048, .f32⟩
  | 86 => ⟨S16x128, .f32⟩
  | 87 => ⟨S11264, .f32⟩
  | 88 => ⟨S_, .i32⟩
  | 89 => ⟨S_, .f32⟩
  | 90 => ⟨S11264, .f32⟩
  | 91 => ⟨S88x128, .f32⟩
  | 92 => ⟨S2048, .f32⟩
  | 93 => ⟨S_, .i32⟩
  | 94 => ⟨S_, .f32⟩
  | 95 => ⟨S2048, .f32⟩
  | 96 => ⟨S16x128, .f32⟩
  | 97 => ⟨S_, .i32⟩
  | 98 => ⟨S_, .f32⟩
  | 99 => ⟨S2048, .f32⟩
  | 100 => ⟨S16x128, .f32⟩
  | 101 => ⟨S200x128, .f32⟩
  | 102 => ⟨S4224, .f32⟩
  | 103 => ⟨S_, .i32⟩
  | 104 => ⟨S_, .f32⟩
  | 105 => ⟨S5120, .f32⟩
  | 106 => ⟨S40x128, .f32⟩
  | 107 => ⟨S240x128, .f32⟩
  | 108 => ⟨S240x128, .f32⟩
  | 109 => ⟨S240x128, .f32⟩
  | 110 => ⟨S240x128, .f32⟩
  | 111 => ⟨S16x128, .f32⟩
  | 112 => ⟨S2048, .f32⟩
  | 113 => ⟨S1x2048, .f32⟩
  | 114 => ⟨S16x128, .f32⟩
  | 115 => ⟨S2048, .f32⟩
  | 116 => ⟨S2x1024, .f32⟩
  | 117 => ⟨S8x128, .f32⟩
  | 118 => ⟨S1024, .f32⟩
  | 119 => ⟨S128, .f32⟩
  | 120 => ⟨S1x128, .f32⟩
  | 121 => ⟨S24x128, .f32⟩
  | 122 => ⟨S8x384, .f32⟩
  | 123 => ⟨S8x257, .f32⟩
  | 124 => ⟨S1x8x257, .f32⟩
  | 125 => ⟨S16x128, .f32⟩
  | 126 => ⟨S2048, .f32⟩
  | 127 => ⟨S1x2048, .f32⟩
  | _ => ⟨S1x2048, .f32⟩

abbrev hbmTy0_2 (i : Nat) : BufTy := match i % 128 with
  | 0 => ⟨S88x128, .f32⟩
  | 1 => ⟨S11264, .f32⟩
  | 2 => ⟨S1x11264, .f32⟩
  | 3 => ⟨S16x128, .f32⟩
  | 4 => ⟨S2048, .f32⟩
  | 5 => ⟨S1x2048, .f32⟩
  | 6 => ⟨S16x128, .f32⟩
  | 7 => ⟨S2048, .f32⟩
  | 8 => ⟨S40x128, .f32⟩
  | 9 => ⟨S5120, .f32⟩
  | 10 => ⟨S4224, .f32⟩
  | 11 => ⟨S1x3x1408, .f32⟩
  | 12 => ⟨S16x128, .f32⟩
  | 13 => ⟨S2048, .f32⟩
  | 14 => ⟨S1x2048, .f32⟩
  | 15 => ⟨S16x128, .f32⟩
  | 16 => ⟨S2048, .f32⟩
  | 17 => ⟨S2x1024, .f32⟩
  | 18 => ⟨S8x128, .f32⟩
  | 19 => ⟨S1024, .f32⟩
  | 20 => ⟨S128, .f32⟩
  | 21 => ⟨S1x128, .f32⟩
  | 22 => ⟨S24x128, .f32⟩
  | 23 => ⟨S8x384, .f32⟩
  | 24 => ⟨S8x257, .f32⟩
  | 25 => ⟨S1x8x257, .f32⟩
  | 26 => ⟨S16x128, .f32⟩
  | 27 => ⟨S2048, .f32⟩
  | 28 => ⟨S1x2048, .f32⟩
  | 29 => ⟨S88x128, .f32⟩
  | 30 => ⟨S11264, .f32⟩
  | 31 => ⟨S1x11264, .f32⟩
  | 32 => ⟨S16x128, .f32⟩
  | 33 => ⟨S2048, .f32⟩
  | 34 => ⟨S1x2048, .f32⟩
  | 35 => ⟨S16x128, .f32⟩
  | 36 => ⟨S2048, .f32⟩
  | 37 => ⟨S40x128, .f32⟩
  | 38 => ⟨S5120, .f32⟩
  | 39 => ⟨S4224, .f32⟩
  | 40 => ⟨S1x3x1408, .f32⟩
  | 41 => ⟨S16x128, .f32⟩
  | 42 => ⟨S2048, .f32⟩
  | 43 => ⟨S1x2048, .f32⟩
  | 44 => ⟨S16x128, .f32⟩
  | 45 => ⟨S2048, .f32⟩
  | 46 => ⟨S2x1024, .f32⟩
  | 47 => ⟨S8x128, .f32⟩
  | 48 => ⟨S1024, .f32⟩
  | 49 => ⟨S128, .f32⟩
  | 50 => ⟨S1x128, .f32⟩
  | 51 => ⟨S24x128, .f32⟩
  | 52 => ⟨S8x384, .f32⟩
  | 53 => ⟨S8x257, .f32⟩
  | 54 => ⟨S1x8x257, .f32⟩
  | 55 => ⟨S16x128, .f32⟩
  | 56 => ⟨S2048, .f32⟩
  | 57 => ⟨S1x2048, .f32⟩
  | 58 => ⟨S88x128, .f32⟩
  | 59 => ⟨S11264, .f32⟩
  | 60 => ⟨S1x11264, .f32⟩
  | 61 => ⟨S16x128, .f32⟩
  | 62 => ⟨S2048, .f32⟩
  | 63 => ⟨S1x2048, .f32⟩
  | 64 => ⟨S16x128, .f32⟩
  | 65 => ⟨S2048, .f32⟩
  | 66 => ⟨S40x128, .f32⟩
  | 67 => ⟨S5120, .f32⟩
  | 68 => ⟨S4224, .f32⟩
  | 69 => ⟨S1x3x1408, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | .local _ .vmem, ⟨0, _⟩ => ⟨S240x128, .f32⟩
  | .local _ .vmem, ⟨1, _⟩ => ⟨S240x128, .f32⟩
  | .local _ .vmem, ⟨2, _⟩ => ⟨S240x128, .f32⟩
  | .local _ .vmem, ⟨3, _⟩ => ⟨S240x128, .f32⟩
  | .local _ .vmem, ⟨4, _⟩ => ⟨S240x128, .f32⟩
  | .local _ .vmem, ⟨5, _⟩ => ⟨S240x128, .f32⟩
  | .local _ .vmem, ⟨6, _⟩ => ⟨S240x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_c_0 : Ref sig .tc := ⟨.hbm, 42, rfl⟩
abbrev main_call1_v0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_c_1 : Ref sig .tc := ⟨.hbm, 47, rfl⟩
abbrev main_call2_v0 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_c_2 : Ref sig .tc := ⟨.hbm, 52, rfl⟩
abbrev main_call3_v0 : Ref sig .tc := ⟨.hbm, 53, rfl⟩
abbrev main_v10 : Ref sig .tc := ⟨.hbm, 54, rfl⟩
abbrev main_v11 : Ref sig .tc := ⟨.hbm, 55, rfl⟩
abbrev main_c_3 : Ref sig .tc := ⟨.hbm, 56, rfl⟩
abbrev main_call4_v0 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_c_4 : Ref sig .tc := ⟨.hbm, 61, rfl⟩
abbrev main_call5_v0 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_c_5 : Ref sig .tc := ⟨.hbm, 66, rfl⟩
abbrev main_call6_v0 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_c_6 : Ref sig .tc := ⟨.hbm, 71, rfl⟩
abbrev main_call7_v0 : Ref sig .tc := ⟨.hbm, 72, rfl⟩
abbrev main_v21 : Ref sig .tc := ⟨.hbm, 73, rfl⟩
abbrev main_v22 : Ref sig .tc := ⟨.hbm, 74, rfl⟩
abbrev main_c_7 : Ref sig .tc := ⟨.hbm, 75, rfl⟩
abbrev main_call8_v0 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_c_8 : Ref sig .tc := ⟨.hbm, 81, rfl⟩
abbrev main_call9_v0 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_c_9 : Ref sig .tc := ⟨.hbm, 87, rfl⟩
abbrev main_call10_v0 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_c_10 : Ref sig .tc := ⟨.hbm, 92, rfl⟩
abbrev main_call11_v0 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_c_11 : Ref sig .tc := ⟨.hbm, 97, rfl⟩
abbrev main_call12_v0 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_c_12 : Ref sig .tc := ⟨.hbm, 102, rfl⟩
abbrev main_call13_v0 : Ref sig .tc := ⟨.hbm, 103, rfl⟩
abbrev main_v40 : Ref sig .tc := ⟨.hbm, 104, rfl⟩
abbrev main_v41 : Ref sig .tc := ⟨.hbm, 105, rfl⟩
abbrev main_c_13 : Ref sig .tc := ⟨.hbm, 106, rfl⟩
abbrev main_call14_v0 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_c_14 : Ref sig .tc := ⟨.hbm, 111, rfl⟩
abbrev main_call15_v0 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_c_15 : Ref sig .tc := ⟨.hbm, 116, rfl⟩
abbrev main_call16_v0 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_c_16 : Ref sig .tc := ⟨.hbm, 121, rfl⟩
abbrev main_call17_v0 : Ref sig .tc := ⟨.hbm, 122, rfl⟩
abbrev main_v51 : Ref sig .tc := ⟨.hbm, 123, rfl⟩
abbrev main_v52 : Ref sig .tc := ⟨.hbm, 124, rfl⟩
abbrev main_c_17 : Ref sig .tc := ⟨.hbm, 125, rfl⟩
abbrev main_call18_v0 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_c_18 : Ref sig .tc := ⟨.hbm, 131, rfl⟩
abbrev main_call19_v0 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_c_19 : Ref sig .tc := ⟨.hbm, 137, rfl⟩
abbrev main_call20_v0 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_c_20 : Ref sig .tc := ⟨.hbm, 142, rfl⟩
abbrev main_call21_v0 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_c_21 : Ref sig .tc := ⟨.hbm, 147, rfl⟩
abbrev main_call22_v0 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_c_22 : Ref sig .tc := ⟨.hbm, 152, rfl⟩
abbrev main_call23_v0 : Ref sig .tc := ⟨.hbm, 153, rfl⟩
abbrev main_v70 : Ref sig .tc := ⟨.hbm, 154, rfl⟩
abbrev main_v71 : Ref sig .tc := ⟨.hbm, 155, rfl⟩
abbrev main_c_23 : Ref sig .tc := ⟨.hbm, 156, rfl⟩
abbrev main_call24_v0 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_c_24 : Ref sig .tc := ⟨.hbm, 161, rfl⟩
abbrev main_call25_v0 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_c_25 : Ref sig .tc := ⟨.hbm, 166, rfl⟩
abbrev main_call26_v0 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_c_26 : Ref sig .tc := ⟨.hbm, 171, rfl⟩
abbrev main_call27_v0 : Ref sig .tc := ⟨.hbm, 172, rfl⟩
abbrev main_v81 : Ref sig .tc := ⟨.hbm, 173, rfl⟩
abbrev main_v82 : Ref sig .tc := ⟨.hbm, 174, rfl⟩
abbrev main_c_27 : Ref sig .tc := ⟨.hbm, 175, rfl⟩
abbrev main_call28_v0 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_c_28 : Ref sig .tc := ⟨.hbm, 181, rfl⟩
abbrev main_call29_v0 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_c_29 : Ref sig .tc := ⟨.hbm, 187, rfl⟩
abbrev main_call30_v0 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_c_30 : Ref sig .tc := ⟨.hbm, 192, rfl⟩
abbrev main_call31_v0 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_c_31 : Ref sig .tc := ⟨.hbm, 197, rfl⟩
abbrev main_call32_v0 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_c_32 : Ref sig .tc := ⟨.hbm, 202, rfl⟩
abbrev main_call33_v0 : Ref sig .tc := ⟨.hbm, 203, rfl⟩
abbrev main_v100 : Ref sig .tc := ⟨.hbm, 204, rfl⟩
abbrev main_v101 : Ref sig .tc := ⟨.hbm, 205, rfl⟩
abbrev main_c_33 : Ref sig .tc := ⟨.hbm, 206, rfl⟩
abbrev main_call34_v0 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_c_34 : Ref sig .tc := ⟨.hbm, 211, rfl⟩
abbrev main_call35_v0 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_c_35 : Ref sig .tc := ⟨.hbm, 216, rfl⟩
abbrev main_call36_v0 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_c_36 : Ref sig .tc := ⟨.hbm, 221, rfl⟩
abbrev main_call37_v0 : Ref sig .tc := ⟨.hbm, 222, rfl⟩
abbrev main_v111 : Ref sig .tc := ⟨.hbm, 223, rfl⟩
abbrev main_v112 : Ref sig .tc := ⟨.hbm, 224, rfl⟩
abbrev main_c_37 : Ref sig .tc := ⟨.hbm, 225, rfl⟩
abbrev main_call38_v0 : Ref sig .tc := ⟨.hbm, 226, rfl⟩
abbrev main_v113 : Ref sig .tc := ⟨.hbm, 227, rfl⟩
abbrev main_v114 : Ref sig .tc := ⟨.hbm, 228, rfl⟩
abbrev main_v115 : Ref sig .tc := ⟨.hbm, 229, rfl⟩
abbrev main_v116 : Ref sig .tc := ⟨.hbm, 230, rfl⟩
abbrev main_c_38 : Ref sig .tc := ⟨.hbm, 231, rfl⟩
abbrev main_call39_v0 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_v120_0 : Ref sig .tc := ⟨.hbm, 236, rfl⟩
abbrev main_v120_1 : Ref sig .tc := ⟨.hbm, 237, rfl⟩
abbrev main_v120_2 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_v148 : Ref sig .tc := ⟨.hbm, 266, rfl⟩
abbrev main_v149 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_v171 : Ref sig .tc := ⟨.hbm, 289, rfl⟩
abbrev main_v172 : Ref sig .tc := ⟨.hbm, 290, rfl⟩
abbrev main_v173 : Ref sig .tc := ⟨.hbm, 291, rfl⟩
abbrev main_v174 : Ref sig .tc := ⟨.hbm, 292, rfl⟩
abbrev main_v175 : Ref sig .tc := ⟨.hbm, 293, rfl⟩
abbrev main_v176 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_v204 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S240x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S240x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S240x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference25Ideal.lean ====
abbrev S1x2048 : Shape := ⟨2, ![1, 2048]⟩
abbrev S2x1024 : Shape := ⟨2, ![2, 1024]⟩
abbrev S1x128 : Shape := ⟨2, ![1, 128]⟩
abbrev S1x8x257 : Shape := ⟨3, ![1, 8, 257]⟩
abbrev S1x3x1408 : Shape := ⟨3, ![1, 3, 1408]⟩
abbrev S1x11264 : Shape := ⟨2, ![1, 11264]⟩
abbrev S2048 : Shape := ⟨1, ![2048]⟩
abbrev S_ : Shape := ⟨0, ![]⟩

abbrev nBuf : Space → Nat
  | .hbm => 333
  | .vmem => 0
  | .smem => 0
  | _ => 0

abbrev hbmTy0_0 (i : Nat) : BufTy := match i % 128 with
  | 0 => ⟨S1x2048, .f32⟩
  | 1 => ⟨S2x1024, .f32⟩
  | 2 => ⟨S1x128, .f32⟩
  | 3 => ⟨S1x8x257, .f32⟩
  | 4 => ⟨S1x2048, .f32⟩
  | 5 => ⟨S1x3x1408, .f32⟩
  | 6 => ⟨S1x11264, .f32⟩
  | 7 => ⟨S1x2048, .f32⟩
  | 8 => ⟨S2048, .f32⟩
  | 9 => ⟨S1x2048, .f32⟩
  | 10 => ⟨S2x1024, .f32⟩
  | 11 => ⟨S1x128, .f32⟩
  | 12 => ⟨S1x8x257, .f32⟩
  | 13 => ⟨S1x2048, .f32⟩
  | 14 => ⟨S1x3x1408, .f32⟩
  | 15 => ⟨S1x11264, .f32⟩
  | 16 => ⟨S1x2048, .f32⟩
  | 17 => ⟨S2048, .f32⟩
  | 18 => ⟨S1x2048, .f32⟩
  | 19 => ⟨S2x1024, .f32⟩
  | 20 => ⟨S1x128, .f32⟩
  | 21 => ⟨S1x8x257, .f32⟩
  | 22 => ⟨S1x2048, .f32⟩
  | 23 => ⟨S1x3x1408, .f32⟩
  | 24 => ⟨S1x11264, .f32⟩
  | 25 => ⟨S1x2048, .f32⟩
  | 26 => ⟨S2048, .f32⟩
  | 27 => ⟨S1x2048, .f32⟩
  | 28 => ⟨S2x1024, .f32⟩
  | 29 => ⟨S1x128, .f32⟩
  | 30 => ⟨S1x8x257, .f32⟩
  | 31 => ⟨S1x2048, .f32⟩
  | 32 => ⟨S1x3x1408, .f32⟩
  | 33 => ⟨S1x11264, .f32⟩
  | 34 => ⟨S1x2048, .f32⟩
  | 35 => ⟨S2048, .f32⟩
  | 36 => ⟨S_, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S1x2048, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S_, .f32⟩
  | 8 => ⟨S1x8x257, .f32⟩
  | 9 => ⟨S1x8x257, .f32⟩
  | 10 => ⟨S_, .f32⟩
  | 11 => ⟨S1x8x257, .f32⟩
  | 12 => ⟨S1x8x257, .f32⟩
  | 13 => ⟨S1x8x257, .f32⟩
  | 14 => ⟨S_, .f32⟩
  | 15 => ⟨S1x8x257, .f32⟩
  | 16 => ⟨S1x8x257, .f32⟩
  | 17 => ⟨S1x8x257, .f32⟩
  | 18 => ⟨S_, .f32⟩
  | 19 => ⟨S1x8x257, .f32⟩
  | 20 => ⟨S1x8x257, .f32⟩
  | 21 => ⟨S1x8x257, .f32⟩
  | 22 => ⟨S_, .f32⟩
  | 23 => ⟨S1x8x257, .f32⟩
  | 24 => ⟨S1x8x257, .f32⟩
  | 25 => ⟨S_, .f32⟩
  | 26 => ⟨S1x8x257, .f32⟩
  | 27 => ⟨S1x8x257, .f32⟩
  | 28 => ⟨S1x8x257, .f32⟩
  | 29 => ⟨S_, .f32⟩
  | 30 => ⟨S1x8x257, .f32⟩
  | 31 => ⟨S1x8x257, .f32⟩
  | 32 => ⟨S1x8x257, .f32⟩
  | 33 => ⟨S_, .f32⟩
  | 34 => ⟨S1x8x257, .f32⟩
  | 35 => ⟨S1x8x257, .f32⟩
  | 36 => ⟨S1x8x257, .f32⟩
  | 37 => ⟨S_, .f32⟩
  | 38 => ⟨S1x8x257, .f32⟩
  | 39 => ⟨S1x8x257, .f32⟩
  | 40 => ⟨S_, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S1x2048, .f32⟩
  | 51 => ⟨S_, .f32⟩
  | 52 => ⟨S1x2048, .f32⟩
  | 53 => ⟨S1x2048, .f32⟩
  | 54 => ⟨S1x2048, .f32⟩
  | 55 => ⟨S_, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S1x2048, .f32⟩
  | 66 => ⟨S_, .f32⟩
  | 67 => ⟨S1x2048, .f32⟩
  | 68 => ⟨S1x2048, .f32⟩
  | 69 => ⟨S1x2048, .f32⟩
  | 70 => ⟨S_, .f32⟩
  | 71 => ⟨S1x2048, .f32⟩
  | 72 => ⟨S1x2048, .f32⟩
  | 73 => ⟨S_, .f32⟩
  | 74 => ⟨S1x3x1408, .f32⟩
  | 75 => ⟨S1x3x1408, .f32⟩
  | 76 => ⟨S_, .f32⟩
  | 77 => ⟨S1x3x1408, .f32⟩
  | 78 => ⟨S1x3x1408, .f32⟩
  | 79 => ⟨S1x3x1408, .f32⟩
  | 80 => ⟨S_, .f32⟩
  | 81 => ⟨S1x3x1408, .f32⟩
  | 82 => ⟨S1x3x1408, .f32⟩
  | 83 => ⟨S1x3x1408, .f32⟩
  | 84 => ⟨S_, .f32⟩
  | 85 => ⟨S1x3x1408, .f32⟩
  | 86 => ⟨S1x3x1408, .f32⟩
  | 87 => ⟨S1x3x1408, .f32⟩
  | 88 => ⟨S_, .f32⟩
  | 89 => ⟨S1x3x1408, .f32⟩
  | 90 => ⟨S1x3x1408, .f32⟩
  | 91 => ⟨S_, .f32⟩
  | 92 => ⟨S1x3x1408, .f32⟩
  | 93 => ⟨S1x3x1408, .f32⟩
  | 94 => ⟨S1x3x1408, .f32⟩
  | 95 => ⟨S_, .f32⟩
  | 96 => ⟨S1x3x1408, .f32⟩
  | 97 => ⟨S1x3x1408, .f32⟩
  | 98 => ⟨S1x3x1408, .f32⟩
  | 99 => ⟨S_, .f32⟩
  | 100 => ⟨S1x3x1408, .f32⟩
  | 101 => ⟨S1x3x1408, .f32⟩
  | 102 => ⟨S1x3x1408, .f32⟩
  | 103 => ⟨S_, .f32⟩
  | 104 => ⟨S1x3x1408, .f32⟩
  | 105 => ⟨S1x3x1408, .f32⟩
  | 106 => ⟨S_, .f32⟩
  | 107 => ⟨S1x11264, .f32⟩
  | 108 => ⟨S1x11264, .f32⟩
  | 109 => ⟨S_, .f32⟩
  | 110 => ⟨S1x11264, .f32⟩
  | 111 => ⟨S1x11264, .f32⟩
  | 112 => ⟨S1x11264, .f32⟩
  | 113 => ⟨S_, .f32⟩
  | 114 => ⟨S1x11264, .f32⟩
  | 115 => ⟨S1x11264, .f32⟩
  | 116 => ⟨S1x11264, .f32⟩
  | 117 => ⟨S_, .f32⟩
  | 118 => ⟨S1x11264, .f32⟩
  | 119 => ⟨S1x11264, .f32⟩
  | 120 => ⟨S1x11264, .f32⟩
  | 121 => ⟨S_, .f32⟩
  | 122 => ⟨S1x11264, .f32⟩
  | 123 => ⟨S1x11264, .f32⟩
  | 124 => ⟨S_, .f32⟩
  | 125 => ⟨S1x11264, .f32⟩
  | 126 => ⟨S1x11264, .f32⟩
  | 127 => ⟨S1x11264, .f32⟩
  | _ => ⟨S1x2048, .f32⟩

abbrev hbmTy0_2 (i : Nat) : BufTy := match i % 128 with
  | 0 => ⟨S_, .f32⟩
  | 1 => ⟨S1x11264, .f32⟩
  | 2 => ⟨S1x11264, .f32⟩
  | 3 => ⟨S1x11264, .f32⟩
  | 4 => ⟨S_, .f32⟩
  | 5 => ⟨S1x11264, .f32⟩
  | 6 => ⟨S1x11264, .f32⟩
  | 7 => ⟨S1x11264, .f32⟩
  | 8 => ⟨S_, .f32⟩
  | 9 => ⟨S1x11264, .f32⟩
  | 10 => ⟨S1x11264, .f32⟩
  | 11 => ⟨S_, .f32⟩
  | 12 => ⟨S1x2048, .f32⟩
  | 13 => ⟨S1x2048, .f32⟩
  | 14 => ⟨S_, .f32⟩
  | 15 => ⟨S1x2048, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S_, .f32⟩
  | 30 => ⟨S1x2048, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩

abbrev nD : Nat := 1
abbrev τ : Topo := Topo.v7x

variable {F : FTy → Type} [FloatOps F]
-- ==== Proof.Base.lean ====
module

public import proofs.«01_k».proof.Proof.Gen.KernelIdeal.Frame
public import proofs.«01_k».proof.Proof.Gen.KernelIdeal.Skeleton

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

/-- The body's first branch is taken: the point's second coordinate is 0. -/
abbrev cond0 (i : grid0.Coords) : Prop := (Scalar.cmpi .ne (Scalar.extui (Scalar.cmpi .eq (BitVec.ofNat 32 (i 1).val) 0#32)) 0#32) = 1#1

/-- The body's last branch is taken: the point's second coordinate is 15. -/
abbrev cond1 (i : grid0.Coords) : Prop := k0_cond2 i = 1#1

theorem coord1 (t : Fin cfg0.N) : (grid0.coords t 1).val = t.val % 16 := by
  have e : (grid0.coords t 1).val = t.val / 1 % 16 := Pipeline.Grid.coords_val t 1 (by decide) rfl
  rw [e, Nat.div_one]

theorem coord0 (t : Fin cfg0.N) : (grid0.coords t 0).val = t.val / 16 := by
  have ht : t.val < 64 := Nat.lt_of_lt_of_eq t.isLt N_0
  have e : (grid0.coords t 0).val = t.val / 16 % 4 := Pipeline.Grid.coords_val t 0 (by decide) rfl
  rw [e]; omega

/-- The first branch is taken at a group's first block. -/
theorem hcond0 (t : Fin cfg0.N) : cond0 (grid0.coords t) ↔ t.val % 16 = 0 := by
  have ht : t.val < 64 := Nat.lt_of_lt_of_eq t.isLt N_0
  simp only [cond0, coord1]
  word_cmp

/-- The last branch is taken at a group's last block. -/
theorem hcond1 (t : Fin cfg0.N) : cond1 (grid0.coords t) ↔ t.val % 16 = 15 := by
  have ht : t.val < 64 := Nat.lt_of_lt_of_eq t.isLt N_0
  simp only [cond1, k0_cond2, coord1]
  word_cmp

end Cert.KernelIdeal.Att

end
-- ==== Proof.RunA.lean ====
module

public import proofs.«01_k».proof.Proof.Base

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

set_option maxHeartbeats 1000000 in
/-- The body at a group's first block: every scratch buffer is written over. -/
def runA (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) :
    Σ' (LQ : List (View.Piece (Elt F) S256x256 .bf16)), Σ' (LS0 : List (View.Piece (Elt F) S4608x256 .bf16)), Σ' (LS1 : List (View.Piece (Elt F) S4608x256 .bf16)), Σ' (LS2 : List (View.Piece (Elt F) S4608x256 .f32)), { LS3 : List (View.Piece (Elt F) S4608x256 .f32) //
      ∀ (z0 z1 : Vec F S4096x256 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ d, owns (c : Thread nD τ) arg8 fullShare d)
          ∗ owns (c : Thread nD τ) arg9 fullShare z0
          ∗ owns (c : Thread nD τ) arg10 fullShare z1
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ f, arg8.view.loc (c : Thread nD τ) ↦[arg8.view.set]{fullShare} arg8.view.writes (Elt F) f LQ)
            ∗ owns (c : Thread nD τ) arg9 fullShare z0
            ∗ owns (c : Thread nD τ) arg10 fullShare z1
            ∗ (∃ d, owns (c : Thread nD τ) arg11 fullShare d)
            ∗ (∃ f, arg12.view.loc (c : Thread nD τ) ↦[arg12.view.set]{fullShare} arg12.view.writes (Elt F) f LS0)
            ∗ (∃ f, arg13.view.loc (c : Thread nD τ) ↦[arg13.view.set]{fullShare} arg13.view.writes (Elt F) f LS1)
            ∗ (∃ f, arg14.view.loc (c : Thread nD τ) ↦[arg14.view.set]{fullShare} arg14.view.writes (Elt F) f LS2)
            ∗ (∃ f, arg15.view.loc (c : Thread nD τ) ↦[arg15.view.set]{fullShare} arg15.view.writes (Elt F) f LS3)) -∗ K ⟨⟩))
        ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun z0 z1 E K => ?run⟩
  case run =>
    simp only [cc0_att_bwd_eq_skeleton]; unfold cc0_att_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, ⟨%f10, %hf10, H10⟩, ⟨%d11, %f11, -, H11⟩, ⟨%ds0, %fs0, -, S0⟩, ⟨%ds1, %fs1, -, S1⟩, ⟨%ds2, %fs2, -, S2⟩, ⟨%ds3, %fs3, -, S3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg9.eq_unread hf9
    obtain rfl := harg10.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [S0]; · iexists _; iexact S0
    isplitl [S1]; · iexists _; iexact S1
    isplitl [S2]; · iexists _; iexact S2
    iexists _; iexact S3

end Cert.KernelIdeal.Att

end
-- ==== Proof.RunB.lean ====
module

public import proofs.«01_k».proof.Proof.Base

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

set_option maxHeartbeats 1000000 in
/-- The body at a block that is neither a group's first nor its last: the two padded buffers stay, the two accumulators get their pieces written, and so does the block of dq. -/
def runB (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : ¬ cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    Σ' (LQ : List (View.Piece (Elt F) S256x256 .bf16)), Σ' (LS2 : List (View.Piece (Elt F) S4608x256 .f32)), { LS3 : List (View.Piece (Elt F) S4608x256 .f32) //
      ∀ (z0 z1 : Vec F S4096x256 .bf16) (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ d, owns (c : Thread nD τ) arg8 fullShare d)
          ∗ owns (c : Thread nD τ) arg9 fullShare z0
          ∗ owns (c : Thread nD τ) arg10 fullShare z1
          ∗ (∃ d, owns (c : Thread nD τ) arg11 fullShare d)
          ∗ owns (c : Thread nD τ) arg12 fullShare y0
          ∗ owns (c : Thread nD τ) arg13 fullShare y1
          ∗ owns (c : Thread nD τ) arg14 fullShare y2
          ∗ owns (c : Thread nD τ) arg15 fullShare y3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ f, arg8.view.loc (c : Thread nD τ) ↦[arg8.view.set]{fullShare} arg8.view.writes (Elt F) f LQ)
            ∗ owns (c : Thread nD τ) arg9 fullShare z0
            ∗ owns (c : Thread nD τ) arg10 fullShare z1
            ∗ (∃ d, owns (c : Thread nD τ) arg11 fullShare d)
            ∗ owns (c : Thread nD τ) arg12 fullShare y0
            ∗ owns (c : Thread nD τ) arg13 fullShare y1
            ∗ (arg14.view.loc (c : Thread nD τ) ↦[arg14.view.set]{fullShare} arg14.view.writes (Elt F) (harg14.unread y2) LS2)
            ∗ (arg15.view.loc (c : Thread nD τ) ↦[arg15.view.set]{fullShare} arg15.view.writes (Elt F) (harg15.unread y3) LS3)) -∗ K ⟨⟩))
        ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun z0 z1 E K => ?run⟩
  case run =>
    simp only [cc0_att_bwd_eq_skeleton]; unfold cc0_att_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%f9, %hf9, H9⟩, ⟨%f10, %hf10, H10⟩, ⟨%d11, %f11, -, H11⟩, ⟨%fs0, %hs0, S0⟩, ⟨%fs1, %hs1, S1⟩, ⟨%fs2, %hs2, S2⟩, ⟨%fs3, %hs3, S3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg9.eq_unread hf9
    obtain rfl := harg10.eq_unread hf10
    obtain rfl := harg12.eq_unread hs0
    obtain rfl := harg13.eq_unread hs1
    obtain rfl := harg14.eq_unread hs2
    obtain rfl := harg15.eq_unread hs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]; · iexists _; iexact H8
    isplitl [H9]
    · iexists _; isplitr; · ipureintro; exact harg9.read_unread _
      iexact H9
    isplitl [H10]
    · iexists _; isplitr; · ipureintro; exact harg10.read_unread _
      iexact H10
    isplitl [H11]
    · iexists _, _; isplitr; swap; · iexact H11
      ipureintro; rfl
    isplitl [S0]
    · iexists _; isplitr; · ipureintro; exact harg12.read_unread _
      iexact S0
    isplitl [S1]
    · iexists _; isplitr; · ipureintro; exact harg13.read_unread _
      iexact S1
    isplitl [S2]; · iexact S2
    iexact S3

end Cert.KernelIdeal.Att

end
-- ==== Proof.RunC.lean ====
module

public import proofs.«01_k».proof.Proof.Base

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

set_option maxHeartbeats 1000000 in
/-- The body at a group's last block: dk and dv are written too. -/
def runC (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    Σ' (LQ : List (View.Piece (Elt F) S256x256 .bf16)), Σ' (LK : List (View.Piece (Elt F) S4096x256 .bf16)), Σ' (LV : List (View.Piece (Elt F) S4096x256 .bf16)), Σ' (LS2 : List (View.Piece (Elt F) S4608x256 .f32)), { LS3 : List (View.Piece (Elt F) S4608x256 .f32) //
      ∀ (E : Set ℕ) (K : PUnit → sProp 𝕄),
        iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ (∃ d, owns (c : Thread nD τ) arg8 fullShare d)
          ∗ (∃ d, owns (c : Thread nD τ) arg9 fullShare d)
          ∗ (∃ d, owns (c : Thread nD τ) arg10 fullShare d)
          ∗ (∃ d, owns (c : Thread nD τ) arg11 fullShare d)
          ∗ owns (c : Thread nD τ) arg12 fullShare y0
          ∗ owns (c : Thread nD τ) arg13 fullShare y1
          ∗ owns (c : Thread nD τ) arg14 fullShare y2
          ∗ owns (c : Thread nD τ) arg15 fullShare y3
          ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ f, arg8.view.loc (c : Thread nD τ) ↦[arg8.view.set]{fullShare} arg8.view.writes (Elt F) f LQ)
            ∗ (∃ f, arg9.view.loc (c : Thread nD τ) ↦[arg9.view.set]{fullShare} arg9.view.writes (Elt F) f LK)
            ∗ (∃ f, arg10.view.loc (c : Thread nD τ) ↦[arg10.view.set]{fullShare} arg10.view.writes (Elt F) f LV)
            ∗ (∃ d, owns (c : Thread nD τ) arg11 fullShare d)
            ∗ owns (c : Thread nD τ) arg12 fullShare y0
            ∗ owns (c : Thread nD τ) arg13 fullShare y1
            ∗ (arg14.view.loc (c : Thread nD τ) ↦[arg14.view.set]{fullShare} arg14.view.writes (Elt F) (harg14.unread y2) LS2)
            ∗ (arg15.view.loc (c : Thread nD τ) ↦[arg15.view.set]{fullShare} arg15.view.writes (Elt F) (harg15.unread y3) LS3)) -∗ K ⟨⟩))
        ⊢ wp frame (wpE (defs₀ (F := F)) Variants.none c none) E (cc0_att_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_att_bwd_eq_skeleton]; unfold cc0_att_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, ⟨%d10, %f10, -, H10⟩, ⟨%d11, %f11, -, H11⟩, ⟨%fs0, %hs0, S0⟩, ⟨%fs1, %hs1, S1⟩, ⟨%fs2, %hs2, S2⟩, ⟨%fs3, %hs3, S3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg12.eq_unread hs0
    obtain rfl := harg13.eq_unread hs1
    obtain rfl := harg14.eq_unread hs2
    obtain rfl := harg15.eq_unread hs3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H8]; · iexists _; iexact H8
    isplitl [H9]; · iexists _; iexact H9
    isplitl [H10]; · iexists _; iexact H10
    isplitl [H11]
    · iexists _, _; isplitr; swap; · iexact H11
      ipureintro; rfl
    isplitl [S0]
    · iexists _; isplitr; · ipureintro; exact harg12.read_unread _
      iexact S0
    isplitl [S1]
    · iexists _; isplitr; · ipureintro; exact harg13.read_unread _
      iexact S1
    isplitl [S2]; · iexact S2
    iexact S3

end Cert.KernelIdeal.Att

end
-- ==== Proof.Step.lean ====
module

public import proofs.«01_k».proof.Proof.RunA
public import proofs.«01_k».proof.Proof.RunB
public import proofs.«01_k».proof.Proof.RunC
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

open VecWindow

/-! ## One block of rows as a function of what the body reads -/

/-- The half of a block of 256 columns that head 0 of the pair owns. -/
abbrev lo {e : EltTy} (x : Vec F S256x256 e) : Vec F S256x128 e := View.ld x (Rect.unit (s := S256x256) ![0, 0] S256x128.size inb_S256x256_S256x128_0_0)
/-- The half of a block of 256 columns that head 1 of the pair owns. -/
abbrev hi {e : EltTy} (x : Vec F S256x256 e) : Vec F S256x128 e := View.ld x (Rect.unit (s := S256x256) ![0, 128] S256x128.size inb_S256x256_S256x128_0_128)
/-- The band of 768 rows a block of queries sees, head 0's columns. -/
abbrev bandLo {e : EltTy} (i : grid0.Coords) (y : Vec F S4608x256 e) : Vec F S768x128 e := View.ld y (Rect.unit (s := S4608x256) (k0_off1 i) S768x128.size (k0_off1_inb i))
/-- The band of 768 rows a block of queries sees, head 1's columns. -/
abbrev bandHi {e : EltTy} (i : grid0.Coords) (y : Vec F S4608x256 e) : Vec F S768x128 e := View.ld y (Rect.unit (s := S4608x256) (k0_off2 i) S768x128.size (k0_off2_inb i))
/-- The bias table of head 0 of the pair. -/
abbrev tabLo (x : Vec F S2x256x768 .f32) : Vec F S1x256x768 .f32 := View.ld x (Rect.unit (s := S2x256x768) ![0, 0, 0] S1x256x768.size inb_S2x256x768_S1x256x768_0_0_0)
/-- The bias table of head 1 of the pair. -/
abbrev tabHi (x : Vec F S2x256x768 .f32) : Vec F S1x256x768 .f32 := View.ld x (Rect.unit (s := S2x256x768) ![1, 0, 0] S1x256x768.size inb_S2x256x768_S1x256x768_1_0_0)

/-- Head 0's attention weights of a block of queries. -/
def probLo (i : grid0.Coords) (x0 : Vec F S256x256 .f32) (x3 : Vec F S2x256x768 .f32) (y0 : Vec F S4608x256 .bf16) : FVec F S256x768 .f32 :=
  k0_pay16 i (lo x0) (bandLo i y0) (tabLo x3)
/-- Head 1's attention weights of a block of queries. -/
def probHi (i : grid0.Coords) (x0 : Vec F S256x256 .f32) (x3 : Vec F S2x256x768 .f32) (y0 : Vec F S4608x256 .bf16) : FVec F S256x768 .f32 :=
  k0_pay25 (BitVec.ofNat 32 (i 1).val) (hi x0) (bandHi i y0) (tabHi x3)

/-- The padded keys or values of a group: 512 rows of zeros, then the group's 4096 rows. -/
def kfill (x1 : Vec F S4096x256 .f32) : Vec F S4608x256 .bf16 :=
  put (s := S4608x256) (put (s := S4608x256) (fun _ => Scalar.ofBits .bf16 0x0000#16) ![0, 0] S512x256.size (k0_pay8 (F := F))) ![512, 0] S4096x256.size (k0_pay9 x1)

/-- The key gradient's accumulator after a block of queries. -/
def dkStep (i : grid0.Coords) (x0 : Vec F S256x256 .f32) (x3 : Vec F S2x256x768 .f32) (x4 : Vec F S256x256 .f32) (y0 y1 : Vec F S4608x256 .bf16) (y : Vec F S4608x256 .f32) : Vec F S4608x256 .f32 :=
  put (s := S4608x256) (put (s := S4608x256) y (k0_off1 i) S768x128.size (k0_pay23 (k0_pay15 (lo x0)) (probLo i x0 x3 y0) (k0_pay17 (lo x4)) (bandLo i y1) (bandLo i y))) (k0_off2 i) S768x128.size
    (k0_pay5 (k0_pay24 (hi x0)) (probHi i x0 x3 y0) (k0_pay26 (hi x4)) (bandHi i y1) (bandHi i y))

/-- The value gradient's accumulator after a block of queries. -/
def dvStep (i : grid0.Coords) (x0 : Vec F S256x256 .f32) (x3 : Vec F S2x256x768 .f32) (x4 : Vec F S256x256 .f32) (y0 : Vec F S4608x256 .bf16) (y : Vec F S4608x256 .f32) : Vec F S4608x256 .f32 :=
  put (s := S4608x256) (put (s := S4608x256) y (k0_off1 i) S768x128.size (k0_pay18 (probLo i x0 x3 y0) (k0_pay17 (lo x4)) (bandLo i y))) (k0_off2 i) S768x128.size
    (k0_pay27 (BitVec.ofNat 32 (i 1).val) (hi x0) (bandHi i y0) (tabHi x3) (hi x4) (bandHi i y))

/-- The query gradient of a block of queries. -/
def dqBlk (i : grid0.Coords) (x0 : Vec F S256x256 .f32) (x3 : Vec F S2x256x768 .f32) (x4 : Vec F S256x256 .f32) (y0 y1 : Vec F S4608x256 .bf16) : Vec F S256x256 .bf16 :=
  put (s := S256x256) (put (s := S256x256) (fun _ => Scalar.ofBits .bf16 0x0000#16) ![0, 0] S256x128.size (k0_pay22 (bandLo i y0) (probLo i x0 x3 y0) (k0_pay17 (lo x4)) (bandLo i y1))) ![0, 128] S256x128.size
    (k0_pay4 (bandHi i y0) (probHi i x0 x3 y0) (k0_pay26 (hi x4)) (bandHi i y1))

/-- What a group's last block leaves of the key gradient: the accumulator without its 512 rows of padding. -/
def dkOut (y : Vec F S4608x256 .f32) : Vec F S4096x256 .bf16 := k0_pay6 (View.ld y (Rect.unit (s := S4608x256) ![512, 0] S4096x256.size inb_S4608x256_S4096x256_512_0))
/-- What a group's last block leaves of the value gradient. -/
def dvOut (y : Vec F S4608x256 .f32) : Vec F S4096x256 .bf16 := k0_pay7 (View.ld y (Rect.unit (s := S4608x256) ![512, 0] S4096x256.size inb_S4608x256_S4096x256_512_0))

/-- The two pieces of a padded buffer cover it, so what it held before does not matter. -/
theorem kfill_any (g : Vec F S4608x256 .bf16) (x1 : Vec F S4096x256 .f32) :
    put (s := S4608x256) (put (s := S4608x256) g ![0, 0] S512x256.size (k0_pay8 (F := F))) ![512, 0] S4096x256.size (k0_pay9 x1) = kfill x1 := by
  funext y
  have h0 : (y 0).val < 4608 := (y 0).isLt
  have h1 : (y 1).val < 256 := (y 1).isLt
  unfold kfill put
  by_cases hr : (y 0).val < 512
  · have hA : ¬ ∀ a : Fin 2, (![512, 0] : Fin 2 → ℕ) a ≤ (y a).val ∧ (y a).val < (![512, 0] : Fin 2 → ℕ) a + S4096x256.size a := fun h => by
      have := (h 0).1; change 512 ≤ _ at this; omega
    have hB : ∀ a : Fin 2, (![0, 0] : Fin 2 → ℕ) a ≤ (y a).val ∧ (y a).val < (![0, 0] : Fin 2 → ℕ) a + S512x256.size a := Fin.forall_fin_two.mpr
      ⟨⟨Nat.zero_le _, by show _ < 0 + 512; omega⟩, ⟨Nat.zero_le _, by show _ < 0 + 256; omega⟩⟩
    exact ((dif_neg hA).trans (dif_pos hB)).trans ((dif_neg hA).trans (dif_pos hB)).symm
  · have hA : ∀ a : Fin 2, (![512, 0] : Fin 2 → ℕ) a ≤ (y a).val ∧ (y a).val < (![512, 0] : Fin 2 → ℕ) a + S4096x256.size a := Fin.forall_fin_two.mpr
      ⟨⟨by show 512 ≤ _; omega, by show _ < 512 + 4096; omega⟩, ⟨Nat.zero_le _, by show _ < 0 + 256; omega⟩⟩
    simp only [dif_pos hA]

/-- The two halves of a block of columns cover it. -/
theorem halves_any (g g' : Vec F S256x256 .bf16) (u w : FVec F S256x128 .bf16) :
    put (s := S256x256) (put (s := S256x256) g ![0, 0] S256x128.size u) ![0, 128] S256x128.size w
      = put (s := S256x256) (put (s := S256x256) g' ![0, 0] S256x128.size u) ![0, 128] S256x128.size w := by
  funext y
  have h0 : (y 0).val < 256 := (y 0).isLt
  have h1 : (y 1).val < 256 := (y 1).isLt
  unfold put
  by_cases hr : (y 1).val < 128
  · have hA : ¬ ∀ a : Fin 2, (![0, 128] : Fin 2 → ℕ) a ≤ (y a).val ∧ (y a).val < (![0, 128] : Fin 2 → ℕ) a + S256x128.size a := fun h => by
      have := (h 1).1; change 128 ≤ _ at this; omega
    have hB : ∀ a : Fin 2, (![0, 0] : Fin 2 → ℕ) a ≤ (y a).val ∧ (y a).val < (![0, 0] : Fin 2 → ℕ) a + S256x128.size a := Fin.forall_fin_two.mpr
      ⟨⟨Nat.zero_le _, by show _ < 0 + 256; omega⟩, ⟨Nat.zero_le _, by show _ < 0 + 128; omega⟩⟩
    exact ((dif_neg hA).trans (dif_pos hB)).trans ((dif_neg hA).trans (dif_pos hB)).symm
  · have hA : ∀ a : Fin 2, (![0, 128] : Fin 2 → ℕ) a ≤ (y a).val ∧ (y a).val < (![0, 128] : Fin 2 → ℕ) a + S256x128.size a := Fin.forall_fin_two.mpr
      ⟨⟨Nat.zero_le _, by show _ < 0 + 256; omega⟩, ⟨by show 128 ≤ _; omega, by show _ < 128 + 128; omega⟩⟩
    simp only [dif_pos hA]

/-- Head 1's band read after a store to head 0's columns is what was there before. -/
theorem bandHi_put {e : EltTy} (i : grid0.Coords) (y : Vec F S4608x256 e) (w : Vec F S768x128 e) :
    bandHi i (put (s := S4608x256) y (k0_off1 i) S768x128.size w) = bandHi i y :=
  window_put_of_disjoint (s := S4608x256) y (k0_off1 i) S768x128.size (k0_off2 i) S768x128.size (k0_off2_inb i) w 1
    (Or.inr (by show k0_off1 i 1 + 128 ≤ k0_off2 i 1; exact le_refl 128))

/-! ## What the pieces of each case read as -/

/-- Two bands stored one after the other, read back. -/
theorem read_bands {sp : Space} {κ : Kind} {e : EltTy} (v : View sig κ sp S4608x256 e) (f : v.ty.Contents (Elt F)) (i : grid0.Coords) (u w : Vec F S768x128 e) (L : List (View.Piece (Elt F) S4608x256 e)) :
    v.read (Elt F) (v.writes (Elt F) f (⟨Rect.unit (s := S4608x256) (k0_off2 i) S768x128.size (k0_off2_inb i), w⟩ :: ⟨Rect.unit (s := S4608x256) (k0_off1 i) S768x128.size (k0_off1_inb i), u⟩ :: L))
      = put (s := S4608x256) (put (s := S4608x256) (v.read (Elt F) (v.writes (Elt F) f L)) (k0_off1 i) S768x128.size u) (k0_off2 i) S768x128.size w := by
  rw [View.read_writes_cons_put _ _ _ _ _ rfl, View.read_writes_cons_put _ _ _ _ _ rfl]

/-- Two bands stored over a whole store, read back. -/
theorem read_bands_whole {sp : Space} {κ : Kind} {e : EltTy} (v : View sig κ sp S4608x256 e) (f : v.ty.Contents (Elt F)) (i : grid0.Coords) (u w : Vec F S768x128 e) (z : Vec F S4608x256 e) :
    v.read (Elt F) (v.writes (Elt F) f [⟨Rect.unit (s := S4608x256) (k0_off2 i) S768x128.size (k0_off2_inb i), w⟩, ⟨Rect.unit (s := S4608x256) (k0_off1 i) S768x128.size (k0_off1_inb i), u⟩, ⟨Rect.unit (s := S4608x256) ![0, 0] S4608x256.size inb_S4608x256_S4608x256_0_0, z⟩])
      = put (s := S4608x256) (put (s := S4608x256) z (k0_off1 i) S768x128.size u) (k0_off2 i) S768x128.size w := by
  rw [read_bands, View.read_writes_full]

/-- One band stored over a whole store, then the other band read: what the whole store left there. -/
theorem read_band_after {sp : Space} {κ : Kind} {e : EltTy} (v : View sig κ sp S4608x256 e) (f : v.ty.Contents (Elt F)) (i : grid0.Coords) (u : Vec F S768x128 e) (z : Vec F S4608x256 e) :
    v.readAt (Elt F) (Rect.unit (s := S4608x256) (k0_off2 i) S768x128.size (k0_off2_inb i)).toLoadRect (v.writes (Elt F) f [⟨Rect.unit (s := S4608x256) (k0_off1 i) S768x128.size (k0_off1_inb i), u⟩, ⟨Rect.unit (s := S4608x256) ![0, 0] S4608x256.size inb_S4608x256_S4608x256_0_0, z⟩])
      = bandHi i z := by
  rw [View.readAt_eq_ld, View.read_writes_cons_put _ _ _ _ _ rfl, View.read_writes_full]
  exact bandHi_put i z u

/-- Two halves of a block of columns stored, read back. -/
theorem read_halves {sp : Space} {κ : Kind} (v : View sig κ sp S256x256 .bf16) (f : v.ty.Contents (Elt F)) (u w : Vec F S256x128 .bf16) :
    v.read (Elt F) (v.writes (Elt F) f [⟨Rect.unit (s := S256x256) ![0, 128] S256x128.size inb_S256x256_S256x128_0_128, w⟩, ⟨Rect.unit (s := S256x256) ![0, 0] S256x128.size inb_S256x256_S256x128_0_0, u⟩])
      = put (s := S256x256) (put (s := S256x256) (fun _ => Scalar.ofBits .bf16 0x0000#16) ![0, 0] S256x128.size u) ![0, 128] S256x128.size w := by
  rw [View.read_writes_cons_put _ _ _ _ _ rfl, View.read_writes_cons_put _ _ _ _ _ rfl]
  exact halves_any _ _ _ _

/-- A padded buffer's two stores, read back. -/
theorem read_fill {sp : Space} {κ : Kind} (v : View sig κ sp S4608x256 .bf16) (f : v.ty.Contents (Elt F)) (x : Vec F S4096x256 .f32) :
    v.read (Elt F) (v.writes (Elt F) f [⟨Rect.unit (s := S4608x256) ![512, 0] S4096x256.size inb_S4608x256_S4096x256_512_0, k0_pay9 x⟩, ⟨Rect.unit (s := S4608x256) ![0, 0] S512x256.size inb_S4608x256_S512x256_0_0, k0_pay8⟩])
      = kfill x := by
  rw [View.read_writes_cons_put _ _ _ _ _ rfl, View.read_writes_cons_put _ _ _ _ _ rfl]
  exact kfill_any _ _

/-- A first block fills the padded buffer. -/
theorem kpad_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.1) = kfill x1 := by
  have e := read_fill arg12.view f (arg3.view.readAt (Elt F) (Rect.unit (s := S4096x256) ![0, 0] S4096x256.size inb_S4096x256_S4096x256_0_0).toLoadRect (harg3.unread x1))
  have e2 : (arg3.view.readAt (Elt F) (Rect.unit (s := S4096x256) ![0, 0] S4096x256.size inb_S4096x256_S4096x256_0_0).toLoadRect (harg3.unread x1)) = x1 := by rw [View.readAt_full, Memref.IsWhole.read_unread]
  exact e.trans (congrArg kfill e2)

/-- A first block fills the padded buffer. -/
theorem vpad_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) (f : arg13.view.ty.Contents (Elt F)) :
    arg13.view.read (Elt F) (arg13.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.1) = kfill x2 := by
  have e := read_fill arg13.view f (arg4.view.readAt (Elt F) (Rect.unit (s := S4096x256) ![0, 0] S4096x256.size inb_S4096x256_S4096x256_0_0).toLoadRect (harg4.unread x2))
  have e2 : (arg4.view.readAt (Elt F) (Rect.unit (s := S4096x256) ![0, 0] S4096x256.size inb_S4096x256_S4096x256_0_0).toLoadRect (harg4.unread x2)) = x2 := by rw [View.readAt_full, Memref.IsWhole.read_unread]
  exact e.trans (congrArg kfill e2)

/-- The key gradient's accumulator after the block. -/
theorem dk_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.1) = dkStep i x0 x3 x4 (kfill x1) (kfill x2) (k0_pay12 (F := F)) := by
  refine (read_bands_whole arg14.view f i
    (k0_pay23 (k0_pay15 (arg2.view.readAt (Elt F) (Rect.unit (s := S256x256) ![0, 0] S256x128.size inb_S256x256_S256x128_0_0).toLoadRect (harg2.unread x0))) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) (arg14.view.readAt (Elt F) (Rect.unit (s := S4608x256) (k0_off1 i) S768x128.size (k0_off1_inb i)).toLoadRect (arg14.view.writes (Elt F) arg14.view.junk [⟨(Rect.unit (s := S4608x256) ![0, 0] S4608x256.size inb_S4608x256_S4608x256_0_0), k0_pay12⟩])))
    (k0_pay5 (k0_pay24 (arg2.view.readAt (Elt F) (Rect.unit (s := S256x256) ![0, 128] S256x128.size inb_S256x256_S256x128_0_128).toLoadRect (harg2.unread x0))) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) (arg14.view.readAt (Elt F) (Rect.unit (s := S4608x256) (k0_off2 i) S768x128.size (k0_off2_inb i)).toLoadRect (arg14.view.writes (Elt F) arg14.view.junk (⟨(Rect.unit (s := S4608x256) (k0_off1 i) S768x128.size (k0_off1_inb i)), (k0_pay23 (k0_pay15 (arg2.view.readAt (Elt F) (Rect.unit (s := S256x256) ![0, 0] S256x128.size inb_S256x256_S256x128_0_0).toLoadRect (harg2.unread x0))) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) (arg14.view.readAt (Elt F) (Rect.unit (s := S4608x256) (k0_off1 i) S768x128.size (k0_off1_inb i)).toLoadRect (arg14.view.writes (Elt F) arg14.view.junk [⟨(Rect.unit (s := S4608x256) ![0, 0] S4608x256.size inb_S4608x256_S4608x256_0_0), k0_pay12⟩])))⟩ :: [⟨(Rect.unit (s := S4608x256) ![0, 0] S4608x256.size inb_S4608x256_S4608x256_0_0), k0_pay12⟩])))) k0_pay12).trans ?_
  rw [read_band_after arg14.view arg14.view.junk i _ _]
  have hq0 : (arg2.view.readAt (Elt F) (Rect.unit (s := S256x256) ![0, 0] S256x128.size inb_S256x256_S256x128_0_0).toLoadRect (harg2.unread x0)) = lo x0 := by rw [View.readAt_eq_ld, Memref.IsWhole.read_unread]
  have hd0 : (arg6.view.readAt (Elt F) (Rect.unit (s := S256x256) ![0, 0] S256x128.size inb_S256x256_S256x128_0_0).toLoadRect (harg6.unread x4)) = lo x4 := by rw [View.readAt_eq_ld, Memref.IsWhole.read_unread]
  have ht0 : (arg5.view.readAt (Elt F) (Rect.unit (s := S2x256x768) ![0, 0, 0] S1x256x768.size inb_S2x256x768_S1x256x768_0_0_0).toLoadRect (harg5.unread x3)) = tabLo x3 := by rw [View.readAt_eq_ld, Memref.IsWhole.read_unread]
  have hk0 : (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandLo i (kfill x1) := by rw [View.readAt_eq_ld, read_fill, View.readAt_full, Memref.IsWhole.read_unread]
  have hv0 : (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandLo i (kfill x2) := by rw [View.readAt_eq_ld, read_fill, View.readAt_full, Memref.IsWhole.read_unread]
  have hq1 : (arg2.view.readAt (Elt F) (Rect.unit (s := S256x256) ![0, 128] S256x128.size inb_S256x256_S256x128_0_128).toLoadRect (harg2.unread x0)) = hi x0 := by rw [View.readAt_eq_ld, Memref.IsWhole.read_unread]
  have hd1 : (arg6.view.readAt (Elt F) (Rect.unit (s := S256x256) ![0, 128] S256x128.size inb_S256x256_S256x128_0_128).toLoadRect (harg6.unread x4)) = hi x4 := by rw [View.readAt_eq_ld, Memref.IsWhole.read_unread]
  have ht1 : (arg5.view.readAt (Elt F) (Rect.unit (s := S2x256x768) ![1, 0, 0] S1x256x768.size inb_S2x256x768_S1x256x768_1_0_0).toLoadRect (harg5.unread x3)) = tabHi x3 := by rw [View.readAt_eq_ld, Memref.IsWhole.read_unread]
  have hk1 : (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandHi i (kfill x1) := by rw [View.readAt_eq_ld, read_fill, View.readAt_full, Memref.IsWhole.read_unread]
  have hv1 : (arg13.view.readAt (Elt F) (Rect.unit (s := S4608x256) (k0_off2 i) S768x128.size (k0_off2_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandHi i (kfill x2) := by rw [View.readAt_eq_ld, read_fill, View.readAt_full, Memref.IsWhole.read_unread]
  have ha4 : (arg14.view.readAt (Elt F) (Rect.unit (s := S4608x256) (k0_off1 i) S768x128.size (k0_off1_inb i)).toLoadRect (arg14.view.writes (Elt F) arg14.view.junk [⟨(Rect.unit (s := S4608x256) ![0, 0] S4608x256.size inb_S4608x256_S4608x256_0_0), k0_pay12⟩])) = bandLo i k0_pay12 := by rw [View.readAt_eq_ld, View.read_writes_full]
  have ha5 : (arg15.view.readAt (Elt F) (Rect.unit (s := S4608x256) (k0_off1 i) S768x128.size (k0_off1_inb i)).toLoadRect (arg15.view.writes (Elt F) arg15.view.junk [⟨(Rect.unit (s := S4608x256) ![0, 0] S4608x256.size inb_S4608x256_S4608x256_0_0), k0_pay13⟩])) = bandLo i k0_pay13 := by rw [View.readAt_eq_ld, View.read_writes_full]
  simp only [hq0, hd0, ht0, hk0, hv0, hq1, hd1, ht1, hk1, hv1, ha4, ha5]
  rfl

/-- The value gradient's accumulator after the block. -/
theorem dv_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) (f : arg15.view.ty.Contents (Elt F)) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).2.2.2.2.1) = dvStep i x0 x3 x4 (kfill x1) (k0_pay13 (F := F)) := by
  refine (read_bands_whole arg15.view f i
    (k0_pay18 (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg15.view.readAt (Elt F) (Rect.unit (s := S4608x256) (k0_off1 i) S768x128.size (k0_off1_inb i)).toLoadRect (arg15.view.writes (Elt F) arg15.view.junk [⟨(Rect.unit (s := S4608x256) ![0, 0] S4608x256.size inb_S4608x256_S4608x256_0_0), k0_pay13⟩])))
    (k0_pay27 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![1, 0, 0] S1x256x768.size inb_S2x256x768_S1x256x768_1_0_0).toLoadRect (harg5.unread x3)) (arg6.view.readAt (Elt F) (Rect.unit (s := S256x256) ![0, 128] S256x128.size inb_S256x256_S256x128_0_128).toLoadRect (harg6.unread x4)) (arg15.view.readAt (Elt F) (Rect.unit (s := S4608x256) (k0_off2 i) S768x128.size (k0_off2_inb i)).toLoadRect (arg15.view.writes (Elt F) arg15.view.junk (⟨(Rect.unit (s := S4608x256) (k0_off1 i) S768x128.size (k0_off1_inb i)), (k0_pay18 (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg15.view.readAt (Elt F) (Rect.unit (s := S4608x256) (k0_off1 i) S768x128.size (k0_off1_inb i)).toLoadRect (arg15.view.writes (Elt F) arg15.view.junk [⟨(Rect.unit (s := S4608x256) ![0, 0] S4608x256.size inb_S4608x256_S4608x256_0_0), k0_pay13⟩])))⟩ :: [⟨(Rect.unit (s := S4608x256) ![0, 0] S4608x256.size inb_S4608x256_S4608x256_0_0), k0_pay13⟩])))) k0_pay13).trans ?_
  rw [read_band_after arg15.view arg15.view.junk i _ _]
  have hq0 : (arg2.view.readAt (Elt F) (Rect.unit (s := S256x256) ![0, 0] S256x128.size inb_S256x256_S256x128_0_0).toLoadRect (harg2.unread x0)) = lo x0 := by rw [View.readAt_eq_ld, Memref.IsWhole.read_unread]
  have hd0 : (arg6.view.readAt (Elt F) (Rect.unit (s := S256x256) ![0, 0] S256x128.size inb_S256x256_S256x128_0_0).toLoadRect (harg6.unread x4)) = lo x4 := by rw [View.readAt_eq_ld, Memref.IsWhole.read_unread]
  have ht0 : (arg5.view.readAt (Elt F) (Rect.unit (s := S2x256x768) ![0, 0, 0] S1x256x768.size inb_S2x256x768_S1x256x768_0_0_0).toLoadRect (harg5.unread x3)) = tabLo x3 := by rw [View.readAt_eq_ld, Memref.IsWhole.read_unread]
  have hk0 : (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandLo i (kfill x1) := by rw [View.readAt_eq_ld, read_fill, View.readAt_full, Memref.IsWhole.read_unread]
  have hv0 : (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandLo i (kfill x2) := by rw [View.readAt_eq_ld, read_fill, View.readAt_full, Memref.IsWhole.read_unread]
  have hq1 : (arg2.view.readAt (Elt F) (Rect.unit (s := S256x256) ![0, 128] S256x128.size inb_S256x256_S256x128_0_128).toLoadRect (harg2.unread x0)) = hi x0 := by rw [View.readAt_eq_ld, Memref.IsWhole.read_unread]
  have hd1 : (arg6.view.readAt (Elt F) (Rect.unit (s := S256x256) ![0, 128] S256x128.size inb_S256x256_S256x128_0_128).toLoadRect (harg6.unread x4)) = hi x4 := by rw [View.readAt_eq_ld, Memref.IsWhole.read_unread]
  have ht1 : (arg5.view.readAt (Elt F) (Rect.unit (s := S2x256x768) ![1, 0, 0] S1x256x768.size inb_S2x256x768_S1x256x768_1_0_0).toLoadRect (harg5.unread x3)) = tabHi x3 := by rw [View.readAt_eq_ld, Memref.IsWhole.read_unread]
  have hk1 : (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandHi i (kfill x1) := by rw [View.readAt_eq_ld, read_fill, View.readAt_full, Memref.IsWhole.read_unread]
  have hv1 : (arg13.view.readAt (Elt F) (Rect.unit (s := S4608x256) (k0_off2 i) S768x128.size (k0_off2_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandHi i (kfill x2) := by rw [View.readAt_eq_ld, read_fill, View.readAt_full, Memref.IsWhole.read_unread]
  have ha4 : (arg14.view.readAt (Elt F) (Rect.unit (s := S4608x256) (k0_off1 i) S768x128.size (k0_off1_inb i)).toLoadRect (arg14.view.writes (Elt F) arg14.view.junk [⟨(Rect.unit (s := S4608x256) ![0, 0] S4608x256.size inb_S4608x256_S4608x256_0_0), k0_pay12⟩])) = bandLo i k0_pay12 := by rw [View.readAt_eq_ld, View.read_writes_full]
  have ha5 : (arg15.view.readAt (Elt F) (Rect.unit (s := S4608x256) (k0_off1 i) S768x128.size (k0_off1_inb i)).toLoadRect (arg15.view.writes (Elt F) arg15.view.junk [⟨(Rect.unit (s := S4608x256) ![0, 0] S4608x256.size inb_S4608x256_S4608x256_0_0), k0_pay13⟩])) = bandLo i k0_pay13 := by rw [View.readAt_eq_ld, View.read_writes_full]
  simp only [hq0, hd0, ht0, hk0, hv0, hq1, hd1, ht1, hk1, hv1, ha4, ha5]
  rfl

/-- What the block leaves of the query gradient. -/
theorem dq_A (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : cond0 i) (hc1 : ¬ cond1 i)
    (x0 : Vec F S256x256 .f32) (x1 : Vec F S4096x256 .f32) (x2 : Vec F S4096x256 .f32) (x3 : Vec F S2x256x768 .f32) (x4 : Vec F S256x256 .f32) (f : arg8.view.ty.Contents (Elt F)) :
    arg8.view.read (Elt F) (arg8.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4).1) = dqBlk i x0 x3 x4 (kfill x1) (kfill x2) := by
  refine (read_halves arg8.view f
    (k0_pay22 (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])))
    (k0_pay4 (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])))).trans ?_
  have hq0 : (arg2.view.readAt (Elt F) (Rect.unit (s := S256x256) ![0, 0] S256x128.size inb_S256x256_S256x128_0_0).toLoadRect (harg2.unread x0)) = lo x0 := by rw [View.readAt_eq_ld, Memref.IsWhole.read_unread]
  have hd0 : (arg6.view.readAt (Elt F) (Rect.unit (s := S256x256) ![0, 0] S256x128.size inb_S256x256_S256x128_0_0).toLoadRect (harg6.unread x4)) = lo x4 := by rw [View.readAt_eq_ld, Memref.IsWhole.read_unread]
  have ht0 : (arg5.view.readAt (Elt F) (Rect.unit (s := S2x256x768) ![0, 0, 0] S1x256x768.size inb_S2x256x768_S1x256x768_0_0_0).toLoadRect (harg5.unread x3)) = tabLo x3 := by rw [View.readAt_eq_ld, Memref.IsWhole.read_unread]
  have hk0 : (arg12.view.readAt (Elt F) (Rect.unit (s := S4608x256) (k0_off1 i) S768x128.size (k0_off1_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandLo i (kfill x1) := by rw [View.readAt_eq_ld, read_fill, View.readAt_full, Memref.IsWhole.read_unread]
  have hv0 : (arg13.view.readAt (Elt F) (Rect.unit (s := S4608x256) (k0_off1 i) S768x128.size (k0_off1_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandLo i (kfill x2) := by rw [View.readAt_eq_ld, read_fill, View.readAt_full, Memref.IsWhole.read_unread]
  have hq1 : (arg2.view.readAt (Elt F) (Rect.unit (s := S256x256) ![0, 128] S256x128.size inb_S256x256_S256x128_0_128).toLoadRect (harg2.unread x0)) = hi x0 := by rw [View.readAt_eq_ld, Memref.IsWhole.read_unread]
  have hd1 : (arg6.view.readAt (Elt F) (Rect.unit (s := S256x256) ![0, 128] S256x128.size inb_S256x256_S256x128_0_128).toLoadRect (harg6.unread x4)) = hi x4 := by rw [View.readAt_eq_ld, Memref.IsWhole.read_unread]
  have ht1 : (arg5.view.readAt (Elt F) (Rect.unit (s := S2x256x768) ![1, 0, 0] S1x256x768.size inb_S2x256x768_S1x256x768_1_0_0).toLoadRect (harg5.unread x3)) = tabHi x3 := by rw [View.readAt_eq_ld, Memref.IsWhole.read_unread]
  have hk1 : (arg12.view.readAt (Elt F) (Rect.unit (s := S4608x256) (k0_off2 i) S768x128.size (k0_off2_inb i)).toLoadRect (arg12.view.writes (Elt F) arg12.view.junk [⟨Rect.unit (s := S4608x256) ![512, 0] S4096x256.size inb_S4608x256_S4096x256_512_0, k0_pay9 (arg3.view.readAt (Elt F) (Rect.unit (s := S4096x256) ![0, 0] S4096x256.size inb_S4096x256_S4096x256_0_0).toLoadRect (harg3.unread x1))⟩, ⟨Rect.unit (s := S4608x256) ![0, 0] S512x256.size inb_S4608x256_S512x256_0_0, k0_pay8⟩])) = bandHi i (kfill x1) := by rw [View.readAt_eq_ld, read_fill, View.readAt_full, Memref.IsWhole.read_unread]
  have hv1 : (arg13.view.readAt (Elt F) (Rect.unit (s := S4608x256) (k0_off2 i) S768x128.size (k0_off2_inb i)).toLoadRect (arg13.view.writes (Elt F) arg13.view.junk [⟨Rect.unit (s := S4608x256) ![512, 0] S4096x256.size inb_S4608x256_S4096x256_512_0, k0_pay9 (arg4.view.readAt (Elt F) (Rect.unit (s := S4096x256) ![0, 0] S4096x256.size inb_S4096x256_S4096x256_0_0).toLoadRect (harg4.unread x2))⟩, ⟨Rect.unit (s := S4608x256) ![0, 0] S512x256.size inb_S4608x256_S512x256_0_0, k0_pay8⟩])) = bandHi i (kfill x2) := by rw [View.readAt_eq_ld, read_fill, View.readAt_full, Memref.IsWhole.read_unread]
  have ha4 : (arg14.view.readAt (Elt F) (Rect.unit (s := S4608x256) (k0_off1 i) S768x128.size (k0_off1_inb i)).toLoadRect (arg14.view.writes (Elt F) arg14.view.junk [⟨(Rect.unit (s := S4608x256) ![0, 0] S4608x256.size inb_S4608x256_S4608x256_0_0), k0_pay12⟩])) = bandLo i k0_pay12 := by rw [View.readAt_eq_ld, View.read_writes_full]
  have ha5 : (arg15.view.readAt (Elt F) (Rect.unit (s := S4608x256) (k0_off1 i) S768x128.size (k0_off1_inb i)).toLoadRect (arg15.view.writes (Elt F) arg15.view.junk [⟨(Rect.unit (s := S4608x256) ![0, 0] S4608x256.size inb_S4608x256_S4608x256_0_0), k0_pay13⟩])) = bandLo i k0_pay13 := by rw [View.readAt_eq_ld, View.read_writes_full]
  simp only [hq0, hd0, ht0, hk0, hv0, hq1, hd1, ht1, hk1, hv1, ha4, ha5]
  rfl

/-- The key gradient's accumulator after the block. -/
theorem dk_B (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : ¬ cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    arg14.view.read (Elt F) (arg14.view.writes (Elt F) (harg14.unread y2) (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.1) = dkStep i x0 x3 x4 y0 y1 y2 := by
  refine (read_bands arg14.view (harg14.unread y2) i
    (k0_pay23 (k0_pay15 (arg2.view.readAt (Elt F) (Rect.unit (s := S256x256) ![0, 0] S256x128.size inb_S256x256_S256x128_0_0).toLoadRect (harg2.unread x0))) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (harg13.unread y1)) (arg14.view.readAt (Elt F) (Rect.unit (s := S4608x256) (k0_off1 i) S768x128.size (k0_off1_inb i)).toLoadRect (harg14.unread y2)))
    (k0_pay5 (k0_pay24 (arg2.view.readAt (Elt F) (Rect.unit (s := S256x256) ![0, 128] S256x128.size inb_S256x256_S256x128_0_128).toLoadRect (harg2.unread x0))) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (harg13.unread y1)) (arg14.view.readAt (Elt F) (Rect.unit (s := S4608x256) (k0_off2 i) S768x128.size (k0_off2_inb i)).toLoadRect (harg14.unread y2))) []).trans ?_
  simp only [View.readAt_eq_ld, Memref.IsWhole.read_unread, View.writes_nil]
  rfl

/-- The value gradient's accumulator after the block. -/
theorem dv_B (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : ¬ cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    arg15.view.read (Elt F) (arg15.view.writes (Elt F) (harg15.unread y3) (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.2.1) = dvStep i x0 x3 x4 y0 y3 := by
  refine (read_bands arg15.view (harg15.unread y3) i
    (k0_pay18 (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg15.view.readAt (Elt F) (Rect.unit (s := S4608x256) (k0_off1 i) S768x128.size (k0_off1_inb i)).toLoadRect (harg15.unread y3)))
    (k0_pay27 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3)) (arg6.view.readAt (Elt F) (Rect.unit (s := S256x256) ![0, 128] S256x128.size inb_S256x256_S256x128_0_128).toLoadRect (harg6.unread x4)) (arg15.view.readAt (Elt F) (Rect.unit (s := S4608x256) (k0_off2 i) S768x128.size (k0_off2_inb i)).toLoadRect (harg15.unread y3))) []).trans ?_
  simp only [View.readAt_eq_ld, Memref.IsWhole.read_unread, View.writes_nil]
  rfl

/-- What the block leaves of the query gradient. -/
theorem dq_B (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : ¬ cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) (f : arg8.view.ty.Contents (Elt F)) :
    arg8.view.read (Elt F) (arg8.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).1) = dqBlk i x0 x3 x4 y0 y1 := by
  refine (read_halves arg8.view f
    (k0_pay22 (arg12.view.readAt (Elt F) (Rect.unit (s := S4608x256) (k0_off1 i) S768x128.size (k0_off1_inb i)).toLoadRect (harg12.unread y0)) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (harg13.unread y1)))
    (k0_pay4 (arg12.view.readAt (Elt F) (Rect.unit (s := S4608x256) (k0_off2 i) S768x128.size (k0_off2_inb i)).toLoadRect (harg12.unread y0)) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (harg13.unread y1)))).trans ?_
  simp only [View.readAt_eq_ld, Memref.IsWhole.read_unread, View.writes_nil]
  rfl

/-- The key gradient's accumulator after the block. -/
theorem dk_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    arg14.view.read (Elt F) (arg14.view.writes (Elt F) (harg14.unread y2) (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.2.2.1) = dkStep i x0 x3 x4 y0 y1 y2 := by
  refine (read_bands arg14.view (harg14.unread y2) i
    (k0_pay23 (k0_pay15 (arg2.view.readAt (Elt F) (Rect.unit (s := S256x256) ![0, 0] S256x128.size inb_S256x256_S256x128_0_0).toLoadRect (harg2.unread x0))) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (harg13.unread y1)) (arg14.view.readAt (Elt F) (Rect.unit (s := S4608x256) (k0_off1 i) S768x128.size (k0_off1_inb i)).toLoadRect (harg14.unread y2)))
    (k0_pay5 (k0_pay24 (arg2.view.readAt (Elt F) (Rect.unit (s := S256x256) ![0, 128] S256x128.size inb_S256x256_S256x128_0_128).toLoadRect (harg2.unread x0))) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (harg13.unread y1)) (arg14.view.readAt (Elt F) (Rect.unit (s := S4608x256) (k0_off2 i) S768x128.size (k0_off2_inb i)).toLoadRect (harg14.unread y2))) []).trans ?_
  simp only [View.readAt_eq_ld, Memref.IsWhole.read_unread, View.writes_nil]
  rfl

/-- The value gradient's accumulator after the block. -/
theorem dv_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) :
    arg15.view.read (Elt F) (arg15.view.writes (Elt F) (harg15.unread y3) (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.2.2.2.1) = dvStep i x0 x3 x4 y0 y3 := by
  refine (read_bands arg15.view (harg15.unread y3) i
    (k0_pay18 (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg15.view.readAt (Elt F) (Rect.unit (s := S4608x256) (k0_off1 i) S768x128.size (k0_off1_inb i)).toLoadRect (harg15.unread y3)))
    (k0_pay27 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3)) (arg6.view.readAt (Elt F) (Rect.unit (s := S256x256) ![0, 128] S256x128.size inb_S256x256_S256x128_0_128).toLoadRect (harg6.unread x4)) (arg15.view.readAt (Elt F) (Rect.unit (s := S4608x256) (k0_off2 i) S768x128.size (k0_off2_inb i)).toLoadRect (harg15.unread y3))) []).trans ?_
  simp only [View.readAt_eq_ld, Memref.IsWhole.read_unread, View.writes_nil]
  rfl

/-- What the block leaves of the query gradient. -/
theorem dq_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).1) = dqBlk i x0 x3 x4 y0 y1 := by
  refine (read_halves arg8.view f
    (k0_pay22 (arg12.view.readAt (Elt F) (Rect.unit (s := S4608x256) (k0_off1 i) S768x128.size (k0_off1_inb i)).toLoadRect (harg12.unread y0)) (k0_pay16 i (arg2.view.readAt (Elt F) (Rect.unit (s := S256x256) ![0, 0] S256x128.size inb_S256x256_S256x128_0_0).toLoadRect (harg2.unread x0)) (arg12.view.readAt (Elt F) (Rect.unit (s := S4608x256) (k0_off1 i) S768x128.size (k0_off1_inb i)).toLoadRect (harg12.unread y0)) (arg5.view.readAt (Elt F) (Rect.unit (s := S2x256x768) ![0, 0, 0] S1x256x768.size inb_S2x256x768_S1x256x768_0_0_0).toLoadRect (harg5.unread x3))) (k0_pay17 (arg6.view.readAt (Elt F) (Rect.unit (s := S256x256) ![0, 0] S256x128.size inb_S256x256_S256x128_0_0).toLoadRect (harg6.unread x4))) (arg13.view.readAt (Elt F) (Rect.unit (s := S4608x256) (k0_off1 i) S768x128.size (k0_off1_inb i)).toLoadRect (harg13.unread y1)))
    (k0_pay4 (arg12.view.readAt (Elt F) (Rect.unit (s := S4608x256) (k0_off2 i) S768x128.size (k0_off2_inb i)).toLoadRect (harg12.unread y0)) (k0_pay25 (BitVec.ofNat 32 (i 1).val) (arg2.view.readAt (Elt F) (Rect.unit (s := S256x256) ![0, 128] S256x128.size inb_S256x256_S256x128_0_128).toLoadRect (harg2.unread x0)) (arg12.view.readAt (Elt F) (Rect.unit (s := S4608x256) (k0_off2 i) S768x128.size (k0_off2_inb i)).toLoadRect (harg12.unread y0)) (arg5.view.readAt (Elt F) (Rect.unit (s := S2x256x768) ![1, 0, 0] S1x256x768.size inb_S2x256x768_S1x256x768_1_0_0).toLoadRect (harg5.unread x3))) (k0_pay26 (arg6.view.readAt (Elt F) (Rect.unit (s := S256x256) ![0, 128] S256x128.size inb_S256x256_S256x128_0_128).toLoadRect (harg6.unread x4))) (arg13.view.readAt (Elt F) (Rect.unit (s := S4608x256) (k0_off2 i) S768x128.size (k0_off2_inb i)).toLoadRect (harg13.unread y1)))).trans ?_
  simp only [View.readAt_eq_ld, Memref.IsWhole.read_unread, View.writes_nil]
  rfl

/-- What a group's last block leaves of the gradient: the accumulator after its own step. -/
theorem dkOut_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) (f : arg9.view.ty.Contents (Elt F)) :
    arg9.view.read (Elt F) (arg9.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.1) = dkOut (dkStep i x0 x3 x4 y0 y1 y2) := by
  refine Eq.trans ?_ (congrArg dkOut (dk_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3))
  exact View.read_writes_full _ _ _ _ _

/-- What a group's last block leaves of the gradient: the accumulator after its own step. -/
theorem dvOut_C (c : Dev nD) (i : grid0.Coords) (arg2 : Memref sig .tc .vmem S256x256 .f32) (harg2 : arg2.IsWhole) (arg3 : Memref sig .tc .vmem S4096x256 .f32) (harg3 : arg3.IsWhole) (arg4 : Memref sig .tc .vmem S4096x256 .f32) (harg4 : arg4.IsWhole) (arg5 : Memref sig .tc .vmem S2x256x768 .f32) (harg5 : arg5.IsWhole) (arg6 : Memref sig .tc .vmem S256x256 .f32) (harg6 : arg6.IsWhole) (arg7 : Memref sig .tc .hbm S4096x7168 .bf16) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S2x256x768 .f32) (harg11 : arg11.IsWhole) (arg12 : Memref sig .tc .vmem S4608x256 .bf16) (harg12 : arg12.IsWhole) (arg13 : Memref sig .tc .vmem S4608x256 .bf16) (harg13 : arg13.IsWhole) (arg14 : Memref sig .tc .vmem S4608x256 .f32) (harg14 : arg14.IsWhole) (arg15 : Memref sig .tc .vmem S4608x256 .f32) (harg15 : arg15.IsWhole)
    (hc0 : ¬ cond0 i) (hc1 : cond1 i)
    (x0 : Vec F S256x256 .f32) (x1 : Vec F S4096x256 .f32) (x2 : Vec F S4096x256 .f32) (x3 : Vec F S2x256x768 .f32) (x4 : Vec F S256x256 .f32) (y0 y1 : Vec F S4608x256 .bf16) (y2 y3 : Vec F S4608x256 .f32) (f : arg10.view.ty.Contents (Elt F)) :
    arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3).2.2.1) = dvOut (dvStep i x0 x3 x4 y0 y3) := by
  refine Eq.trans ?_ (congrArg dvOut (dv_C c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 y0 y1 y2 y3))
  exact View.read_writes_full _ _ _ _ _

end Cert.KernelIdeal.Att

end
-- ==== Proof.Body.lean ====
module

public import proofs.«01_k».proof.Proof.Step
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- Assertions over this program's machine, at the pipeline library's algebra. -/
local notation "𝕄" => MT nD τ sig Unit (Elt F) ℕ (UR sig nD τ) ℕ

variable (m : (ℓ : Loc nD τ sig) → Buf (Elt F) ℓ) (ρ : Dev nD → PrngReg)

/-! ## What the scratch buffers hold, point by point -/

/-- What the scratch buffers hold after a point: the padded keys and values, and the two gradients' accumulators. -/
abbrev St (F : FTy → Type) : Type := Vec F S4608x256 .bf16 × Vec F S4608x256 .bf16 × Vec F S4608x256 .f32 × Vec F S4608x256 .f32

/-- After a group's first block. -/
def fresh (c : Dev nD) (t : Fin cfg0.N) : St F :=
  (kfill (iblk m c 1 t), kfill (iblk m c 2 t),
    dkStep (grid0.coords t) (iblk m c 0 t) (iblk m c 3 t) (iblk m c 4 t) (kfill (iblk m c 1 t)) (kfill (iblk m c 2 t)) k0_pay12,
    dvStep (grid0.coords t) (iblk m c 0 t) (iblk m c 3 t) (iblk m c 4 t) (kfill (iblk m c 1 t)) k0_pay13)

/-- After a later block, from what the block before left. -/
def next (c : Dev nD) (t : Fin cfg0.N) (s : St F) : St F :=
  (s.1, s.2.1,
    dkStep (grid0.coords t) (iblk m c 0 t) (iblk m c 3 t) (iblk m c 4 t) s.1 s.2.1 s.2.2.1,
    dvStep (grid0.coords t) (iblk m c 0 t) (iblk m c 3 t) (iblk m c 4 t) s.1 s.2.2.2)

/-- The scratch buffers after every point. -/
def st (c : Dev nD) : (n : ℕ) → n < cfg0.N → St F
  | 0, h => fresh m c ⟨0, h⟩
  | n + 1, h => if (n + 1) % 16 = 0 then fresh m c ⟨n + 1, h⟩ else next m c ⟨n + 1, h⟩ (st c n (Nat.lt_of_succ_lt h))

theorem st_fresh (c : Dev nD) (t : Fin cfg0.N) (h0 : t.val % 16 = 0) : st m c t.val t.isLt = fresh m c t := by
  obtain ⟨n, hn⟩ := t
  cases n with
  | zero => rfl
  | succ n => exact if_pos h0

theorem st_next (c : Dev nD) (t : Fin cfg0.N) (h0 : ¬ t.val % 16 = 0) :
    st m c t.val t.isLt = next m c t (st m c (t.val - 1) (Nat.lt_of_le_of_lt (Nat.sub_le _ _) t.isLt)) := by
  obtain ⟨n, hn⟩ := t
  cases n with
  | zero => exact absurd (Nat.zero_mod 16) h0
  | succ n => exact if_neg h0

/-- What a point leaves in the query gradient's block. -/
def dqAt (c : Dev nD) (t : Fin cfg0.N) : Vec F S256x256 .bf16 :=
  dqBlk (grid0.coords t) (iblk m c 0 t) (iblk m c 3 t) (iblk m c 4 t) (st m c t.val t.isLt).1 (st m c t.val t.isLt).2.1
/-- What a group's last point leaves in the key gradient's block. -/
def dkAt (c : Dev nD) (t : Fin cfg0.N) : Vec F S4096x256 .bf16 := dkOut (st m c t.val t.isLt).2.2.1
/-- What a group's last point leaves in the value gradient's block. -/
def dvAt (c : Dev nD) (t : Fin cfg0.N) : Vec F S4096x256 .bf16 := dvOut (st m c t.val t.isLt).2.2.2

/-! ## The pipeline's proof data -/

/-- Window 0's staging memref at a point. -/
abbrev ms0 (t : Fin cfg0.N) := win0_0.stage (cfg0.slots t 0)
/-- Window 1's staging memref at a point. -/
abbrev ms1 (t : Fin cfg0.N) := win0_1.stage (cfg0.slots t 1)
/-- Window 2's staging memref at a point. -/
abbrev ms2 (t : Fin cfg0.N) := win0_2.stage (cfg0.slots t 2)
/-- Window 3's staging memref at a point. -/
abbrev ms3 (t : Fin cfg0.N) := win0_3.stage (cfg0.slots t 3)
/-- Window 4's staging memref at a point. -/
abbrev ms4 (t : Fin cfg0.N) := win0_4.stage (cfg0.slots t 4)
/-- Window 5's staging memref at a point. -/
abbrev ms5 (t : Fin cfg0.N) := win0_5.stage (cfg0.slots t 5)
/-- Window 6's staging memref at a point. -/
abbrev ms6 (t : Fin cfg0.N) := win0_6.stage (cfg0.slots t 6)
/-- Window 7's staging memref at a point. -/
abbrev ms7 (t : Fin cfg0.N) := win0_7.stage (cfg0.slots t 7)
/-- Window 8's staging memref at a point. -/
abbrev ms8 (t : Fin cfg0.N) := win0_8.stage (cfg0.slots t 8)
/-- Scratch buffer 0, whole. -/
abbrev sc0 : Memref sig .tc .vmem S4608x256 .bf16 := Memref.whole cc0_scratch0
/-- Scratch buffer 1, whole. -/
abbrev sc1 : Memref sig .tc .vmem S4608x256 .bf16 := Memref.whole cc0_scratch1
/-- Scratch buffer 2, whole. -/
abbrev sc2 : Memref sig .tc .vmem S4608x256 .f32 := Memref.whole cc0_scratch2
/-- Scratch buffer 3, whole. -/
abbrev sc3 : Memref sig .tc .vmem S4608x256 .f32 := Memref.whole cc0_scratch3

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`: the scratch buffers at what the point before left. -/
def PhiS (c : Dev nD) : (n : ℕ) → n ≤ cfg0.N → sProp 𝕄
  | 0, _ => Pipeline.ΦA spec0 c
  | n + 1, hn => iprop(iprop(owns (c : Thread nD τ) sc0 fullShare (st m c n hn).1 ∗ owns (c : Thread nD τ) sc1 fullShare (st m c n hn).2.1 ∗ owns (c : Thread nD τ) sc2 fullShare (st m c n hn).2.2.1 ∗ owns (c : Thread nD τ) sc3 fullShare (st m c n hn).2.2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (st m c n hn).1 ∗ owns (c : Thread nD τ) sc1 fullShare (st m c n hn).2.1 ∗ owns (c : Thread nD τ) sc2 fullShare (st m c n hn).2.2.1 ∗ owns (c : Thread nD τ) sc3 fullShare (st m c n hn).2.2.2) ∗ (∃ r, prngReg c r)) := rfl

theorem PhiS_pos (c : Dev nD) (n : ℕ) (h : n ≤ cfg0.N) (hz : n ≠ 0) :
    PhiS m c n h = iprop(iprop(owns (c : Thread nD τ) sc0 fullShare (st m c (n - 1) (by omega)).1 ∗ owns (c : Thread nD τ) sc1 fullShare (st m c (n - 1) (by omega)).2.1 ∗ owns (c : Thread nD τ) sc2 fullShare (st m c (n - 1) (by omega)).2.2.1 ∗ owns (c : Thread nD τ) sc3 fullShare (st m c (n - 1) (by omega)).2.2.2) ∗ (∃ r, prngReg c r)) := by
  cases n with
  | zero => exact absurd rfl hz
  | succ n => rfl

/-- The gradient of the bias table is not named: no claim reads it. -/
def forgets0 : Fin 9 → Bool := fun w => w.val == 8

/-- The proof data: each input's buffer at its block, the three gradients at what their points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqAt m c t
    | ⟨6, _⟩ => dkAt m c t
    | ⟨7, _⟩ => dvAt m c t
    | ⟨8, h⟩ => Pipeline.Dat.unnamed (cfg := cfg0) ⟨8, h⟩ t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqAt m c t := by dsimp only [dats]
theorem after_6 (c : Dev nD) (t : Fin cfg0.N) : (dats m 0 c).after 6 t = dkAt m c t := by dsimp only [dats]
theorem after_7 (c : Dev nD) (t : Fin cfg0.N) : (dats m 0 c).after 7 t = dvAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem leaves_0 (c : Dev nD) (t : Fin cfg0.N) : (dats m 0 c).leavesExact 0 t = owns (c : Thread nD τ) (ms0 t) fullShare (iblk m c 0 t) := by
  rw [← after_0 m c t]
theorem leaves_1 (c : Dev nD) (t : Fin cfg0.N) : (dats m 0 c).leavesExact 1 t = owns (c : Thread nD τ) (ms1 t) fullShare (iblk m c 1 t) := by
  rw [← after_1 m c t]
theorem leaves_2 (c : Dev nD) (t : Fin cfg0.N) : (dats m 0 c).leavesExact 2 t = owns (c : Thread nD τ) (ms2 t) fullShare (iblk m c 2 t) := by
  rw [← after_2 m c t]
theorem leaves_3 (c : Dev nD) (t : Fin cfg0.N) : (dats m 0 c).leavesExact 3 t = owns (c : Thread nD τ) (ms3 t) fullShare (iblk m c 3 t) := by
  rw [← after_3 m c t]
theorem leaves_4 (c : Dev nD) (t : Fin cfg0.N) : (dats m 0 c).leavesExact 4 t = owns (c : Thread nD τ) (ms4 t) fullShare (iblk m c 4 t) := by
  rw [← after_4 m c t]
theorem leaves_5 (c : Dev nD) (t : Fin cfg0.N) : (dats m 0 c).leavesExact 5 t = owns (c : Thread nD τ) (ms5 t) fullShare (dqAt m c t) := by
  rw [← after_5 m c t]
theorem leaves_6 (c : Dev nD) (t : Fin cfg0.N) (h : t.val % 16 = 15) : (dats m 0 c).leavesExact 6 t = owns (c : Thread nD τ) (ms6 t) fullShare (dkAt m c t) := by
  rw [← after_6 m c t]; unfold Dat.leavesExact
  rw [show cfg0.idle 6 (cfg0.grid.coords t) = false from by
    show (!(k0_cond2 (grid0.coords t) == 1#1)) = false
    rw [(hcond1 t).mpr h]; rfl]
theorem keeps_6 (c : Dev nD) (t : Fin cfg0.N) (h : ¬ t.val % 16 = 15) : (dats m 0 c).leavesExact 6 t = iprop(∃ d, owns (c : Thread nD τ) (ms6 t) fullShare ((dats m 0 c).before 6 t d)) := by
  refine Dat.leavesExact_idle _ 6 t ?_ ?_
  · show (!(k0_cond2 (grid0.coords t) == 1#1)) = true
    have := mt (hcond1 t).mp h
    simp only [cond1] at this
    simp [this]
  · exact Bool.eq_false_iff.mpr (fun hf => h ((flush0_6 t).mp hf))
theorem leaves_7 (c : Dev nD) (t : Fin cfg0.N) (h : t.val % 16 = 15) : (dats m 0 c).leavesExact 7 t = owns (c : Thread nD τ) (ms7 t) fullShare (dvAt m c t) := by
  rw [← after_7 m c t]; unfold Dat.leavesExact
  rw [show cfg0.idle 7 (cfg0.grid.coords t) = false from by
    show (!(k0_cond2 (grid0.coords t) == 1#1)) = false
    rw [(hcond1 t).mpr h]; rfl]
theorem keeps_7 (c : Dev nD) (t : Fin cfg0.N) (h : ¬ t.val % 16 = 15) : (dats m 0 c).leavesExact 7 t = iprop(∃ d, owns (c : Thread nD τ) (ms7 t) fullShare ((dats m 0 c).before 7 t d)) := by
  refine Dat.leavesExact_idle _ 7 t ?_ ?_
  · show (!(k0_cond2 (grid0.coords t) == 1#1)) = true
    have := mt (hcond1 t).mp h
    simp only [cond1] at this
    simp [this]
  · exact Bool.eq_false_iff.mpr (fun hf => h ((flush0_7 t).mp hf))

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms8 t) fullShare d))

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5]
  by_cases h0 : t.val % 16 = 0
  · have h1 : ¬ t.val % 16 = 15 := by omega
    rw [keeps_6 m c t h1, keeps_7 m c t h1]
    unfold dqAt
    rw [st_fresh m c t h0]
    dsimp only [fresh]
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, ⟨%e5, H5⟩, H6, H7, H8, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]
          · unfold owns; iexists _; isplitr
            swap; · iexact HS0
            ipureintro; exact kpad_A _ _ _ _ _ _ _ _ _ _ _ _ _ _ _ _ _ _ _ _ _ _ _ _ _ _ _ _ _ _ _ _ _ _ _ _ _ _
          isplitl [HS1]
          · unfold owns; iexists _; isplitr
            swap; · iexact HS1
            ipureintro; exact vpad_A _ _ _ _ _ _ _ _ _ _ _ _ _ _ _ _ _ _ _ _ _ _ _ _ _ _ _ _ _ _ _ _ _ _ _ _ _ _
          isplitl [HS2]
          · unfold owns; iexists _; isplitr
            swap; · iexact HS2
            ipureintro; exact dk_A _ _ _ _ _ _ _ _ _ _ _ _ _ _ _ _ _ _ _ _ _ _ _ _ _ _ _ _ _ _ _ _ _ _ _ _ _ _
          unfold owns; iexists _; isplitr
          swap; · iexact HS3
          ipureintro; exact dv_A _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact dq_A _ _ _ _ _ _ _ _ _ _ _ _ _ _ _ _ _ _ _ _ _ _ _ _ _ _ _ _ _ _ _ _ _ _ _ _ _ _
      isplitl [H6]; · iexists _; iexact H6
      isplitl [H7]; · iexists _; iexact H7
      iexact H8
    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t)).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [HS0]; · iexists _; iexact HS0
      isplitl [HS1]; · iexists _; iexact HS1
      isplitl [HS2]; · iexists _; iexact HS2
      isplitl [HS3]; · iexists _; iexact HS3
      iintro ⟨H0, H1, H2, H3, H4, ⟨%e5, H5⟩, H6, H7, H8, ⟨%f0, HS0⟩, ⟨%f1, HS1⟩, ⟨%f2, HS2⟩, ⟨%f3, HS3⟩⟩
      isplitl [HS0 HS1 HS2 HS3 Hg]
      · isplitl [HS0 HS1 HS2 HS3]
        · isplitl [HS0]
          · unfold owns; iexists _; isplitr
            swap; · iexact HS0
            ipureintro; exact kpad_A _ _ _ _ _ _ _ _ _ _ _ _ _ _ _ _ _ _ _ _ _ _ _ _ _ _ _ _ _ _ _ _ _ _ _ _ _ _
          isplitl [HS1]
          · unfold owns; iexists _; isplitr
            swap; · iexact HS1
            ipureintro; exact vpad_A _ _ _ _ _ _ _ _ _ _ _ _ _ _ _ _ _ _ _ _ _ _ _ _ _ _ _ _ _ _ _ _ _ _ _ _ _ _
          isplitl [HS2]
          · unfold owns; iexists _; isplitr
            swap; · iexact HS2
            ipureintro; exact dk_A _ _ _ _ _ _ _ _ _ _ _ _ _ _ _ _ _ _ _ _ _ _ _ _ _ _ _ _ _ _ _ _ _ _ _ _ _ _
          unfold owns; iexists _; isplitr
          swap; · iexact HS3
          ipureintro; exact dv_A _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact dq_A _ _ _ _ _ _ _ _ _ _ _ _ _ _ _ _ _ _ _ _ _ _ _ _ _ _ _ _ _ _ _ _ _ _ _ _ _ _
      isplitl [H6]; · iexists _; iexact H6
      isplitl [H7]; · iexists _; iexact H7
      iexact H8
  · have hz : t.val ≠ 0 := fun h => h0 (by rw [h])
    rw [PhiS_castSucc m c t, PhiS_pos m c _ _ hz]
    by_cases h1 : t.val % 16 = 15
    · rw [leaves_6 m c t h1, leaves_7 m c t h1]
      unfold dqAt dkAt dvAt
      rw [st_next m c t h0]
      dsimp only [next]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runC c (grid0.coords t) _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (st m c (t.val - 1) (Nat.lt_of_le_of_lt (Nat.sub_le _ _) t.isLt)).1 (st m c (t.val - 1) (Nat.lt_of_le_of_lt (Nat.sub_le _ _) t.isLt)).2.1 (st m c (t.val - 1) (Nat.lt_of_le_of_lt (Nat.sub_le _ _) t.isLt)).2.2.1 (st m c (t.val - 1) (Nat.lt_of_le_of_lt (Nat.sub_le _ _) t.isLt)).2.2.2).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%e7, H7⟩, H8, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · unfold owns; iexists _; isplitr
            swap; · iexact HS2
            ipureintro; exact dk_C _ _ _ _ _ _ _ _ _ _ _ _ _ _ _ _ _ _ _ _ _ _ _ _ _ _ _ _ _ _ _ _ _ _ _ _ _ _ _ _ _
          unfold owns; iexists _; isplitr
          swap; · iexact HS3
          ipureintro; exact dv_C _ _ _ _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact dq_C _ _ _ _ _ _ _ _ _ _ _ _ _ _ _ _ _ _ _ _ _ _ _ _ _ _ _ _ _ _ _ _ _ _ _ _ _ _ _ _ _ _
      isplitl [H6]
      · unfold owns; iexists _; isplitr
        swap; · iexact H6
        ipureintro; exact dkOut_C _ _ _ _ _ _ _ _ _ _ _ _ _ _ _ _ _ _ _ _ _ _ _ _ _ _ _ _ _ _ _ _ _ _ _ _ _ _ _ _ _ _
      isplitl [H7]
      · unfold owns; iexists _; isplitr
        swap; · iexact H7
        ipureintro; exact dvOut_C _ _ _ _ _ _ _ _ _ _ _ _ _ _ _ _ _ _ _ _ _ _ _ _ _ _ _ _ _ _ _ _ _ _ _ _ _ _ _ _ _ _
      iexact H8
    · rw [keeps_6 m c t h1, keeps_7 m c t h1]
      unfold dqAt
      rw [st_next m c t h0]
      dsimp only [next]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB c (grid0.coords t) _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (st m c (t.val - 1) (Nat.lt_of_le_of_lt (Nat.sub_le _ _) t.isLt)).1 (st m c (t.val - 1) (Nat.lt_of_le_of_lt (Nat.sub_le _ _) t.isLt)).2.1 (st m c (t.val - 1) (Nat.lt_of_le_of_lt (Nat.sub_le _ _) t.isLt)).2.2.1 (st m c (t.val - 1) (Nat.lt_of_le_of_lt (Nat.sub_le _ _) t.isLt)).2.2.2).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      iintro ⟨H0, H1, H2, H3, H4, ⟨%e5, H5⟩, H6, H7, H8, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · unfold owns; iexists _; isplitr
            swap; · iexact HS2
            ipureintro; exact dk_B _ _ _ _ _ _ _ _ _ _ _ _ _ _ _ _ _ _ _ _ _ _ _ _ _ _ _ _ _ _ _ _ _ _ _ _ _ _ _ _ _
          unfold owns; iexists _; isplitr
          swap; · iexact HS3
          ipureintro; exact dv_B _ _ _ _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact dq_B _ _ _ _ _ _ _ _ _ _ _ _ _ _ _ _ _ _ _ _ _ _ _ _ _ _ _ _ _ _ _ _ _ _ _ _ _ _ _ _ _ _
      isplitl [H6]; · iexists _; iexact H6
      isplitl [H7]; · iexists _; iexact H7
      iexact H8

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (le_refl _) from rfl, PhiS_pos m c _ _ (by have : cfg0.N = 64 := N_0; omega), PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

-- the launch theorem's implicit arguments are found by unifying its conclusion with this one, through plain definitions
set_option backward.isDefEq.respectTransparency.types false in
/-- The whole program runs, every window's array ends as the proof data say, and no counter is left. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The argument arrays end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h.1 c 2 rfl).trans ((A_eq m c 2).trans (V_main_arg0 m c)),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c)⟩) (run_main_quiescent m ρ)

/-- The frame: the argument arrays end as launched and no counter is left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Att

end
-- ==== Proof.Math.lean ====
module

public import Idealize.ShloMosaic.Lib.Pointwise

@[expose] public section

noncomputable section

/-! A row of a softmax and its gradient, over a band of the keys and over all keys, in the extended reals. -/

namespace Cert.Row

open Idealize.ShloMosaic

variable {β δ : Type} [Fintype β] [Fintype δ] [DecidableEq β] [DecidableEq δ]

/-- The largest score of a row. -/
def top {ι : Type} [Fintype ι] (f : ι → EReal) : EReal := Finset.univ.fold max ⊥ f
/-- A row's unnormalised weights. -/
def wt {ι : Type} [Fintype ι] (f : ι → EReal) (i : ι) : EReal := Ideal.exp (f i - top f)
/-- Their sum. -/
def mass {ι : Type} [Fintype ι] (f : ι → EReal) : EReal := ∑ i, wt f i

/-- Two sums agree if their terms agree along a partial bijection and vanish off it. -/
theorem sum_rel (R : β → δ → Prop) (hinj : ∀ j j' s, R j s → R j' s → j = j') (hfun : ∀ j s s', R j s → R j s' → s = s')
    (F : β → EReal) (G : δ → EReal) (h1 : ∀ j s, R j s → F j = G s) (h2 : ∀ j, (∀ s, ¬ R j s) → F j = 0)
    (h3 : ∀ s, (∀ j, ¬ R j s) → G s = 0) : ∑ j, F j = ∑ s, G s := by
  classical
  have hex : ∀ j, F j ≠ 0 → ∃ s, R j s := fun j hj => by
    by_contra hc; exact hj (h2 j fun s hs => hc ⟨s, hs⟩)
  have hex' : ∀ s, G s ≠ 0 → ∃ j, R j s := fun s hs => by
    by_contra hc; exact hs (h3 s fun j hj => hc ⟨j, hj⟩)
  refine Finset.sum_bij_ne_zero (fun j _ hj => (hex j hj).choose) (fun _ _ _ => Finset.mem_univ _) ?_ ?_ ?_
  · intro j _ hj j' _ hj' h
    have ha := (hex j hj).choose_spec
    have hb := (hex j' hj').choose_spec
    rw [h] at ha
    exact hinj _ _ _ ha hb
  · intro s _ hs
    obtain ⟨j, hj⟩ := hex' s hs
    have hF : F j ≠ 0 := by rw [h1 j s hj]; exact hs
    exact ⟨j, Finset.mem_univ _, hF, hfun _ _ _ (hex j hF).choose_spec hj⟩
  · intro j _ hj
    exact h1 _ _ (hex j hj).choose_spec

theorem top_eq_sup {ι : Type} [Fintype ι] (f : ι → EReal) : top f = Finset.univ.sup f := rfl

theorem le_top' {ι : Type} [Fintype ι] (f : ι → EReal) (i : ι) : f i ≤ top f := by
  rw [top_eq_sup]; exact Finset.le_sup (Finset.mem_univ i)

theorem top_mem {ι : Type} [Fintype ι] [Nonempty ι] (f : ι → EReal) : ∃ i, top f = f i := by
  rw [top_eq_sup]
  obtain ⟨i, _, hi⟩ := Finset.exists_mem_eq_sup Finset.univ Finset.univ_nonempty f
  exact ⟨i, hi⟩

/-- The largest score is a real number if no score is `+∞` and some score is not `−∞`. -/
theorem top_real {ι : Type} [Fintype ι] (f : ι → EReal) (hT : ∀ i, f i ≠ ⊤) (i₀ : ι) (h0 : f i₀ ≠ ⊥) : ∃ M : ℝ, top f = (M : EReal) := by
  haveI : Nonempty ι := ⟨i₀⟩
  obtain ⟨i, hi⟩ := top_mem f
  have hb : top f ≠ ⊥ := fun h => h0 (le_bot_iff.mp (h ▸ le_top' f i₀))
  have ht : top f ≠ ⊤ := hi ▸ hT i
  exact ⟨(top f).toReal, (EReal.coe_toReal ht hb).symm⟩

theorem wt_bot {ι : Type} [Fintype ι] (f : ι → EReal) (i : ι) (h : f i = ⊥) : wt f i = 0 := by
  unfold wt; rw [h, sub_eq_add_neg, EReal.bot_add]; rfl

theorem exp_nonneg (x : EReal) : 0 ≤ Ideal.exp x := by
  induction x with
  | bot => exact le_refl _
  | coe x => exact EReal.coe_nonneg.mpr (Real.exp_pos x).le
  | top => exact le_top

theorem wt_nonneg {ι : Type} [Fintype ι] (f : ι → EReal) (i : ι) : 0 ≤ wt f i := exp_nonneg _

theorem wt_real {ι : Type} [Fintype ι] (f : ι → EReal) (hT : ∀ i, f i ≠ ⊤) (i₀ : ι) (h0 : f i₀ ≠ ⊥) (i : ι) : ∃ r : ℝ, wt f i = (r : EReal) := by
  obtain ⟨M, hM⟩ := top_real f hT i₀ h0
  by_cases hb : f i = ⊥
  · exact ⟨0, wt_bot f i hb⟩
  · refine ⟨Real.exp ((f i).toReal - M), ?_⟩
    unfold wt
    rw [hM, ← EReal.coe_toReal (hT i) hb]
    rfl

theorem sum_real {ι : Type} (s : Finset ι) (f : ι → EReal) (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨r, hr⟩ := ih fun i hi => h i (Finset.mem_insert_of_mem hi)
    obtain ⟨q, hq⟩ := h a (Finset.mem_insert_self _ _)
    exact ⟨q + r, by rw [Finset.sum_insert ha, hr, hq]; rfl⟩

/-- The weights' sum is a positive real number. -/
theorem mass_real {ι : Type} [Fintype ι] (f : ι → EReal) (hT : ∀ i, f i ≠ ⊤) (i₀ : ι) (h0 : f i₀ ≠ ⊥) : ∃ z : ℝ, 0 < z ∧ mass f = (z : EReal) := by
  haveI : Nonempty ι := ⟨i₀⟩
  obtain ⟨z, hz⟩ := sum_real Finset.univ (wt f) fun i _ => wt_real f hT i₀ h0 i
  obtain ⟨i, hi⟩ := top_mem f
  obtain ⟨M, hM⟩ := top_real f hT i₀ h0
  have h1 : wt f i = 1 := by
    unfold wt; rw [← hi, hM, ← EReal.coe_sub, sub_self]
    show ((Real.exp 0 : ℝ) : EReal) = 1
    rw [Real.exp_zero]; rfl
  have hle : (1 : EReal) ≤ mass f := h1 ▸ Finset.single_le_sum (fun j _ => wt_nonneg f j) (Finset.mem_univ i)
  refine ⟨z, ?_, hz⟩
  have : (1 : EReal) ≤ (z : EReal) := hz ▸ hle
  have : (1 : ℝ) ≤ z := by exact_mod_cast this
  linarith

section band

variable (R : β → δ → Prop) (hinj : ∀ j j' s, R j s → R j' s → j = j') (hfun : ∀ j s s', R j s → R j s' → s = s')
  (fb : β → EReal) (fd : δ → EReal) (h1 : ∀ j s, R j s → fb j = fd s) (h2 : ∀ j, (∀ s, ¬ R j s) → fb j = ⊥)
  (h3 : ∀ s, (∀ j, ¬ R j s) → fd s = ⊥)

include h1 h2 h3

theorem top_band : top fb = top fd := by
  rw [top_eq_sup, top_eq_sup]
  apply le_antisymm
  · refine Finset.sup_le fun j _ => ?_
    by_cases hj : ∃ s, R j s
    · obtain ⟨s, hs⟩ := hj
      rw [h1 j s hs]; exact Finset.le_sup (Finset.mem_univ s)
    · rw [h2 j fun s hs => hj ⟨s, hs⟩]; exact bot_le
  · refine Finset.sup_le fun s _ => ?_
    by_cases hs : ∃ j, R j s
    · obtain ⟨j, hj⟩ := hs
      rw [← h1 j s hj]; exact Finset.le_sup (Finset.mem_univ j)
    · rw [h3 s fun j hj => hs ⟨j, hj⟩]; exact bot_le

theorem wt_band (j : β) (s : δ) (h : R j s) : wt fb j = wt fd s := by
  unfold wt; rw [h1 j s h, top_band R fb fd h1 h2 h3]

include hinj hfun

theorem mass_band : mass fb = mass fd :=
  sum_rel R hinj hfun _ _ (fun j s h => wt_band R fb fd h1 h2 h3 j s h) (fun j h => wt_bot fb j (h2 j h)) (fun s h => wt_bot fd s (h3 s h))

end band

/-- A row's weights as a kernel states them: by the reciprocal of the sum. -/
def probK {ι : Type} [Fintype ι] (f : ι → EReal) (i : ι) : EReal := wt f i * Ideal.div 1 (mass f)
/-- A row's weights as the reference states them. -/
def probR {ι : Type} [Fintype ι] (f : ι → EReal) (i : ι) : EReal := Ideal.div (wt f i) (mass f)
/-- The scores' gradient as the kernel states it, from the weights' gradient `a`. -/
def dsK {ι : Type} [Fintype ι] (f a : ι → EReal) (i : ι) : EReal := probK f i * (a i - ∑ k, a k * probK f k)
/-- The scores' gradient as differentiating the quotient states it. -/
def dsR {ι : Type} [Fintype ι] (f a : ι → EReal) (i : ι) : EReal :=
  (Ideal.div (a i) (mass f) + -(∑ k, a k * Ideal.div 1 (mass f * mass f) * wt f k)) * wt f i

theorem div_real (x : EReal) (z : ℝ) (hz : 0 < z) : Ideal.div x (z : EReal) = x * ((z⁻¹ : ℝ) : EReal) := by
  have h0 : (z : EReal) ≠ 0 := by exact_mod_cast hz.ne'
  unfold Ideal.div
  rw [if_neg h0, EReal.coe_inv]

theorem probK_eq_probR {ι : Type} [Fintype ι] (f : ι → EReal) (z : ℝ) (hz : 0 < z) (hm : mass f = (z : EReal)) (i : ι) : probK f i = probR f i := by
  unfold probK probR
  rw [hm, div_real _ z hz, div_real _ z hz, one_mul]

theorem probK_zero {ι : Type} [Fintype ι] (f : ι → EReal) (i : ι) (h : f i = ⊥) : probK f i = 0 := by
  unfold probK; rw [wt_bot f i h, zero_mul]

theorem dsK_zero {ι : Type} [Fintype ι] (f a : ι → EReal) (i : ι) (h : f i = ⊥) : dsK f a i = 0 := by
  unfold dsK; rw [probK_zero f i h, zero_mul]

theorem dsR_zero {ι : Type} [Fintype ι] (f a : ι → EReal) (i : ι) (h : f i = ⊥) : dsR f a i = 0 := by
  unfold dsR; rw [wt_bot f i h, mul_zero]

theorem sum_mul_real {ι : Type} (s : Finset ι) (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, EReal.right_distrib_of_nonneg_of_ne_top (EReal.coe_nonneg.mpr hr) (EReal.coe_ne_top r), ih]

/-- The two forms of the scores' gradient agree, whatever the weights' gradient is. -/
theorem dsK_eq_dsR {ι : Type} [Fintype ι] (f a : ι → EReal) (z : ℝ) (hz : 0 < z) (hm : mass f = (z : EReal)) (i : ι) : dsK f a i = dsR f a i := by
  unfold dsK dsR probK
  have hzz : mass f * mass f = ((z * z : ℝ) : EReal) := by rw [hm]; rfl
  rw [hzz, hm, div_real _ z hz, div_real _ z hz, div_real _ (z * z) (mul_pos hz hz), one_mul, one_mul]
  have hr : (0 : ℝ) ≤ z⁻¹ := (inv_pos.mpr hz).le
  have hq : (((z * z)⁻¹ : ℝ) : EReal) = ((z⁻¹ : ℝ) : EReal) * ((z⁻¹ : ℝ) : EReal) := by rw [mul_inv]; rfl
  have hs : ∑ k, a k * (((z * z)⁻¹ : ℝ) : EReal) * wt f k = (∑ k, a k * (wt f k * ((z⁻¹ : ℝ) : EReal))) * ((z⁻¹ : ℝ) : EReal) := by
    rw [sum_mul_real _ _ _ hr]
    refine Finset.sum_congr rfl fun k _ => ?_
    rw [hq]; ac_rfl
  rw [hs, ← neg_mul, ← EReal.right_distrib_of_nonneg_of_ne_top (EReal.coe_nonneg.mpr hr) (EReal.coe_ne_top _), sub_eq_add_neg]
  ac_rfl

section band

variable (R : β → δ → Prop) (hinj : ∀ j j' s, R j s → R j' s → j = j') (hfun : ∀ j s s', R j s → R j s' → s = s')
  (fb : β → EReal) (fd : δ → EReal) (h1 : ∀ j s, R j s → fb j = fd s) (h2 : ∀ j, (∀ s, ¬ R j s) → fb j = ⊥)
  (h3 : ∀ s, (∀ j, ¬ R j s) → fd s = ⊥) (hT : ∀ s, fd s ≠ ⊤) (s₀ : δ) (h0 : fd s₀ ≠ ⊥)
  (ab : β → EReal) (ad : δ → EReal) (ha : ∀ j s, R j s → ab j = ad s)

include hinj hfun h1 h2 h3 hT h0

/-- The band's weight of a key is the dense weight of it. -/
theorem prob_band (j : β) (s : δ) (h : R j s) : probK fb j = probR fd s := by
  obtain ⟨z, hz, hm⟩ := mass_real fd hT s₀ h0
  rw [← probK_eq_probR fd z hz hm]
  unfold probK
  rw [wt_band R fb fd h1 h2 h3 j s h, mass_band R hinj hfun fb fd h1 h2 h3]

include ha

/-- The band's gradient of a score is the dense gradient of it. -/
theorem ds_band (j : β) (s : δ) (h : R j s) : dsK fb ab j = dsR fd ad s := by
  obtain ⟨z, hz, hm⟩ := mass_real fd hT s₀ h0
  rw [← dsK_eq_dsR fd ad z hz hm]
  have hp : ∀ j s, R j s → probK fb j = probK fd s := fun j s h => by
    rw [probK_eq_probR fd z hz hm]; exact prob_band R hinj hfun fb fd h1 h2 h3 hT s₀ h0 j s h
  unfold dsK
  rw [hp j s h, ha j s h]
  congr 2
  refine sum_rel R hinj hfun _ _ (fun j s h => by rw [hp j s h, ha j s h]) (fun j h => ?_) (fun s h => ?_)
  · rw [probK_zero fb j (h2 j h), mul_zero]
  · rw [probK_zero fd s (h3 s h), mul_zero]

end band

end Cert.Row

end
-- ==== Proof.Pay.lean ====
module

public import proofs.«01_k».proof.Proof.Step
public import proofs.«01_k».proof.Proof.Math
public import Idealize.ShloMosaic.Lib.Pointwise
public import Idealize.ShloMosaic.PureOps.IdealRules

@[expose] public section

set_option maxRecDepth 16384

noncomputable section

/-! Each stored value of the body read at an index, over the extended reals. -/

namespace Cert.KernelIdeal.Att

open Cert.KernelIdeal Cert.KernelIdeal.Gen Idealize.ShloMosaic Cert.Row

/-- The kernel's mask value is minus infinity. -/
theorem masked : Named.named (F := Ideal) Cert.KernelIdeal.κ "masked" (φ := .f32) 0xF149F2CA#32 = (⊥ : EReal) :=
  IdealRules.named_const.ideal_named_scalar _ _ _ _ rfl

/-- The word of minus infinity. -/
theorem wordNegInf : Ideal.ofBits .f32 0xFF800000#32 = (⊥ : EReal) := by
  first | rfl | simp [Ideal.ofBits]
/-- The factor of the queries. -/
def sc : EReal := Ideal.ofBits .f32 0x3DB504F3#32

/-- The comparison of a band's column with the block's first column that has a key. -/
theorem colW (c : Fin 16) (j : Fin 768) : IntOp.cmpi CmpIPredicate.sge (BitVec.ofNat 32 j.val) (Scalar.subi 512#32 (Scalar.muli (BitVec.ofNat 32 c.val) 256#32))
    = BitVec.ofBool (decide (512 ≤ j.val + 256 * c.val)) := by
  revert c j
  decide +kernel

/-- A masked choice. -/
theorem sel {α : Type} (p : Prop) [Decidable p] (a b : α) : Scalar.select (BitVec.ofBool (decide p)) a b = if p then a else b := by
  by_cases hp : p <;> simp [hp, Scalar.select]

/-- A block's scores along its band. -/
def bscore (i : grid0.Coords) (q : FVec Ideal S256x128 .bf16) (k : Vec Ideal S768x128 .bf16) (T : Vec Ideal S1x256x768 .f32) (r : Fin 256) (j : Fin 768) : EReal :=
  if 512 ≤ j.val + 256 * (i 1).val then (∑ d : Fin 128, q (ix2 r d) * k (ix2 j d)) + T (ix3 0 r j) else ⊥

theorem pay15_apply (v3 : Vec Ideal S256x128 .f32) (r : Fin 256) (d : Fin 128) : k0_pay15 v3 (ix2 r d) = v3 (ix2 r d) * sc := by
  pointwise [k0_pay15]
  rfl

theorem pay17_apply (v3 : Vec Ideal S256x128 .f32) (r : Fin 256) (d : Fin 128) : k0_pay17 v3 (ix2 r d) = v3 (ix2 r d) := by
  pointwise [k0_pay17]

theorem pay16_apply (i : grid0.Coords) (v3 : Vec Ideal S256x128 .f32) (v10 : Vec Ideal S768x128 .bf16) (v12 : Vec Ideal S1x256x768 .f32) (r : Fin 256) (j : Fin 768) :
    k0_pay16 i v3 v10 v12 (ix2 r j) = probK (bscore i (k0_pay15 v3) v10 v12 r) j := by
  generalize hq : k0_pay15 v3 = q
  pointwise [k0_pay16]
  subst hq
  have hm : ∀ x : Fin 768, Scalar.select (IntOp.cmpi CmpIPredicate.sge (BitVec.ofNat 32 x.val) (Scalar.subi 512#32 (Scalar.muli (BitVec.ofNat 32 (i 1).val) 256#32)))
      (∑ d : Fin 128, k0_pay15 v3 (ix2 r d) * v10 (ix2 x d) + v12 (ix3 0 r x)) (Named.named (F := Ideal) κ "masked" (φ := .f32) 0xF149F2CA#32) = bscore i (k0_pay15 v3) v10 v12 r x := fun x => by
    rw [colW (i 1) x, sel, masked]
    rfl
  simp only [hm, wordNegInf]
  rfl

theorem pay19_apply (p : FVec Ideal S256x768 .f32) (y : FVec Ideal S256x128 .bf16) (v : Vec Ideal S768x128 .bf16) (r : Fin 256) (j : Fin 768) :
    k0_pay19 p y v (ix2 r j) = p (ix2 r j) * ((∑ d : Fin 128, y (ix2 r d) * v (ix2 j d)) - ∑ k : Fin 768, (∑ d : Fin 128, y (ix2 r d) * v (ix2 k d)) * p (ix2 r k)) := by
  pointwise [k0_pay19]

theorem pay22_apply (k : Vec Ideal S768x128 .bf16) (p : FVec Ideal S256x768 .f32) (y : FVec Ideal S256x128 .bf16) (v : Vec Ideal S768x128 .bf16) (r : Fin 256) (d : Fin 128) :
    k0_pay22 k p y v (ix2 r d) = (∑ j : Fin 768, k0_pay19 p y v (ix2 r j) * k (ix2 j d)) * sc := by
  unfold k0_pay22 k0_pay21
  generalize k0_pay19 p y v = E
  pointwise
  rfl

theorem pay23_apply (q : FVec Ideal S256x128 .bf16) (p : FVec Ideal S256x768 .f32) (y : FVec Ideal S256x128 .bf16) (v : Vec Ideal S768x128 .bf16) (acc : Vec Ideal S768x128 .f32) (j : Fin 768) (d : Fin 128) :
    k0_pay23 q p y v acc (ix2 j d) = acc (ix2 j d) + ∑ r : Fin 256, k0_pay19 p y v (ix2 r j) * q (ix2 r d) := by
  unfold k0_pay23 k0_pay21
  generalize k0_pay19 p y v = E
  pointwise

theorem pay18_apply (p : FVec Ideal S256x768 .f32) (y : FVec Ideal S256x128 .bf16) (acc : Vec Ideal S768x128 .f32) (j : Fin 768) (d : Fin 128) :
    k0_pay18 p y acc (ix2 j d) = acc (ix2 j d) + ∑ r : Fin 256, p (ix2 r j) * y (ix2 r d) := by
  pointwise [k0_pay18]

theorem pay12_apply (y : S4608x256.Idx) : k0_pay12 (F := Ideal) y = (0 : EReal) := by
  pointwise [k0_pay12]
theorem pay13_apply (y : S4608x256.Idx) : k0_pay13 (F := Ideal) y = (0 : EReal) := by
  pointwise [k0_pay13]
theorem pay6_apply (x : Vec Ideal S4096x256 .f32) (s : Fin 4096) (l : Fin 256) : k0_pay6 x (ix2 s l) = x (ix2 s l) := by
  pointwise [k0_pay6]
theorem pay7_apply (x : Vec Ideal S4096x256 .f32) (s : Fin 4096) (l : Fin 256) : k0_pay7 x (ix2 s l) = x (ix2 s l) := by
  pointwise [k0_pay7]
theorem pay8_apply (y : Fin 512) (l : Fin 256) : k0_pay8 (F := Ideal) (ix2 y l) = (0 : EReal) := by
  pointwise [k0_pay8]
theorem pay9_apply (x : Vec Ideal S4096x256 .f32) (s : Fin 4096) (l : Fin 256) : k0_pay9 x (ix2 s l) = x (ix2 s l) := by
  pointwise [k0_pay9]

/-! Head 1 of a pair computes the same. -/

theorem pay24_eq (v : Vec Ideal S256x128 .f32) : k0_pay24 v = k0_pay15 v := rfl
theorem pay26_eq (v : Vec Ideal S256x128 .f32) : k0_pay26 v = k0_pay17 v := rfl
theorem pay25_eq (i : grid0.Coords) (v3 : Vec Ideal S256x128 .f32) (v10 : Vec Ideal S768x128 .bf16) (v12 : Vec Ideal S1x256x768 .f32) :
    k0_pay25 (BitVec.ofNat 32 (i 1).val) v3 v10 v12 = k0_pay16 i v3 v10 v12 := rfl
theorem pay4_eq (k : Vec Ideal S768x128 .bf16) (p : FVec Ideal S256x768 .f32) (y : FVec Ideal S256x128 .bf16) (v : Vec Ideal S768x128 .bf16) :
    k0_pay4 k p y v = k0_pay22 k p y v := rfl
theorem pay5_eq (q : FVec Ideal S256x128 .bf16) (p : FVec Ideal S256x768 .f32) (y : FVec Ideal S256x128 .bf16) (v : Vec Ideal S768x128 .bf16) (acc : Vec Ideal S768x128 .f32) :
    k0_pay5 q p y v acc = k0_pay23 q p y v acc := rfl
theorem pay27_eq (i : grid0.Coords) (v3 : Vec Ideal S256x128 .f32) (v10 : Vec Ideal S768x128 .bf16) (v12 : Vec Ideal S1x256x768 .f32) (y : Vec Ideal S256x128 .f32) (acc : Vec Ideal S768x128 .f32) :
    k0_pay27 (BitVec.ofNat 32 (i 1).val) v3 v10 v12 y acc = k0_pay18 (k0_pay16 i v3 v10 v12) (k0_pay17 y) acc := rfl

end Cert.KernelIdeal.Att

end
-- ==== Proof.Cell.lean ====
module

public import proofs.«01_k».proof.Proof.Pay
public import Idealize.ShloMosaic.Lib.Pipeline.ValueKit.Tiles

@[expose] public section

set_option maxRecDepth 16384

noncomputable section

/-! One block of queries at an index: what it adds to the accumulators and its query gradient. -/

namespace Cert.KernelIdeal.Att

open Cert.KernelIdeal Cert.KernelIdeal.Gen Idealize.ShloMosaic Cert.Row VecWindow

/-- Column `d` of head `b` of a pair. -/
def colb (b : Fin 2) (d : Fin 128) : Fin 256 := ⟨b.val * 128 + d.val, by omega⟩
/-- Row `j` of a block's band. -/
def rowb (i : grid0.Coords) (j : Fin 768) : Fin 4608 := ⟨(i 1).val * 256 + j.val, by have : (i 1).val < 16 := (i 1).isLt; omega⟩

theorem off1_0 (i : grid0.Coords) : k0_off1 i 0 = (i 1).val * 256 := by
  have h : ∀ x : Fin 16, (Scalar.muli (BitVec.ofNat 32 x.val) 256#32).toNat = x.val * 256 := by decide +kernel
  exact h (i 1)
theorem off2_0 (i : grid0.Coords) : k0_off2 i 0 = (i 1).val * 256 := off1_0 i

variable {e : EltTy}

theorem lo_apply (x : Vec Ideal S256x256 e) (r : Fin 256) (d : Fin 128) : lo x (ix2 r d) = x (ix2 r (colb 0 d)) :=
  View.ld_unit_apply_of x _ _ _ _ _ (Fin.forall_fin_two.mpr ⟨by show r.val = 0 + r.val; omega, by show 0 * 128 + d.val = 0 + d.val; omega⟩)
theorem hi_apply (x : Vec Ideal S256x256 e) (r : Fin 256) (d : Fin 128) : hi x (ix2 r d) = x (ix2 r (colb 1 d)) :=
  View.ld_unit_apply_of x _ _ _ _ _ (Fin.forall_fin_two.mpr ⟨by show r.val = 0 + r.val; omega, by show 1 * 128 + d.val = 128 + d.val; omega⟩)
theorem bandLo_apply (i : grid0.Coords) (y : Vec Ideal S4608x256 e) (j : Fin 768) (d : Fin 128) : bandLo i y (ix2 j d) = y (ix2 (rowb i j) (colb 0 d)) :=
  View.ld_unit_apply_of y _ _ _ _ _ (Fin.forall_fin_two.mpr ⟨by show (i 1).val * 256 + j.val = k0_off1 i 0 + j.val; rw [off1_0], by show 0 * 128 + d.val = 0 + d.val; omega⟩)
theorem bandHi_apply (i : grid0.Coords) (y : Vec Ideal S4608x256 e) (j : Fin 768) (d : Fin 128) : bandHi i y (ix2 j d) = y (ix2 (rowb i j) (colb 1 d)) :=
  View.ld_unit_apply_of y _ _ _ _ _ (Fin.forall_fin_two.mpr ⟨by show (i 1).val * 256 + j.val = k0_off2 i 0 + j.val; rw [off2_0], by show 1 * 128 + d.val = 128 + d.val; omega⟩)
theorem tabLo_apply (x : Vec Ideal S2x256x768 .f32) (r : Fin 256) (j : Fin 768) : tabLo x (ix3 0 r j) = x (ix3 0 r j) :=
  View.ld_unit_apply_of x _ _ _ _ _ (fun a => match a with
    | ⟨0, _⟩ => rfl | ⟨1, _⟩ => (Nat.zero_add r.val).symm | ⟨2, _⟩ => (Nat.zero_add j.val).symm)
theorem tabHi_apply (x : Vec Ideal S2x256x768 .f32) (r : Fin 256) (j : Fin 768) : tabHi x (ix3 0 r j) = x (ix3 1 r j) :=
  View.ld_unit_apply_of x _ _ _ _ _ (fun a => match a with
    | ⟨0, _⟩ => rfl | ⟨1, _⟩ => (Nat.zero_add r.val).symm | ⟨2, _⟩ => (Nat.zero_add j.val).symm)

/-- Two bands written side by side, at an index. -/
theorem bands_apply (i : grid0.Coords) (y : Vec Ideal S4608x256 e) (u w : Vec Ideal S768x128 e) (s : Fin 4608) (b : Fin 2) (d : Fin 128) :
    put (s := S4608x256) (put (s := S4608x256) y (k0_off1 i) S768x128.size u) (k0_off2 i) S768x128.size w (ix2 s (colb b d))
      = if h : (i 1).val * 256 ≤ s.val ∧ s.val < (i 1).val * 256 + 768 then (if b = 0 then u else w) (ix2 ⟨s.val - (i 1).val * 256, by omega⟩ d) else y (ix2 s (colb b d)) := by
  have hc : (colb b d).val = b.val * 128 + d.val := rfl
  have hd := d.isLt
  have e1 := off1_0 i
  have e2 := off2_0 i
  have e3 : k0_off1 i 1 = 0 := rfl
  have e4 : k0_off2 i 1 = 128 := rfl
  by_cases h : (i 1).val * 256 ≤ s.val ∧ s.val < (i 1).val * 256 + 768
  · rw [dif_pos h]
    by_cases hb : b = 0
    · have hA : ¬ ∀ a : Fin 2, k0_off2 i a ≤ (ix2 s (colb b d) a).val ∧ (ix2 s (colb b d) a).val < k0_off2 i a + S768x128.size a := fun q => by
        have := (q 1).1; change k0_off2 i 1 ≤ (colb b d).val at this; subst hb; rw [hc, e4] at this; change 128 ≤ 0 * 128 + d.val at this; omega
      have hB : ∀ a : Fin 2, k0_off1 i a ≤ (ix2 s (colb b d) a).val ∧ (ix2 s (colb b d) a).val < k0_off1 i a + S768x128.size a := Fin.forall_fin_two.mpr
        ⟨by show k0_off1 i 0 ≤ s.val ∧ s.val < k0_off1 i 0 + 768; rw [e1]; exact h, by show k0_off1 i 1 ≤ (colb b d).val ∧ (colb b d).val < k0_off1 i 1 + 128; subst hb; rw [hc, e3]; show 0 ≤ 0 * 128 + d.val ∧ 0 * 128 + d.val < 0 + 128; omega⟩
      rw [if_pos hb]
      refine ((dif_neg hA).trans (dif_pos hB)).trans (congrArg u (funext fun a => Fin.ext ?_))
      revert a
      exact Fin.forall_fin_two.mpr ⟨by show s.val - k0_off1 i 0 = s.val - (i 1).val * 256; rw [e1], by show (colb b d).val - k0_off1 i 1 = d.val; subst hb; rw [hc, e3]; show 0 * 128 + d.val - 0 = d.val; omega⟩
    · have hb1 : b = 1 := by have := b.isLt; apply Fin.ext; show b.val = 1; have : b.val ≠ 0 := fun q => hb (Fin.ext q); omega
      have hA : ∀ a : Fin 2, k0_off2 i a ≤ (ix2 s (colb b d) a).val ∧ (ix2 s (colb b d) a).val < k0_off2 i a + S768x128.size a := Fin.forall_fin_two.mpr
        ⟨by show k0_off2 i 0 ≤ s.val ∧ s.val < k0_off2 i 0 + 768; rw [e2]; exact h, by show k0_off2 i 1 ≤ (colb b d).val ∧ (colb b d).val < k0_off2 i 1 + 128; subst hb1; rw [hc, e4]; show 128 ≤ 1 * 128 + d.val ∧ 1 * 128 + d.val < 128 + 128; omega⟩
      rw [if_neg hb]
      refine (dif_pos hA).trans (congrArg w (funext fun a => Fin.ext ?_))
      revert a
      exact Fin.forall_fin_two.mpr ⟨by show s.val - k0_off2 i 0 = s.val - (i 1).val * 256; rw [e2], by show (colb b d).val - k0_off2 i 1 = d.val; subst hb1; rw [hc, e4]; show 1 * 128 + d.val - 128 = d.val; omega⟩
  · rw [dif_neg h]
    have hA : ¬ ∀ a : Fin 2, k0_off2 i a ≤ (ix2 s (colb b d) a).val ∧ (ix2 s (colb b d) a).val < k0_off2 i a + S768x128.size a := fun q => by
      have := q 0; change k0_off2 i 0 ≤ s.val ∧ s.val < k0_off2 i 0 + 768 at this; rw [e2] at this; exact h this
    have hB : ¬ ∀ a : Fin 2, k0_off1 i a ≤ (ix2 s (colb b d) a).val ∧ (ix2 s (colb b d) a).val < k0_off1 i a + S768x128.size a := fun q => by
      have := q 0; change k0_off1 i 0 ≤ s.val ∧ s.val < k0_off1 i 0 + 768 at this; rw [e1] at this; exact h this
    exact (dif_neg hA).trans (dif_neg hB)

/-- Two halves written side by side, at an index. -/
theorem halves_apply (y : Vec Ideal S256x256 e) (u w : Vec Ideal S256x128 e) (r : Fin 256) (b : Fin 2) (d : Fin 128) :
    put (s := S256x256) (put (s := S256x256) y ![0, 0] S256x128.size u) ![0, 128] S256x128.size w (ix2 r (colb b d)) = (if b = 0 then u else w) (ix2 r d) := by
  have hc : (colb b d).val = b.val * 128 + d.val := rfl
  have hd := d.isLt
  have hr := r.isLt
  by_cases hb : b = 0
  · have hA : ¬ ∀ a : Fin 2, (![0, 128] : Fin 2 → ℕ) a ≤ (ix2 r (colb b d) a).val ∧ (ix2 r (colb b d) a).val < (![0, 128] : Fin 2 → ℕ) a + S256x128.size a := fun q => by
      have := (q 1).1; change 128 ≤ (colb b d).val at this; subst hb; rw [hc] at this; change 128 ≤ 0 * 128 + d.val at this; omega
    have hB : ∀ a : Fin 2, (![0, 0] : Fin 2 → ℕ) a ≤ (ix2 r (colb b d) a).val ∧ (ix2 r (colb b d) a).val < (![0, 0] : Fin 2 → ℕ) a + S256x128.size a := Fin.forall_fin_two.mpr
      ⟨by show 0 ≤ r.val ∧ r.val < 0 + 256; omega, by show 0 ≤ (colb b d).val ∧ (colb b d).val < 0 + 128; subst hb; rw [hc]; show 0 ≤ 0 * 128 + d.val ∧ 0 * 128 + d.val < 0 + 128; omega⟩
    rw [if_pos hb]
    refine ((dif_neg hA).trans (dif_pos hB)).trans (congrArg u (funext fun a => Fin.ext ?_))
    revert a
    exact Fin.forall_fin_two.mpr ⟨by show r.val - 0 = r.val; omega, by show (colb b d).val - 0 = d.val; subst hb; rw [hc]; show 0 * 128 + d.val - 0 = d.val; omega⟩
  · have hb1 : b = 1 := by have := b.isLt; apply Fin.ext; show b.val = 1; have : b.val ≠ 0 := fun q => hb (Fin.ext q); omega
    have hA : ∀ a : Fin 2, (![0, 128] : Fin 2 → ℕ) a ≤ (ix2 r (colb b d) a).val ∧ (ix2 r (colb b d) a).val < (![0, 128] : Fin 2 → ℕ) a + S256x128.size a := Fin.forall_fin_two.mpr
      ⟨by show 0 ≤ r.val ∧ r.val < 0 + 256; omega, by show 128 ≤ (colb b d).val ∧ (colb b d).val < 128 + 128; subst hb1; rw [hc]; show 128 ≤ 1 * 128 + d.val ∧ 1 * 128 + d.val < 128 + 128; omega⟩
    rw [if_neg hb]
    refine (dif_pos hA).trans (congrArg w (funext fun a => Fin.ext ?_))
    revert a
    exact Fin.forall_fin_two.mpr ⟨by show r.val - 0 = r.val; omega, by show (colb b d).val - 128 = d.val; subst hb1; rw [hc]; show 1 * 128 + d.val - 128 = d.val; omega⟩

/-- The padded keys or values at an index. -/
theorem kfill_apply (x : Vec Ideal S4096x256 .f32) (s : Fin 4608) (l : Fin 256) :
    kfill x (ix2 s l) = if h : s.val < 512 then (0 : EReal) else x (ix2 ⟨s.val - 512, by omega⟩ l) := by
  have hs := s.isLt
  have hl := l.isLt
  unfold kfill
  by_cases h : s.val < 512
  · have hA : ¬ ∀ a : Fin 2, (![512, 0] : Fin 2 → ℕ) a ≤ (ix2 s l a).val ∧ (ix2 s l a).val < (![512, 0] : Fin 2 → ℕ) a + S4096x256.size a := fun q => by
      have := (q 0).1; change 512 ≤ s.val at this; omega
    have hB : ∀ a : Fin 2, (![0, 0] : Fin 2 → ℕ) a ≤ (ix2 s l a).val ∧ (ix2 s l a).val < (![0, 0] : Fin 2 → ℕ) a + S512x256.size a := Fin.forall_fin_two.mpr
      ⟨by show 0 ≤ s.val ∧ s.val < 0 + 512; omega, by show 0 ≤ l.val ∧ l.val < 0 + 256; omega⟩
    rw [dif_pos h]
    refine ((dif_neg hA).trans (dif_pos hB)).trans ?_
    refine (congrArg (k0_pay8 (F := Ideal)) (funext fun a => Fin.ext ?_ : _ = ix2 (⟨s.val, h⟩ : Fin 512) l)).trans (pay8_apply _ _)
    revert a
    exact Fin.forall_fin_two.mpr ⟨by show s.val - 0 = s.val; omega, by show l.val - 0 = l.val; omega⟩
  · have hA : ∀ a : Fin 2, (![512, 0] : Fin 2 → ℕ) a ≤ (ix2 s l a).val ∧ (ix2 s l a).val < (![512, 0] : Fin 2 → ℕ) a + S4096x256.size a := Fin.forall_fin_two.mpr
      ⟨by show 512 ≤ s.val ∧ s.val < 512 + 4096; omega, by show 0 ≤ l.val ∧ l.val < 0 + 256; omega⟩
    rw [dif_neg h]
    refine (dif_pos hA).trans ?_
    refine (congrArg (k0_pay9 x) (funext fun a => Fin.ext ?_ : _ = ix2 (⟨s.val - 512, by omega⟩ : Fin 4096) l)).trans (pay9_apply _ _ _)
    revert a
    exact Fin.forall_fin_two.mpr ⟨by show s.val - 512 = s.val - 512; rfl, by show l.val - 0 = l.val; omega⟩

theorem dkOut_apply (y : Vec Ideal S4608x256 .f32) (s : Fin 4096) (l : Fin 256) : dkOut y (ix2 s l) = y (ix2 (⟨512 + s.val, by omega⟩ : Fin 4608) l) :=
  (pay6_apply _ s l).trans (View.ld_unit_apply_of y _ _ _ _ _ (Fin.forall_fin_two.mpr ⟨by show 512 + s.val = 512 + s.val; rfl, by show l.val = 0 + l.val; omega⟩))
theorem dvOut_apply (y : Vec Ideal S4608x256 .f32) (s : Fin 4096) (l : Fin 256) : dvOut y (ix2 s l) = y (ix2 (⟨512 + s.val, by omega⟩ : Fin 4608) l) :=
  (pay7_apply _ s l).trans (View.ld_unit_apply_of y _ _ _ _ _ (Fin.forall_fin_two.mpr ⟨by show 512 + s.val = 512 + s.val; rfl, by show l.val = 0 + l.val; omega⟩))

/-! ## The scores of a block and the gradients of its weights -/

/-- A row's scores along the band. -/
def fb (i : grid0.Coords) (x0 : Vec Ideal S256x256 .f32) (x3 : Vec Ideal S2x256x768 .f32) (y0 : Vec Ideal S4608x256 .bf16) (b : Fin 2) (r : Fin 256) (j : Fin 768) : EReal :=
  if 512 ≤ j.val + 256 * (i 1).val then (∑ d : Fin 128, x0 (ix2 r (colb b d)) * sc * y0 (ix2 (rowb i j) (colb b d))) + x3 (ix3 b r j) else ⊥
/-- The gradient of a row's weights along the band. -/
def ab (i : grid0.Coords) (x4 : Vec Ideal S256x256 .f32) (y1 : Vec Ideal S4608x256 .bf16) (b : Fin 2) (r : Fin 256) (j : Fin 768) : EReal :=
  ∑ d : Fin 128, x4 (ix2 r (colb b d)) * y1 (ix2 (rowb i j) (colb b d))

variable (i : grid0.Coords) (x0 : Vec Ideal S256x256 .f32) (x3 : Vec Ideal S2x256x768 .f32) (x4 : Vec Ideal S256x256 .f32) (y0 y1 : Vec Ideal S4608x256 .bf16)

/-- One head of a block: the halves, bands and table it reads. -/
structure Head (b : Fin 2) (L L4 : Vec Ideal S256x128 .f32) (K W : Vec Ideal S768x128 .bf16) (T : Vec Ideal S1x256x768 .f32) : Prop where
  q : ∀ r d, L (ix2 r d) = x0 (ix2 r (colb b d))
  dy : ∀ r d, L4 (ix2 r d) = x4 (ix2 r (colb b d))
  k : ∀ j d, K (ix2 j d) = y0 (ix2 (rowb i j) (colb b d))
  v : ∀ j d, W (ix2 j d) = y1 (ix2 (rowb i j) (colb b d))
  t : ∀ r j, T (ix3 0 r j) = x3 (ix3 b r j)

theorem headLo : Head i x0 x3 x4 y0 y1 0 (lo x0) (lo x4) (bandLo i y0) (bandLo i y1) (tabLo x3) :=
  ⟨lo_apply x0, lo_apply x4, bandLo_apply i y0, bandLo_apply i y1, tabLo_apply x3⟩
theorem headHi : Head i x0 x3 x4 y0 y1 1 (hi x0) (hi x4) (bandHi i y0) (bandHi i y1) (tabHi x3) :=
  ⟨hi_apply x0, hi_apply x4, bandHi_apply i y0, bandHi_apply i y1, tabHi_apply x3⟩

section
variable {i x0 x3 x4 y0 y1} {b : Fin 2} {L L4 : Vec Ideal S256x128 .f32} {K W : Vec Ideal S768x128 .bf16} {T : Vec Ideal S1x256x768 .f32} (H : Head i x0 x3 x4 y0 y1 b L L4 K W T)
include H

theorem Head.score (r : Fin 256) : bscore i (k0_pay15 L) K T r = fb i x0 x3 y0 b r := by
  funext j
  unfold bscore fb
  simp only [pay15_apply, H.q, H.k, H.t]
theorem Head.prob (r : Fin 256) (j : Fin 768) : k0_pay16 i L K T (ix2 r j) = probK (fb i x0 x3 y0 b r) j := by
  rw [pay16_apply, H.score]
theorem Head.ds (r : Fin 256) (j : Fin 768) : k0_pay19 (k0_pay16 i L K T) (k0_pay17 L4) W (ix2 r j) = dsK (fb i x0 x3 y0 b r) (ab i x4 y1 b r) j := by
  rw [pay19_apply]
  simp only [H.prob, pay17_apply, H.dy, H.v]
  rfl
theorem Head.dq (r : Fin 256) (d : Fin 128) : k0_pay22 K (k0_pay16 i L K T) (k0_pay17 L4) W (ix2 r d)
    = (∑ j : Fin 768, dsK (fb i x0 x3 y0 b r) (ab i x4 y1 b r) j * y0 (ix2 (rowb i j) (colb b d))) * sc := by
  rw [pay22_apply]
  simp only [H.ds, H.k]
theorem Head.dk (acc : Vec Ideal S768x128 .f32) (j : Fin 768) (d : Fin 128) : k0_pay23 (k0_pay15 L) (k0_pay16 i L K T) (k0_pay17 L4) W acc (ix2 j d)
    = acc (ix2 j d) + ∑ r : Fin 256, dsK (fb i x0 x3 y0 b r) (ab i x4 y1 b r) j * (x0 (ix2 r (colb b d)) * sc) := by
  rw [pay23_apply]
  simp only [H.ds, pay15_apply, H.q]
theorem Head.dv (acc : Vec Ideal S768x128 .f32) (j : Fin 768) (d : Fin 128) : k0_pay18 (k0_pay16 i L K T) (k0_pay17 L4) acc (ix2 j d)
    = acc (ix2 j d) + ∑ r : Fin 256, probK (fb i x0 x3 y0 b r) j * x4 (ix2 r (colb b d)) := by
  rw [pay18_apply]
  simp only [H.prob, pay17_apply, H.dy]

end

/-- The query gradient of a block at an index. -/
theorem dqBlk_apply (r : Fin 256) (b : Fin 2) (d : Fin 128) : dqBlk i x0 x3 x4 y0 y1 (ix2 r (colb b d))
    = (∑ j : Fin 768, dsK (fb i x0 x3 y0 b r) (ab i x4 y1 b r) j * y0 (ix2 (rowb i j) (colb b d))) * sc := by
  unfold dqBlk
  refine (halves_apply (e := .bf16) _ _ _ r b d).trans ?_
  revert b
  refine Fin.forall_fin_two.mpr ⟨?_, ?_⟩
  · rw [if_pos rfl]
    exact (headLo i x0 x3 x4 y0 y1).dq r d
  · rw [if_neg (by decide)]
    exact (headHi i x0 x3 x4 y0 y1).dq r d

/-- The key gradient's accumulator after a block, at an index. -/
theorem dkStep_apply (y : Vec Ideal S4608x256 .f32) (s : Fin 4608) (b : Fin 2) (d : Fin 128) : dkStep i x0 x3 x4 y0 y1 y (ix2 s (colb b d))
    = if h : (i 1).val * 256 ≤ s.val ∧ s.val < (i 1).val * 256 + 768 then
        y (ix2 s (colb b d)) + ∑ r : Fin 256, dsK (fb i x0 x3 y0 b r) (ab i x4 y1 b r) ⟨s.val - (i 1).val * 256, by omega⟩ * (x0 (ix2 r (colb b d)) * sc)
      else y (ix2 s (colb b d)) := by
  unfold dkStep
  refine (bands_apply i y _ _ s b d).trans ?_
  by_cases h : (i 1).val * 256 ≤ s.val ∧ s.val < (i 1).val * 256 + 768
  · rw [dif_pos h, dif_pos h]
    have hrow : rowb i ⟨s.val - (i 1).val * 256, by omega⟩ = s := Fin.ext (by show (i 1).val * 256 + (s.val - (i 1).val * 256) = s.val; omega)
    revert b
    refine Fin.forall_fin_two.mpr ⟨?_, ?_⟩
    · rw [if_pos rfl]
      refine ((headLo i x0 x3 x4 y0 y1).dk (bandLo i y) _ d).trans (congrArg (· + _) ?_)
      exact (bandLo_apply i y _ d).trans (by rw [hrow])
    · rw [if_neg (by decide)]
      refine ((headHi i x0 x3 x4 y0 y1).dk (bandHi i y) _ d).trans (congrArg (· + _) ?_)
      exact (bandHi_apply i y _ d).trans (by rw [hrow])
  · rw [dif_neg h, dif_neg h]

/-- The value gradient's accumulator after a block, at an index. -/
theorem dvStep_apply (y : Vec Ideal S4608x256 .f32) (s : Fin 4608) (b : Fin 2) (d : Fin 128) : dvStep i x0 x3 x4 y0 y (ix2 s (colb b d))
    = if h : (i 1).val * 256 ≤ s.val ∧ s.val < (i 1).val * 256 + 768 then
        y (ix2 s (colb b d)) + ∑ r : Fin 256, probK (fb i x0 x3 y0 b r) ⟨s.val - (i 1).val * 256, by omega⟩ * x4 (ix2 r (colb b d))
      else y (ix2 s (colb b d)) := by
  unfold dvStep
  refine (bands_apply i y _ _ s b d).trans ?_
  by_cases h : (i 1).val * 256 ≤ s.val ∧ s.val < (i 1).val * 256 + 768
  · rw [dif_pos h, dif_pos h]
    have hrow : rowb i ⟨s.val - (i 1).val * 256, by omega⟩ = s := Fin.ext (by show (i 1).val * 256 + (s.val - (i 1).val * 256) = s.val; omega)
    revert b
    refine Fin.forall_fin_two.mpr ⟨?_, ?_⟩
    · rw [if_pos rfl]
      refine ((headLo i x0 x3 x4 y0 y0).dv (bandLo i y) _ d).trans (congrArg (· + _) ?_)
      exact (bandLo_apply i y _ d).trans (by rw [hrow])
    · rw [if_neg (by decide)]
      refine ((headHi i x0 x3 x4 y0 y0).dv (bandHi i y) _ d).trans (congrArg (· + _) ?_)
      exact (bandHi_apply i y _ d).trans (by rw [hrow])
  · rw [dif_neg h, dif_neg h]

end Cert.KernelIdeal.Att

end
-- ==== Proof.Reads.lean ====
module

public import proofs.«01_k».proof.Proof.Gen.KernelIdeal.Frame
public import Idealize.ShloMosaic.Lib.Pipeline.ValueKit.Point
public import Idealize.ShloMosaic.Lib.Pointwise

@[expose] public section

set_option maxRecDepth 16384

noncomputable section

/-! Each input block read at an index is its array at the block's place. -/

namespace Cert.KernelIdeal.Att

open Cert.KernelIdeal Cert.KernelIdeal.Gen Idealize.ShloMosaic Idealize.ShloMosaic.TcCoe

/-- The blocks' places. -/
theorem idx : ∀ t : Fin cfg0.N, win0_0.index t = ![t.val % 16, 16 + t.val / 16] ∧ win0_1.index t = ![0, 20 + t.val / 16] ∧ win0_2.index t = ![0, 24 + t.val / 16]
    ∧ win0_3.index t = ![t.val / 16, 0, 0] ∧ win0_4.index t = ![t.val % 16, 4 + t.val / 16]
    ∧ win0_5.index t = ![t.val % 16, 16 + t.val / 16] ∧ win0_6.index t = ![0, t.val / 16] ∧ win0_7.index t = ![0, t.val / 16] :=
  (by decide +kernel : ∀ t : Fin grid0.N, _)

variable (m : (ℓ : Loc nD τ sig) → Buf (Elt Ideal) ℓ)

theorem lt64 (t : Fin cfg0.N) : t.val < 64 := Nat.lt_of_lt_of_eq t.isLt N_0

theorem iblk0_apply (c : Dev nD) (t : Fin cfg0.N) (r l : Fin 256) : iblk m c 0 t (ix2 r l)
    = m ((c.tc : Thread nD τ).loc main_arg0) (ix2 ⟨t.val % 16 * 256 + r.val, by omega⟩ ⟨(16 + t.val / 16) * 256 + l.val, by have := lt64 t; omega⟩) := by
  blk_point [iblk, V_main_arg0, idx t]
theorem iblk1_apply (c : Dev nD) (t : Fin cfg0.N) (s : Fin 4096) (l : Fin 256) : iblk m c 1 t (ix2 s l)
    = m ((c.tc : Thread nD τ).loc main_arg0) (ix2 s ⟨(20 + t.val / 16) * 256 + l.val, by have := lt64 t; omega⟩) := by
  blk_point [iblk, V_main_arg0, idx t]
theorem iblk2_apply (c : Dev nD) (t : Fin cfg0.N) (s : Fin 4096) (l : Fin 256) : iblk m c 2 t (ix2 s l)
    = m ((c.tc : Thread nD τ).loc main_arg0) (ix2 s ⟨(24 + t.val / 16) * 256 + l.val, by have := lt64 t; omega⟩) := by
  blk_point [iblk, V_main_arg0, idx t]
theorem iblk4_apply (c : Dev nD) (t : Fin cfg0.N) (r l : Fin 256) : iblk m c 4 t (ix2 r l)
    = m ((c.tc : Thread nD τ).loc main_arg2) (ix2 ⟨t.val % 16 * 256 + r.val, by omega⟩ ⟨(4 + t.val / 16) * 256 + l.val, by have := lt64 t; omega⟩) := by
  blk_point [iblk, V_main_arg2, idx t]
theorem iblk3_apply (c : Dev nD) (t : Fin cfg0.N) (b : Fin 2) (r : Fin 256) (j : Fin 768) : iblk m c 3 t (ix3 b r j)
    = V m c main_v30 (ix3 (⟨t.val / 16 * 2 + b.val, by have := lt64 t; omega⟩ : Fin 8) r j) := by
  blk_ext [iblk, idx t]

end Cert.KernelIdeal.Att

end
-- ==== Proof.Gather.lean ====
module

public import Idealize.ShloMosaic.Lib.Pointwise
public import Idealize.ShloMosaic.PureOps

@[expose] public section

noncomputable section

/-! A table of rows read at columns that a rectangle of index words names. -/

namespace Cert.Gather

open Idealize.ShloMosaic

theorem word_toInt (n : ℕ) (h : n < 2 ^ 31) : (BitVec.ofNat 32 n).toInt = (n : ℤ) := by
  rw [BitVec.toInt_eq_toNat_cond, BitVec.toNat_ofNat, Nat.mod_eq_of_lt (by omega), if_pos (by omega)]

/-- Entry `(h, p, r)` of the gathered box is the table's entry `(h, b)` where the index word at `(p, r)` is `b`. -/
theorem columns {α : Type} {H N P Q : ℕ} (d : GatherDims ⟨2, ![H, N]⟩ ⟨3, ![P, Q, 1]⟩ ⟨3, ![H, P, Q]⟩) (hoff : d.offsetDims = [0])
    (hcoll : d.collapsedSliceDims = [1]) (hob : d.operandBatchingDims = []) (hsim : d.startIndexMap = [1]) (hivd : d.indexVectorDim = 2)
    (x : (⟨2, ![H, N]⟩ : Shape).Idx → α) (idx : IVec ⟨3, ![P, Q, 1]⟩ 32) (h : Fin H) (p : Fin P) (r : Fin Q) (b : Fin N)
    (hb : idx (ix3 p r (0 : Fin 1)) = BitVec.ofNat 32 b.val) (hN : N < 2 ^ 31) :
    Host.gather d x idx (ix3 h p r) = x (ix2 h b) := by
  unfold Host.gather
  have hbN : ∀ a', a' ∉ d.operandBatchingDims := fun a' => by rw [hob]; exact List.not_mem_nil
  have hbd : d.batchDims = [1, 2] := by
    unfold GatherDims.batchDims; rw [hoff]; rfl
  have hsk : d.siKept = [0, 1] := by
    unfold GatherDims.siKept; rw [hivd]; rfl
  have hskept : d.sKept = [0] := by
    unfold GatherDims.sKept; rw [hcoll, hob]; rfl
  refine congrArg x (funext fun a => Fin.ext ?_)
  match a with
  | ⟨0, _⟩ =>
    have hk : (0 : Fin 2) ∈ d.sKept := by rw [hskept]; exact List.mem_singleton.2 rfl
    have hm : (0 : Fin 2) ∉ d.startIndexMap := by rw [hsim]; simp
    show d.start (ix3 h p r) idx 0 + d.batchCoord (ix3 h p r) 0 + d.offCoord (ix3 h p r) 0 = h.val
    rw [d.batchCoord_eq_zero _ _ (hbN 0), Nat.add_zero]
    unfold GatherDims.start GatherDims.offCoord
    rw [dif_neg hm, dif_pos hk, Nat.zero_add]
    have e0 : ∀ X : Fin 3, X = 0 → (ix3 h p r X).val = h.val := fun X h => by subst h; rfl
    exact e0 _ (by
      have : ∀ k ∈ d.offsetDims, k = (0 : Fin 3) := fun k hk => by rw [hoff] at hk; exact List.mem_singleton.1 hk
      exact this _ (List.getElem_mem _))
  | ⟨1, _⟩ =>
    have hk : (1 : Fin 2) ∉ d.sKept := by rw [hskept]; simp
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix3 h p r) idx 1 + d.batchCoord (ix3 h p r) 1 + d.offCoord (ix3 h p r) 1 = b.val
    rw [d.batchCoord_eq_zero _ _ (hbN 1), d.offCoord_eq_zero _ _ hk]
    simp only [Nat.add_zero]
    unfold GatherDims.start
    rw [dif_pos hm]
    have hsi : d.siIdx (ix3 h p r) ⟨d.startIndexMap.idxOf 1, List.idxOf_lt_length_iff.2 hm⟩ = ix3 p r (0 : Fin 1) := by
      funext b'
      apply Fin.ext
      match b' with
      | ⟨0, _⟩ =>
        unfold GatherDims.siIdx
        rw [dif_neg (by rw [hivd]; show ¬ (0 = 2); omega)]
        unfold GatherDims.siCoord
        simp only [Fin.val_cast]
        have e1 : ∀ X : Fin 3, X = 1 → (ix3 h p r X).val = p.val := fun X h => by subst h; rfl
        refine e1 _ ?_
        simp only [hbd, hsk]; rfl
      | ⟨1, _⟩ =>
        unfold GatherDims.siIdx
        rw [dif_neg (by rw [hivd]; show ¬ (1 = 2); omega)]
        unfold GatherDims.siCoord
        simp only [Fin.val_cast]
        have e1 : ∀ X : Fin 3, X = 2 → (ix3 h p r X).val = r.val := fun X h => by subst h; rfl
        refine e1 _ ?_
        simp only [hbd, hsk]; rfl
      | ⟨2, _⟩ =>
        unfold GatherDims.siIdx
        rw [dif_pos (by rw [hivd])]
        show List.idxOf (1 : Fin 2) d.startIndexMap = 0
        rw [hsim]; simp
    have hbl := b.isLt
    rw [hsi, hb, hsl, word_toInt _ (by omega)]
    show min ((b.val : Int)).toNat (N - 1) = b.val
    omega

end Cert.Gather

end
-- ==== Proof.Table.lean ====
module

public import proofs.«01_k».proof.Proof.Gen.KernelIdeal.Frame
public import proofs.«01_k».proof.Proof.Gather
public import Idealize.ShloMosaic.Lib.StableHlo.ReadAt
public import Idealize.ShloMosaic.Lib.Pointwise

@[expose] public section

set_option maxRecDepth 16384

noncomputable section

/-! The table of biases at an index. -/

namespace Cert.KernelIdeal.Att

open Cert.KernelIdeal Cert.KernelIdeal.Gen Idealize.ShloMosaic Idealize.ShloMosaic.TcCoe

variable (m : (ℓ : Loc nD τ sig) → Buf (Elt Ideal) ℓ)

/-- A row's first visible column. -/
theorem firstW (r : Fin 256) : (fun M => IntOp.subi (BitVec.ofNat 32 r.val)
    (Scalar.select (IntOp.andi (IntOp.cmpi CmpIPredicate.ne (IntOp.cmpi CmpIPredicate.slt (IntOp.remsi ArithUnit.host (BitVec.ofNat 32 r.val) M) 0#32) (IntOp.cmpi CmpIPredicate.slt M 0#32))
      (IntOp.cmpi CmpIPredicate.ne (IntOp.remsi ArithUnit.host (BitVec.ofNat 32 r.val) M) 0#32))
      (IntOp.addi (IntOp.remsi ArithUnit.host (BitVec.ofNat 32 r.val) M) M) (IntOp.remsi ArithUnit.host (BitVec.ofNat 32 r.val) M)))
    (Scalar.select (IntOp.cmpi CmpIPredicate.eq 64#32 0#32) 1#32 64#32) = BitVec.ofNat 32 (64 * (r.val / 64)) := by
  revert r
  decide +kernel

/-- The test that a column of the band is visible from a row. -/
theorem bandW (a : Fin 4) (j : Fin 768) : IntOp.andi (IntOp.cmpi CmpIPredicate.sge (BitVec.ofNat 32 j.val) (BitVec.ofNat 32 (64 * a.val)))
    (IntOp.cmpi CmpIPredicate.slt (BitVec.ofNat 32 j.val) (IntOp.addi (BitVec.ofNat 32 (64 * a.val)) 576#32)) = BitVec.ofBool (decide (64 * a.val ≤ j.val ∧ j.val < 64 * a.val + 576)) := by
  revert a j
  decide +kernel

/-- The clipped relative position plus 128. -/
theorem clipT (n : Fin 1024) : IntOp.addi (IntOp.minsi 128#32 (IntOp.maxsi 4294967168#32 (BitVec.ofNat 32 n.val - 256#32))) 128#32 =
    BitVec.ofNat 32 (min (n.val - 128) 256) := by
  revert n
  decide +kernel

theorem relT (r : Fin 256) (j : Fin 768) : IntOp.addi (IntOp.minsi 128#32 (IntOp.maxsi 4294967168#32
    (IntOp.subi (IntOp.addi (BitVec.ofNat 32 r.val) 512#32) (BitVec.ofNat 32 j.val)))) 128#32 = BitVec.ofNat 32 (min (r.val + 640 - j.val) 256) := by
  have hn : r.val + 768 - j.val < 1024 := by omega
  have e : IntOp.subi (IntOp.addi (BitVec.ofNat 32 r.val) 512#32) (BitVec.ofNat 32 j.val) = BitVec.ofNat 32 (r.val + 768 - j.val) - 256#32 := by
    show BitVec.ofNat 32 r.val + 512#32 - BitVec.ofNat 32 j.val = _
    apply BitVec.eq_of_toNat_eq
    have := r.isLt; have := j.isLt
    simp only [BitVec.toNat_sub, BitVec.toNat_add, BitVec.toNat_ofNat]
    omega
  rw [e, clipT ⟨_, hn⟩]
  exact congrArg (fun z => BitVec.ofNat 32 (min z 256)) (by show r.val + 768 - j.val - 128 = _; omega)

theorem nonnegT (b : Fin 257) : IntOp.cmpi CmpIPredicate.slt (BitVec.ofNat 32 b.val) 0#32 = 0#1 := by
  revert b
  decide +kernel

theorem negInfT : Ideal.ofBits .f32 0xFF800000#32 = (⊥ : EReal) := by
  first | rfl | simp [Ideal.ofBits]

theorem selT {α : Type} (p : Prop) [Decidable p] (a b : α) : Scalar.select (BitVec.ofBool (decide p)) a b = if p then a else b := by
  by_cases hp : p <;> simp [hp, Scalar.select]

/-- The table holds the bias of the relative position where the band's column is visible, and minus infinity elsewhere. -/
theorem table_apply (c : Dev nD) (h : Fin 8) (r : Fin 256) (j : Fin 768) : V m c main_v30 (ix3 h r j)
    = if 64 * (r.val / 64) ≤ j.val ∧ j.val < 64 * (r.val / 64) + 576 then m ((c.tc : Thread nD τ).loc main_arg1) (ix2 h (⟨min (r.val + 640 - j.val) 256, by omega⟩ : Fin 257)) else (⊥ : EReal) := by
  unfold V
  after_reads_at
  have e : (id (constantI S_ 32 64#32) ix0 : BitVec 32) = 64#32 := rfl
  rw [e]
  have hf := firstW r
  dsimp only at hf
  rw [hf, bandW ⟨r.val / 64, by omega⟩ j, selT]
  refine if_congr Iff.rfl ?_ negInfT
  refine Gather.columns _ rfl rfl rfl rfl rfl _ _ h r j ⟨min (r.val + 640 - j.val) 256, by omega⟩ ?_ ?_
  · pointwise
    have e1 : (id (constantI S_ 32 128#32) ix0 : BitVec 32) = 128#32 := rfl
    have e2 : (id (constantI S_ 32 4294967168#32) ix0 : BitVec 32) = 4294967168#32 := rfl
    rw [e1, e2, relT r j, nonnegT ⟨min (r.val + 640 - j.val) 256, by omega⟩]
    rfl
  · decide

end Cert.KernelIdeal.Att

end
-- ==== Proof.Spec.lean ====
module

public import proofs.«01_k».proof.Proof.Math

@[expose] public section

noncomputable section

/-! The chunked attention's gradient as sums over all keys and all queries, in the extended reals. -/

namespace Cert.Spec

open Idealize.ShloMosaic Cert.Row

/-- The factor `HEAD_DIM ** -0.5` as both programs write it. -/
def sc : EReal := Ideal.ofBits .f32 0x3DB504F3#32

variable (X : (⟨2, ![4096, 7168]⟩ : Shape).Idx → EReal) (B : (⟨2, ![8, 257]⟩ : Shape).Idx → EReal) (Y : (⟨2, ![4096, 2048]⟩ : Shape).Idx → EReal)

/-- A head's scaled queries. -/
def q (h : Fin 8) (t : Fin 4096) (d : Fin 128) : EReal := X (ix2 t ⟨4096 + (h.val * 128 + d.val), by omega⟩) * sc
/-- A head's keys. -/
def k (h : Fin 8) (s : Fin 4096) (d : Fin 128) : EReal := X (ix2 s ⟨5120 + (h.val * 128 + d.val), by omega⟩)
/-- A head's values. -/
def v (h : Fin 8) (s : Fin 4096) (d : Fin 128) : EReal := X (ix2 s ⟨6144 + (h.val * 128 + d.val), by omega⟩)
/-- A head's share of the attention output's gradient. -/
def dy (h : Fin 8) (t : Fin 4096) (d : Fin 128) : EReal := Y (ix2 t ⟨1024 + (h.val * 128 + d.val), by omega⟩)

/-- A query sees its own chunk of 64 and the eight before it. -/
def Seen (t s : Fin 4096) : Prop := s.val / 64 ≤ t.val / 64 ∧ t.val / 64 ≤ s.val / 64 + 8

instance (t s : Fin 4096) : Decidable (Seen t s) := by unfold Seen; infer_instance

/-- The relative position, clipped to `-128 … 128`, plus 128. -/
def rel (t s : Fin 4096) : Fin 257 := ⟨min (t.val + 128 - s.val) 256, by omega⟩

/-- The score of a key before the mask. -/
def raw (h : Fin 8) (t s : Fin 4096) : EReal := (∑ d, q X h t d * k X h s d) + B (ix2 h (rel t s))
/-- The score of a key. -/
def score (h : Fin 8) (t s : Fin 4096) : EReal := if Seen t s then raw X B h t s else ⊥
/-- The gradient of a weight. -/
def dp (h : Fin 8) (t s : Fin 4096) : EReal := ∑ d, dy Y h t d * v X h s d
/-- The gradient of a score. -/
def ds (h : Fin 8) (t s : Fin 4096) : EReal := dsR (score X B h t) (dp X Y h t) s

/-- The gradient of the queries. -/
def dq (h : Fin 8) (t : Fin 4096) (d : Fin 128) : EReal := (∑ s, ds X B Y h t s * k X h s d) * sc
/-- The gradient of the keys. -/
def dk (h : Fin 8) (s : Fin 4096) (d : Fin 128) : EReal := ∑ t, ds X B Y h t s * q X h t d
/-- The gradient of the values. -/
def dv (h : Fin 8) (s : Fin 4096) (d : Fin 128) : EReal := ∑ t, dy Y h t d * probR (score X B h t) s

end Cert.Spec

end
-- ==== Proof.Acc.lean ====
module

public import proofs.«01_k».proof.Proof.Body
public import proofs.«01_k».proof.Proof.Cell
public import proofs.«01_k».proof.Proof.Reads
public import proofs.«01_k».proof.Proof.Table
public import proofs.«01_k».proof.Proof.Spec

@[expose] public section

set_option maxRecDepth 16384

noncomputable section

/-! The accumulators after every block, and each block's query gradient, as sums over the sequence. -/

namespace Cert.KernelIdeal.Att

open Cert.KernelIdeal Cert.KernelIdeal.Gen Idealize.ShloMosaic Idealize.ShloMosaic.TcCoe Cert.Row

variable (m : (ℓ : Loc nD τ sig) → Buf (Elt Ideal) ℓ) (c : Dev nD)

/-- The projections. -/
abbrev X : (⟨2, ![4096, 7168]⟩ : Shape).Idx → EReal := m ((c.tc : Thread nD τ).loc main_arg0)
/-- The bias per head and relative position. -/
abbrev B : (⟨2, ![8, 257]⟩ : Shape).Idx → EReal := m ((c.tc : Thread nD τ).loc main_arg1)
/-- The gradient of the layer's two branches. -/
abbrev Y : (⟨2, ![4096, 2048]⟩ : Shape).Idx → EReal := m ((c.tc : Thread nD τ).loc main_arg2)

/-- The head a point's half works on. -/
def head (t : Fin cfg0.N) (b : Fin 2) : Fin 8 := ⟨t.val / 16 * 2 + b.val, by have := lt64 t; omega⟩
/-- The query a point's row holds. -/
def pos (t : Fin cfg0.N) (r : Fin 256) : Fin 4096 := ⟨t.val % 16 * 256 + r.val, by omega⟩
/-- Column `j` of a point's band is key `s`. -/
def Rb (t : Fin cfg0.N) (j : Fin 768) (s : Fin 4096) : Prop := j.val + t.val % 16 * 256 = s.val + 512

theorem Rb_inj (t : Fin cfg0.N) (j j' : Fin 768) (s : Fin 4096) (h : Rb t j s) (h' : Rb t j' s) : j = j' := by
  unfold Rb at h h'; apply Fin.ext; omega
theorem Rb_fun (t : Fin cfg0.N) (j : Fin 768) (s s' : Fin 4096) (h : Rb t j s) (h' : Rb t j s') : s = s' := by
  unfold Rb at h h'; apply Fin.ext; omega

theorem q_read (t : Fin cfg0.N) (r : Fin 256) (b : Fin 2) (d : Fin 128) : @HMul.hMul EReal EReal EReal _ (iblk m c 0 t (ix2 r (colb b d))) sc = Spec.q (X m c) (head t b) (pos t r) d := by
  rw [iblk0_apply]
  unfold Spec.q
  refine congrArg (· * sc) (congrArg (X m c) (congrArg (ix2 _) (Fin.ext ?_)))
  show (16 + t.val / 16) * 256 + (b.val * 128 + d.val) = 4096 + ((t.val / 16 * 2 + b.val) * 128 + d.val)
  omega
theorem k_read (t : Fin cfg0.N) (s : Fin 4096) (b : Fin 2) (d : Fin 128) : iblk m c 1 t (ix2 s (colb b d)) = Spec.k (X m c) (head t b) s d := by
  rw [iblk1_apply]
  unfold Spec.k
  refine congrArg (X m c) (congrArg (ix2 _) (Fin.ext ?_))
  show (20 + t.val / 16) * 256 + (b.val * 128 + d.val) = 5120 + ((t.val / 16 * 2 + b.val) * 128 + d.val)
  omega
theorem v_read (t : Fin cfg0.N) (s : Fin 4096) (b : Fin 2) (d : Fin 128) : iblk m c 2 t (ix2 s (colb b d)) = Spec.v (X m c) (head t b) s d := by
  rw [iblk2_apply]
  unfold Spec.v
  refine congrArg (X m c) (congrArg (ix2 _) (Fin.ext ?_))
  show (24 + t.val / 16) * 256 + (b.val * 128 + d.val) = 6144 + ((t.val / 16 * 2 + b.val) * 128 + d.val)
  omega
theorem dy_read (t : Fin cfg0.N) (r : Fin 256) (b : Fin 2) (d : Fin 128) : iblk m c 4 t (ix2 r (colb b d)) = Spec.dy (Y m c) (head t b) (pos t r) d := by
  rw [iblk4_apply]
  unfold Spec.dy
  refine congrArg (Y m c) (congrArg (ix2 _) (Fin.ext ?_))
  show (4 + t.val / 16) * 256 + (b.val * 128 + d.val) = 1024 + ((t.val / 16 * 2 + b.val) * 128 + d.val)
  omega

theorem rowb_val (t : Fin cfg0.N) (j : Fin 768) : (rowb (grid0.coords t) j).val = t.val % 16 * 256 + j.val := by
  show (grid0.coords t 1).val * 256 + j.val = _
  rw [coord1]

/-- The padded buffer of a group at a band's row. -/
theorem kfill_band (x : Vec Ideal S4096x256 .f32) (t : Fin cfg0.N) (j : Fin 768) (s : Fin 4096) (h : Rb t j s) (l : Fin 256) :
    kfill x (ix2 (rowb (grid0.coords t) j) l) = x (ix2 s l) := by
  unfold Rb at h
  have hv := rowb_val t j
  rw [kfill_apply, dif_neg (by omega)]
  exact congrArg x (congrArg (fun z => ix2 z l) (Fin.ext (by show (rowb (grid0.coords t) j).val - 512 = s.val; omega)))

/-- A point's scores along its band. -/
abbrev fbt (t : Fin cfg0.N) (b : Fin 2) (r : Fin 256) : Fin 768 → EReal := fb (grid0.coords t) (iblk m c 0 t) (iblk m c 3 t) (kfill (iblk m c 1 t)) b r
/-- The gradient of a point's weights along its band. -/
abbrev abt (t : Fin cfg0.N) (b : Fin 2) (r : Fin 256) : Fin 768 → EReal := ab (grid0.coords t) (iblk m c 4 t) (kfill (iblk m c 2 t)) b r

theorem fb_rel (t : Fin cfg0.N) (b : Fin 2) (r : Fin 256) (j : Fin 768) (s : Fin 4096) (h : Rb t j s) :
    fbt m c t b r j = Spec.score (X m c) (B m c) (head t b) (pos t r) s := by
  have hk := fun d => kfill_band (iblk m c 1 t) t j s h (colb b d)
  have hp : (pos t r).val = t.val % 16 * 256 + r.val := rfl
  unfold Rb at h
  show fb _ _ _ _ b r j = _
  unfold fb Spec.score
  rw [coord1, if_pos (by omega), iblk3_apply, table_apply]
  by_cases hs : Spec.Seen (pos t r) s
  · rw [if_pos hs]
    unfold Spec.Seen at hs
    rw [if_pos (by omega)]
    unfold Spec.raw
    refine congr (congrArg _ (Finset.sum_congr rfl fun d _ => ?_)) ?_
    · rw [hk d, q_read, k_read]
    · refine congrArg (B m c) (congrArg (ix2 _) (Fin.ext ?_))
      show min (r.val + 640 - j.val) 256 = min ((pos t r).val + 128 - s.val) 256
      omega
  · rw [if_neg hs, if_neg, EReal.add_bot]
    unfold Spec.Seen at hs
    omega

theorem fb_off (t : Fin cfg0.N) (b : Fin 2) (r : Fin 256) (j : Fin 768) (h : ∀ s, ¬ Rb t j s) : fbt m c t b r j = ⊥ := by
  show fb _ _ _ _ b r j = _
  unfold fb
  rw [coord1, if_neg]
  intro hj
  exact h ⟨j.val + t.val % 16 * 256 - 512, by omega⟩ (by unfold Rb; show _ = j.val + t.val % 16 * 256 - 512 + 512; omega)

theorem score_off (t : Fin cfg0.N) (b : Fin 2) (r : Fin 256) (s : Fin 4096) (h : ∀ j, ¬ Rb t j s) : Spec.score (X m c) (B m c) (head t b) (pos t r) s = ⊥ := by
  have hp : (pos t r).val = t.val % 16 * 256 + r.val := rfl
  unfold Spec.score
  rw [if_neg]
  intro hs
  unfold Spec.Seen at hs
  exact h ⟨s.val + 512 - t.val % 16 * 256, by omega⟩ (by unfold Rb; show s.val + 512 - t.val % 16 * 256 + _ = _; omega)

theorem ab_rel (t : Fin cfg0.N) (b : Fin 2) (r : Fin 256) (j : Fin 768) (s : Fin 4096) (h : Rb t j s) :
    abt m c t b r j = Spec.dp (X m c) (Y m c) (head t b) (pos t r) s := by
  show ab _ _ _ b r j = _
  unfold ab Spec.dp
  refine Finset.sum_congr rfl fun d _ => ?_
  rw [kfill_band (iblk m c 2 t) t j s h (colb b d), dy_read, v_read]

/-- No score is plus infinity, and a query's own score is not minus infinity. -/
structure Fin' : Prop where
  top : ∀ h t s, Spec.score (X m c) (B m c) h t s ≠ ⊤
  self : ∀ h t, Spec.score (X m c) (B m c) h t t ≠ ⊥

variable {m c} (hf : Fin' m c)
include hf

theorem prob_rel (t : Fin cfg0.N) (b : Fin 2) (r : Fin 256) (j : Fin 768) (s : Fin 4096) (h : Rb t j s) :
    probK (fbt m c t b r) j = probR (Spec.score (X m c) (B m c) (head t b) (pos t r)) s :=
  prob_band (Rb t) (Rb_inj t) (Rb_fun t) _ _ (fb_rel m c t b r) (fb_off m c t b r) (score_off m c t b r) (hf.top _ _) (pos t r) (hf.self _ _) j s h

theorem ds_rel (t : Fin cfg0.N) (b : Fin 2) (r : Fin 256) (j : Fin 768) (s : Fin 4096) (h : Rb t j s) :
    dsK (fbt m c t b r) (abt m c t b r) j = Spec.ds (X m c) (B m c) (Y m c) (head t b) (pos t r) s :=
  ds_band (Rb t) (Rb_inj t) (Rb_fun t) _ _ (fb_rel m c t b r) (fb_off m c t b r) (score_off m c t b r) (hf.top _ _) (pos t r) (hf.self _ _) _ _ (ab_rel m c t b r) j s h

theorem probR_zero (h : Fin 8) (t s : Fin 4096) (hs : Spec.score (X m c) (B m c) h t s = ⊥) : probR (Spec.score (X m c) (B m c) h t) s = 0 := by
  obtain ⟨z, hz, hm⟩ := mass_real _ (hf.top h t) t (hf.self h t)
  rw [← probK_eq_probR _ z hz hm, probK_zero _ _ hs]

/-- A block's query gradient is the reference's. -/
theorem dq_rel (t : Fin cfg0.N) (r : Fin 256) (b : Fin 2) (d : Fin 128) :
    dqBlk (grid0.coords t) (iblk m c 0 t) (iblk m c 3 t) (iblk m c 4 t) (kfill (iblk m c 1 t)) (kfill (iblk m c 2 t)) (ix2 r (colb b d))
      = Spec.dq (X m c) (B m c) (Y m c) (head t b) (pos t r) d := by
  rw [dqBlk_apply]
  unfold Spec.dq
  refine congrArg (· * sc) ?_
  refine sum_rel (Rb t) (Rb_inj t) (Rb_fun t) _ _ (fun j s h => ?_) (fun j h => ?_) (fun s h => ?_)
  · have e1 := ds_rel hf t b r j s h
    have e2 := kfill_band (iblk m c 1 t) t j s h (colb b d)
    rw [e1, e2, k_read]
  · have e1 := dsK_zero (fbt m c t b r) (abt m c t b r) j (fb_off m c t b r j h)
    rw [e1, zero_mul]
  · unfold Spec.ds
    rw [dsR_zero _ _ _ (score_off m c t b r s h), zero_mul]

omit hf

variable (m c)

/-- A query's term of a key's gradient. -/
def dkTerm (h : Fin 8) (s : Fin 4096) (d : Fin 128) (n : ℕ) : EReal :=
  if hn : n < 4096 then Spec.ds (X m c) (B m c) (Y m c) h ⟨n, hn⟩ s * Spec.q (X m c) h ⟨n, hn⟩ d else 0
/-- A query's term of a value's gradient. -/
def dvTerm (h : Fin 8) (s : Fin 4096) (d : Fin 128) (n : ℕ) : EReal :=
  if hn : n < 4096 then Spec.dy (Y m c) h ⟨n, hn⟩ d * probR (Spec.score (X m c) (B m c) h ⟨n, hn⟩) s else 0

theorem dk_total (h : Fin 8) (s : Fin 4096) (d : Fin 128) : ∑ n ∈ Finset.range 4096, dkTerm m c h s d n = Spec.dk (X m c) (B m c) (Y m c) h s d := by
  rw [Finset.sum_range]
  unfold Spec.dk
  exact Finset.sum_congr rfl fun n _ => dif_pos n.isLt
theorem dv_total (h : Fin 8) (s : Fin 4096) (d : Fin 128) : ∑ n ∈ Finset.range 4096, dvTerm m c h s d n = Spec.dv (X m c) (B m c) (Y m c) h s d := by
  rw [Finset.sum_range]
  unfold Spec.dv
  exact Finset.sum_congr rfl fun n _ => dif_pos n.isLt

theorem dkTerm_pos (t : Fin cfg0.N) (h : Fin 8) (s : Fin 4096) (d : Fin 128) (r : Fin 256) :
    dkTerm m c h s d (t.val % 16 * 256 + r.val) = Spec.ds (X m c) (B m c) (Y m c) h (pos t r) s * Spec.q (X m c) h (pos t r) d := dif_pos (pos t r).isLt
theorem dvTerm_pos (t : Fin cfg0.N) (h : Fin 8) (s : Fin 4096) (d : Fin 128) (r : Fin 256) :
    dvTerm m c h s d (t.val % 16 * 256 + r.val) = Spec.dy (Y m c) h (pos t r) d * probR (Spec.score (X m c) (B m c) h (pos t r)) s := dif_pos (pos t r).isLt

/-- A key's row of the padded accumulators. -/
def padded (s : Fin 4096) : Fin 4608 := ⟨512 + s.val, by omega⟩

/-- What the scratch buffers of the keys and values hold after every point. -/
theorem st_fill (n : ℕ) (hn : n < cfg0.N) : (st m c n hn).1 = kfill (iblk m c 1 ⟨n, hn⟩) ∧ (st m c n hn).2.1 = kfill (iblk m c 2 ⟨n, hn⟩) := by
  induction n with
  | zero =>
    have e := st_fresh m c ⟨0, hn⟩ rfl
    dsimp only at e
    rw [e]
    exact ⟨rfl, rfl⟩
  | succ n ih =>
    by_cases h0 : (n + 1) % 16 = 0
    · have e := st_fresh m c ⟨n + 1, hn⟩ h0
      dsimp only at e
      rw [e]
      exact ⟨rfl, rfl⟩
    · have e := st_next m c ⟨n + 1, hn⟩ h0
      dsimp only at e
      rw [e]
      have hg : (n + 1) / 16 = n / 16 := by omega
      have i := ih (Nat.lt_of_succ_lt hn)
      refine ⟨i.1.trans (congrArg kfill (funext fun y => ?_)), i.2.trans (congrArg kfill (funext fun y => ?_))⟩
      · idx_vars y
        rw [iblk1_apply, iblk1_apply]
        exact congrArg (X m c) (congrArg (ix2 _) (Fin.ext (by show (20 + n / 16) * 256 + _ = (20 + (n + 1) / 16) * 256 + _; rw [hg])))
      · idx_vars y
        rw [iblk2_apply, iblk2_apply]
        exact congrArg (X m c) (congrArg (ix2 _) (Fin.ext (by show (24 + n / 16) * 256 + _ = (24 + (n + 1) / 16) * 256 + _; rw [hg])))

variable {m c}
include hf

/-- A block adds its queries' terms to a key's gradient. -/
theorem dk_step (t : Fin cfg0.N) (y : Vec Ideal S4608x256 .f32) (s : Fin 4096) (b : Fin 2) (d : Fin 128)
    (hy : y (ix2 (padded s) (colb b d)) = ∑ n ∈ Finset.range (t.val % 16 * 256), dkTerm m c (head t b) s d n) :
    dkStep (grid0.coords t) (iblk m c 0 t) (iblk m c 3 t) (iblk m c 4 t) (kfill (iblk m c 1 t)) (kfill (iblk m c 2 t)) y (ix2 (padded s) (colb b d))
      = ∑ n ∈ Finset.range (t.val % 16 * 256 + 256), dkTerm m c (head t b) s d n := by
  have hv : (padded s).val = 512 + s.val := rfl
  have hc := coord1 t
  rw [dkStep_apply, Finset.sum_range_add, Finset.sum_range (fun x => dkTerm m c (head t b) s d (t.val % 16 * 256 + x)), hy]
  by_cases h : (grid0.coords t 1).val * 256 ≤ (padded s).val ∧ (padded s).val < (grid0.coords t 1).val * 256 + 768
  · rw [dif_pos h]
    refine congrArg (_ + ·) (Finset.sum_congr rfl fun r _ => ?_)
    have e := ds_rel hf t b r ⟨(padded s).val - (grid0.coords t 1).val * 256, by omega⟩ s (by
      unfold Rb; show (padded s).val - (grid0.coords t 1).val * 256 + _ = _; omega)
    rw [e, dkTerm_pos, q_read]
  · rw [dif_neg h]
    refine (add_zero _).symm.trans (congrArg (_ + ·) (Finset.sum_eq_zero fun r _ => ?_).symm)
    rw [dkTerm_pos]
    unfold Spec.ds
    rw [dsR_zero _ _ _ (score_off m c t b r s fun j hj => by unfold Rb at hj; omega), zero_mul]

/-- A block adds its queries' terms to a value's gradient. -/
theorem dv_step (t : Fin cfg0.N) (y : Vec Ideal S4608x256 .f32) (s : Fin 4096) (b : Fin 2) (d : Fin 128)
    (hy : y (ix2 (padded s) (colb b d)) = ∑ n ∈ Finset.range (t.val % 16 * 256), dvTerm m c (head t b) s d n) :
    dvStep (grid0.coords t) (iblk m c 0 t) (iblk m c 3 t) (iblk m c 4 t) (kfill (iblk m c 1 t)) y (ix2 (padded s) (colb b d))
      = ∑ n ∈ Finset.range (t.val % 16 * 256 + 256), dvTerm m c (head t b) s d n := by
  have hv : (padded s).val = 512 + s.val := rfl
  have hc := coord1 t
  rw [dvStep_apply, Finset.sum_range_add, Finset.sum_range (fun x => dvTerm m c (head t b) s d (t.val % 16 * 256 + x)), hy]
  by_cases h : (grid0.coords t 1).val * 256 ≤ (padded s).val ∧ (padded s).val < (grid0.coords t 1).val * 256 + 768
  · rw [dif_pos h]
    refine congrArg (_ + ·) (Finset.sum_congr rfl fun r _ => ?_)
    have e := prob_rel hf t b r ⟨(padded s).val - (grid0.coords t 1).val * 256, by omega⟩ s (by
      unfold Rb; show (padded s).val - (grid0.coords t 1).val * 256 + _ = _; omega)
    rw [e, dvTerm_pos, dy_read]
    exact mul_comm _ _
  · rw [dif_neg h]
    refine (add_zero _).symm.trans (congrArg (_ + ·) (Finset.sum_eq_zero fun r _ => ?_).symm)
    rw [dvTerm_pos]
    have e : probR (Spec.score (X m c) (B m c) (head t b) (pos t r)) s = 0 :=
      probR_zero hf _ _ _ (score_off m c t b r s fun j hj => by unfold Rb at hj; omega)
    rw [e, mul_zero]

/-- The accumulators after every point. -/
theorem st_acc (n : ℕ) (hn : n < cfg0.N) (s : Fin 4096) (b : Fin 2) (d : Fin 128) :
    (st m c n hn).2.2.1 (ix2 (padded s) (colb b d)) = ∑ k ∈ Finset.range (n % 16 * 256 + 256), dkTerm m c (head ⟨n, hn⟩ b) s d k
    ∧ (st m c n hn).2.2.2 (ix2 (padded s) (colb b d)) = ∑ k ∈ Finset.range (n % 16 * 256 + 256), dvTerm m c (head ⟨n, hn⟩ b) s d k := by
  induction n with
  | zero =>
    have e := st_fresh m c ⟨0, hn⟩ rfl
    dsimp only at e
    rw [e]
    exact ⟨dk_step hf ⟨0, hn⟩ _ s b d (pay12_apply _), dv_step hf ⟨0, hn⟩ _ s b d (pay13_apply _)⟩
  | succ n ih =>
    by_cases h0 : (n + 1) % 16 = 0
    · have e := st_fresh m c ⟨n + 1, hn⟩ h0
      dsimp only at e
      rw [e]
      refine ⟨dk_step hf ⟨n + 1, hn⟩ _ s b d ?_, dv_step hf ⟨n + 1, hn⟩ _ s b d ?_⟩
      · dsimp only; rw [h0]; exact pay12_apply _
      · dsimp only; rw [h0]; exact pay13_apply _
    · have e := st_next m c ⟨n + 1, hn⟩ h0
      dsimp only at e
      have f := st_fill m c n (Nat.lt_of_succ_lt hn)
      have f' := st_fill m c (n + 1) hn
      rw [e] at f'
      have g1 : (st m c n (Nat.lt_of_succ_lt hn)).1 = kfill (iblk m c 1 ⟨n + 1, hn⟩) := f'.1
      have g2 : (st m c n (Nat.lt_of_succ_lt hn)).2.1 = kfill (iblk m c 2 ⟨n + 1, hn⟩) := f'.2
      have i := ih (Nat.lt_of_succ_lt hn)
      have hh : head ⟨n, Nat.lt_of_succ_lt hn⟩ b = head ⟨n + 1, hn⟩ b := Fin.ext (by show n / 16 * 2 + b.val = (n + 1) / 16 * 2 + b.val; omega)
      have hr : n % 16 * 256 + 256 = (n + 1) % 16 * 256 := by omega
      rw [hh, hr] at i
      rw [e]
      constructor
      · show dkStep (grid0.coords ⟨n + 1, hn⟩) _ _ _ (st m c n _).1 (st m c n _).2.1 (st m c n _).2.2.1 (ix2 (padded s) (colb b d)) = _
        rw [g1, g2]
        exact dk_step hf ⟨n + 1, hn⟩ _ s b d i.1
      · show dvStep (grid0.coords ⟨n + 1, hn⟩) _ _ _ (st m c n _).1 (st m c n _).2.2.2 (ix2 (padded s) (colb b d)) = _
        rw [g1]
        exact dv_step hf ⟨n + 1, hn⟩ _ s b d i.2

/-- A block of the query gradient. -/
theorem dqAt_apply (t : Fin cfg0.N) (r : Fin 256) (b : Fin 2) (d : Fin 128) : dqAt m c t (ix2 r (colb b d)) = Spec.dq (X m c) (B m c) (Y m c) (head t b) (pos t r) d := by
  unfold dqAt
  rw [(st_fill m c t.val t.isLt).1, (st_fill m c t.val t.isLt).2]
  exact dq_rel hf t r b d

/-- A group's key gradient. -/
theorem dkAt_apply (t : Fin cfg0.N) (ht : t.val % 16 = 15) (s : Fin 4096) (b : Fin 2) (d : Fin 128) : dkAt m c t (ix2 s (colb b d)) = Spec.dk (X m c) (B m c) (Y m c) (head t b) s d := by
  unfold dkAt
  rw [dkOut_apply]
  refine ((st_acc hf t.val t.isLt s b d).1).trans ?_
  rw [ht]
  exact dk_total m c _ s d

/-- A group's value gradient. -/
theorem dvAt_apply (t : Fin cfg0.N) (ht : t.val % 16 = 15) (s : Fin 4096) (b : Fin 2) (d : Fin 128) : dvAt m c t (ix2 s (colb b d)) = Spec.dv (X m c) (B m c) (Y m c) (head t b) s d := by
  unfold dvAt
  rw [dvOut_apply]
  refine ((st_acc hf t.val t.isLt s b d).2).trans ?_
  rw [ht]
  exact dv_total m c _ s d

end Cert.KernelIdeal.Att

end
-- ==== Proof.Out.lean ====
module

public import proofs.«01_k».proof.Proof.Acc
public import Idealize.ShloMosaic.Lib.Pipeline.ValueKit.Partial
public import Idealize.ShloMosaic.Lib.StableHlo.ReadAt

@[expose] public section

set_option maxRecDepth 16384

noncomputable section

/-! The three arrays the kernel leaves. -/

namespace Cert.KernelIdeal.Att

open Cert.KernelIdeal Cert.KernelIdeal.Gen Idealize.ShloMosaic Idealize.ShloMosaic.TcCoe Cert.Row

variable (m : (ℓ : Loc nD τ sig) → Buf (Elt Ideal) ℓ) (c : Dev nD)

/-- The projections' gradient: the queries' columns hold their gradient, every other column what the argument held. -/
def G0 : (⟨2, ![4096, 7168]⟩ : Shape).Idx → EReal := fun i =>
  if hl : 4096 ≤ (i 1).val ∧ (i 1).val < 5120 then Spec.dq (X m c) (B m c) (Y m c) ⟨((i 1).val - 4096) / 128, by omega⟩ (i 0) ⟨((i 1).val - 4096) % 128, by omega⟩
  else m ((c.tc : Thread nD τ).loc main_arg3) i
/-- The keys' gradient, the heads side by side. -/
def G1 : (⟨2, ![4096, 1024]⟩ : Shape).Idx → EReal := fun i =>
  Spec.dk (X m c) (B m c) (Y m c) ⟨(i 1).val / 128, by have : (i 1).val < 1024 := (i 1).isLt; omega⟩ (i 0) ⟨(i 1).val % 128, by omega⟩
/-- The values' gradient, the heads side by side. -/
def G2 : (⟨2, ![4096, 1024]⟩ : Shape).Idx → EReal := fun i =>
  Spec.dv (X m c) (B m c) (Y m c) ⟨(i 1).val / 128, by have : (i 1).val < 1024 := (i 1).isLt; omega⟩ (i 0) ⟨(i 1).val % 128, by omega⟩

/-- An index of a block is a row and a head's column. -/
theorem split (y : S256x256.Idx) : ∃ r b d, y = ix2 r (colb b d) := by
  have hl : (y 1).val < 256 := (y 1).isLt
  refine ⟨y 0, ⟨(y 1).val / 128, by omega⟩, ⟨(y 1).val % 128, by omega⟩, funext (Fin.forall_fin_two.mpr ⟨rfl, Fin.ext ?_⟩)⟩
  show (y 1).val = (y 1).val / 128 * 128 + (y 1).val % 128
  omega
/-- The same for a group's block. -/
theorem split' (y : S4096x256.Idx) : ∃ s b d, y = ix2 s (colb b d) := by
  have hl : (y 1).val < 256 := (y 1).isLt
  refine ⟨y 0, ⟨(y 1).val / 128, by omega⟩, ⟨(y 1).val % 128, by omega⟩, funext (Fin.forall_fin_two.mpr ⟨rfl, Fin.ext ?_⟩)⟩
  show (y 1).val = (y 1).val / 128 * 128 + (y 1).val % 128
  omega

theorem G0_at (i : (⟨2, ![4096, 7168]⟩ : Shape).Idx) (t : Fin cfg0.N) (r : Fin 256) (b : Fin 2) (d : Fin 128) (h0 : (i 0).val = t.val % 16 * 256 + r.val)
    (h1 : (i 1).val = (16 + t.val / 16) * 256 + (b.val * 128 + d.val)) : Spec.dq (X m c) (B m c) (Y m c) (head t b) (pos t r) d = G0 m c i := by
  have ht := lt64 t
  unfold G0
  rw [dif_pos (by omega)]
  have e1 : head t b = ⟨((i 1).val - 4096) / 128, by omega⟩ := Fin.ext (by show t.val / 16 * 2 + b.val = ((i 1).val - 4096) / 128; omega)
  have e2 : pos t r = i 0 := Fin.ext h0.symm
  have e3 : d = ⟨((i 1).val - 4096) % 128, by omega⟩ := Fin.ext (by show d.val = ((i 1).val - 4096) % 128; omega)
  rw [e1, e2]
  exact congrArg _ e3

theorem G1_at (i : (⟨2, ![4096, 1024]⟩ : Shape).Idx) (t : Fin cfg0.N) (s : Fin 4096) (b : Fin 2) (d : Fin 128) (h0 : (i 0).val = s.val)
    (h1 : (i 1).val = t.val / 16 * 256 + (b.val * 128 + d.val)) : Spec.dk (X m c) (B m c) (Y m c) (head t b) s d = G1 m c i := by
  have ht := lt64 t
  unfold G1
  have e1 : head t b = ⟨(i 1).val / 128, by omega⟩ := Fin.ext (by show t.val / 16 * 2 + b.val = (i 1).val / 128; omega)
  have e2 : s = i 0 := Fin.ext h0.symm
  have e3 : d = ⟨(i 1).val % 128, by omega⟩ := Fin.ext (by show d.val = (i 1).val % 128; omega)
  rw [e1, e2]
  exact congrArg _ e3

theorem G2_at (i : (⟨2, ![4096, 1024]⟩ : Shape).Idx) (t : Fin cfg0.N) (s : Fin 4096) (b : Fin 2) (d : Fin 128) (h0 : (i 0).val = s.val)
    (h1 : (i 1).val = t.val / 16 * 256 + (b.val * 128 + d.val)) : Spec.dv (X m c) (B m c) (Y m c) (head t b) s d = G2 m c i := by
  have ht := lt64 t
  unfold G2
  have e1 : head t b = ⟨(i 1).val / 128, by omega⟩ := Fin.ext (by show t.val / 16 * 2 + b.val = (i 1).val / 128; omega)
  have e2 : s = i 0 := Fin.ext h0.symm
  have e3 : d = ⟨(i 1).val % 128, by omega⟩ := Fin.ext (by show d.val = (i 1).val % 128; omega)
  rw [e1, e2]
  exact congrArg _ e3

/-- The query gradient's array starts as the gradient handed in. -/
theorem entry (i) : V m c main_v31_0 i = m ((c.tc : Thread nD τ).loc main_arg3) i := by
  unfold V
  after_reads_at
  rfl

variable {m c} (hf : Fin' m c)
include hf

/-- The projections' gradient after the run. -/
theorem arr5 : (dats m 0 c).arrAt 5 cfg0.N = G0 m c := by
  refine (dats m 0 c).arrAt_eq_of_coversWhere_of_agree 5 (G0 m c) (fun β => 16 ≤ β (1 : Fin 2) ∧ β (1 : Fin 2) < 20) (by decide +kernel) (fun t hf' y => ?_) (fun j hj => ?_)
  · blk_simp
    rw [after_5]
    obtain ⟨r, b, d, rfl⟩ := split y
    obtain ⟨-, -, -, -, -, h5, -, -⟩ := idx t
    refine (dqAt_apply hf t r b d).trans (G0_at m c _ t r b d ?_ ?_)
    · show win0_5.index t (0 : Fin 2) * 256 + 1 * r.val = _
      rw [h5]
      show t.val % 16 * 256 + 1 * r.val = _
      omega
    · show win0_5.index t (1 : Fin 2) * 256 + 1 * (b.val * 128 + d.val) = _
      rw [h5]
      show (16 + t.val / 16) * 256 + 1 * (b.val * 128 + d.val) = _
      omega
  · refine (congrFun (A_eq m c 5) _).trans ((entry m c _).trans ?_)
    unfold G0
    rw [dif_neg]
    intro hl
    refine hj ?_
    blk_simp [Pipeline.Window.cell_apply]
    change 4096 ≤ (j (1 : Fin 2)).val ∧ (j (1 : Fin 2)).val < 5120 at hl
    omega

/-- The keys' gradient after the run. -/
theorem arr6 : (dats m 0 c).arrAt 6 cfg0.N = G1 m c := by
  refine (dats m 0 c).arrAt_eq_of_covers 6 (G1 m c) (by decide +kernel) (fun t hf' y => ?_)
  have ht := (flush0_6 t).mp hf'
  blk_simp
  rw [after_6]
  obtain ⟨s, b, d, rfl⟩ := split' y
  obtain ⟨-, -, -, -, -, -, h6, -⟩ := idx t
  refine (dkAt_apply hf t ht s b d).trans (G1_at m c _ t s b d ?_ ?_)
  · show win0_6.index t (0 : Fin 2) * 4096 + 1 * s.val = _
    rw [h6]
    show 0 * 4096 + 1 * s.val = _
    omega
  · show win0_6.index t (1 : Fin 2) * 256 + 1 * (b.val * 128 + d.val) = _
    rw [h6]
    show t.val / 16 * 256 + 1 * (b.val * 128 + d.val) = _
    omega

/-- The values' gradient after the run. -/
theorem arr7 : (dats m 0 c).arrAt 7 cfg0.N = G2 m c := by
  refine (dats m 0 c).arrAt_eq_of_covers 7 (G2 m c) (by decide +kernel) (fun t hf' y => ?_)
  have ht := (flush0_7 t).mp hf'
  blk_simp
  rw [after_7]
  obtain ⟨s, b, d, rfl⟩ := split' y
  obtain ⟨-, -, -, -, -, -, -, h7⟩ := idx t
  refine (dvAt_apply hf t ht s b d).trans (G2_at m c _ t s b d ?_ ?_)
  · show win0_7.index t (0 : Fin 2) * 4096 + 1 * s.val = _
    rw [h7]
    show 0 * 4096 + 1 * s.val = _
    omega
  · show win0_7.index t (1 : Fin 2) * 256 + 1 * (b.val * 128 + d.val) = _
    rw [h7]
    show t.val / 16 * 256 + 1 * (b.val * 128 + d.val) = _
    omega

omit hf

/-- The run ends with the three gradients in the result arrays and the arguments as launched. -/
theorem value (m : (ℓ : Loc nD τ sig) → Buf (Elt Ideal) ℓ) (ρ : Dev nD → PrngReg) (hf : ∀ c, Fin' m c) : θ_run defs (onTc (τ := τ) (main (F := Ideal))) ⟨m, fun _ => 0, ρ⟩ (fun r => ∀ c : Dev nD,
      r.2.mem ((c.tc : Thread nD τ).loc main_v31_0) = G0 m c
      ∧ r.2.mem ((c.tc : Thread nD τ).loc main_v31_1) = G1 m c
      ∧ r.2.mem ((c.tc : Thread nD τ).loc main_v31_2) = G2 m c) :=
  (θ_run defs _ _).mono (fun _ h c => ⟨
      (((dats m 0 c).toRForget_arrAt_iff (fgt := forgets0) (w := 5) rfl cfg0.N _).mp ((h.1 c).1 5)).trans (arr5 (hf c)),
      (((dats m 0 c).toRForget_arrAt_iff (fgt := forgets0) (w := 6) rfl cfg0.N _).mp ((h.1 c).1 6)).trans (arr6 (hf c)),
      (((dats m 0 c).toRForget_arrAt_iff (fgt := forgets0) (w := 7) rfl cfg0.N _).mp ((h.1 c).1 7)).trans (arr7 (hf c))⟩) (run_main_quiescent m ρ)

end Cert.KernelIdeal.Att

end
-- ==== Proof.Pre.lean ====
module

public import proofs.«01_k».proof.Proof.Out
public import proofs.«01_k».proof.Pre_finite_scores

@[expose] public section

set_option maxRecDepth 16384

noncomputable section

/-! What the precondition says of the scores: finite projections and biases make every visible score a real number. -/

namespace Cert.KernelIdeal.Att

open Cert.KernelIdeal Cert.KernelIdeal.Gen Idealize.ShloMosaic Idealize.ShloMosaic.TcCoe Cert.Row

/-- A value is a real number. -/
def Real' (x : EReal) : Prop := ∃ r : ℝ, x = (r : EReal)

theorem Real'.mul {x y : EReal} : Real' x → Real' y → Real' (x * y) := fun ⟨a, ha⟩ ⟨b, hb⟩ => ⟨a * b, by rw [ha, hb, EReal.coe_mul]⟩
theorem Real'.add {x y : EReal} : Real' x → Real' y → Real' (x + y) := fun ⟨a, ha⟩ ⟨b, hb⟩ => ⟨a + b, by rw [ha, hb, EReal.coe_add]⟩
theorem Real'.sum {ι : Type} [Fintype ι] (f : ι → EReal) (h : ∀ i, Real' (f i)) : Real' (∑ i, f i) := by
  classical
  exact Finset.sum_induction f Real' (fun _ _ => Real'.add) ⟨0, rfl⟩ fun i _ => h i

/-- A magnitude below plus infinity is a real number's. -/
theorem real_of_lt {x : EReal} (h : max x (-x) < ⊤) : Real' x := by
  induction x with
  | bot => simp at h
  | top => simp at h
  | coe r => exact ⟨r, rfl⟩

theorem sc_real : Real' Spec.sc := by
  unfold Spec.sc Real'
  simp only [Ideal.ofBits, Ideal.ieee]
  norm_num
  exact ⟨_, rfl⟩

theorem infW : Ideal.ofBits .f32 0x7F800000#32 = (⊤ : EReal) := by
  first | rfl | simp [Ideal.ofBits]

section
variable [Cert.Pre_finite_scores.Facts] (X : FVec Ideal S4096x7168 .f32) (B : FVec Ideal S8x257 .f32) (Y : FVec Ideal S4096x2048 .f32) (D : FVec Ideal S4096x7168 .bf16)

theorem real_X (h : (Cert.Pre_finite_scores.fn (F := Ideal) X B Y D).1 = fun _ => 1#1) (t : Fin 4096) (l : Fin 2048) : Real' (X (ix2 t ⟨4096 + l.val, by omega⟩)) := by
  have e := congrFun h (ix2 t l)
  unfold Cert.Pre_finite_scores.fn at e
  dsimp only at e
  have e' : Ideal.cmp .olt (max (X (ix2 t ⟨4096 + l.val, by omega⟩)) (-(X (ix2 t ⟨4096 + l.val, by omega⟩)))) (Ideal.ofBits .f32 0x7F800000#32) = 1 := by
    refine Eq.trans ?_ e
    pointwise
    rfl
  rw [infW, Ideal.cmp_olt_eq_one] at e'
  exact real_of_lt e'

theorem real_B (h : (Cert.Pre_finite_scores.fn (F := Ideal) X B Y D).2 = fun _ => 1#1) (a : Fin 8) (l : Fin 257) : Real' (B (ix2 a l)) := by
  have e := congrFun h (ix2 a l)
  unfold Cert.Pre_finite_scores.fn at e
  dsimp only at e
  have e' : Ideal.cmp .olt (max (B (ix2 a l)) (-(B (ix2 a l)))) (Ideal.ofBits .f32 0x7F800000#32) = 1 := by
    refine Eq.trans ?_ e
    pointwise
    rfl
  rw [infW, Ideal.cmp_olt_eq_one] at e'
  exact real_of_lt e'

end

/-- The precondition's two arrays of bits give the facts the softmax needs. -/
theorem fin_of_pre [Cert.Pre_finite_scores.Facts] (m : (ℓ : Loc nD τ sig) → Buf (Elt Ideal) ℓ) (c : Dev nD)
    (h1 : (Cert.Pre_finite_scores.fn (F := Ideal) (m ((c.tc : Thread nD τ).loc main_arg0)) (m ((c.tc : Thread nD τ).loc main_arg1)) (m ((c.tc : Thread nD τ).loc main_arg2)) (m ((c.tc : Thread nD τ).loc main_arg3))).1 = fun _ => 1#1)
    (h2 : (Cert.Pre_finite_scores.fn (F := Ideal) (m ((c.tc : Thread nD τ).loc main_arg0)) (m ((c.tc : Thread nD τ).loc main_arg1)) (m ((c.tc : Thread nD τ).loc main_arg2)) (m ((c.tc : Thread nD τ).loc main_arg3))).2 = fun _ => 1#1) : Fin' m c := by
  have hraw : ∀ h t s, Real' (Spec.raw (X m c) (B m c) h t s) := fun h t s => by
    refine Real'.add (Real'.sum _ fun d => Real'.mul (Real'.mul ?_ sc_real) ?_) (real_B _ _ _ _ h2 h _)
    · exact real_X _ _ _ _ h1 t ⟨h.val * 128 + d.val, by omega⟩
    · have e := real_X _ _ _ _ h1 s ⟨1024 + (h.val * 128 + d.val), by omega⟩
      have e' : (⟨4096 + (1024 + (h.val * 128 + d.val)), by omega⟩ : Fin 7168) = ⟨5120 + (h.val * 128 + d.val), by omega⟩ := Fin.ext (by show 4096 + (1024 + (h.val * 128 + d.val)) = 5120 + (h.val * 128 + d.val); omega)
      exact (congrArg (fun z => Real' (X m c (ix2 s z))) e').mp e
  refine ⟨fun h t s => ?_, fun h t => ?_⟩
  · unfold Spec.score
    by_cases hs : Spec.Seen t s
    · rw [if_pos hs]
      obtain ⟨r, hr⟩ := hraw h t s
      rw [hr]
      exact EReal.coe_ne_top r
    · rw [if_neg hs]
      exact bot_ne_top
  · unfold Spec.score
    have hs : Spec.Seen t t := by unfold Spec.Seen; omega
    rw [if_pos hs]
    obtain ⟨r, hr⟩ := hraw h t t
    rw [hr]
    exact EReal.coe_ne_bot r

end Cert.KernelIdeal.Att

end
-- ==== Proof.StageDefs.lean ====
module

public import proofs.«01_k».proof.Proof.Gen.ReferenceIdeal
public import proofs.«01_k».proof.Proof.Spec
public import Idealize.ShloMosaic.Lib.StableHlo.Run
public import Idealize.ShloMosaic.Lib.Tactic.WordOmega

@[expose] public section

set_option maxRecDepth 16384

noncomputable section

/-! The reference's results stage by stage, each stage read at an index. -/

namespace Cert.ReferenceIdeal.Stage

open Cert.ReferenceIdeal Cert.ReferenceIdeal.Gen Idealize.ShloMosaic Cert.Row Cert.Spec

/-- The chunk of a position. -/
def chunk  : IVec S4096 32 :=
  (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

/-- The mask over pairs of positions. -/
def seenM  : IVec S4096x4096 1 :=
  (andi (cmpi .sge (subi (broadcastInDim S4096x4096 ![0, 1] bcast_S4096x1_S4096x4096_0_1 (broadcastInDim S4096x1 ![0] bcast_S4096_S4096x1_0 chunk)) (broadcastInDim S4096x4096 ![0, 1] bcast_S1x4096_S4096x4096_0_1 (broadcastInDim S1x4096 ![1] bcast_S4096_S1x4096_1 chunk))) (broadcastInDim S4096x4096 ![] bcast_S_S4096x4096 (constantI S_ 32 0#32))) (cmpi .sle (subi (broadcastInDim S4096x4096 ![0, 1] bcast_S4096x1_S4096x4096_0_1 (broadcastInDim S4096x1 ![0] bcast_S4096_S4096x1_0 chunk)) (broadcastInDim S4096x4096 ![0, 1] bcast_S1x4096_S4096x4096_0_1 (broadcastInDim S1x4096 ![1] bcast_S4096_S1x4096_1 chunk))) (broadcastInDim S4096x4096 ![] bcast_S_S4096x4096 (constantI S_ 32 8#32))))

/-- The mask, per head. -/
def seenB  : IVec S8x4096x4096 1 :=
  (broadcastInDim S8x4096x4096 ![0, 1, 2] bcast_S1x4096x4096_S8x4096x4096_0_1_2 (broadcastInDim S1x4096x4096 ![1, 2] bcast_S4096x4096_S1x4096x4096_1_2 seenM))

/-- The clipped relative position. -/
def relC  : IVec S4096x4096 32 :=
  (minsi (broadcastInDim S4096x4096 ![] bcast_S_S4096x4096 (id (constantI S_ 32 128#32))) (maxsi (broadcastInDim S4096x4096 ![] bcast_S_S4096x4096 (id (constantI S_ 32 4294967168#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))))

/-- The same, counted from 0. -/
def relP  : IVec S4096x4096 32 :=
  (addi relC (broadcastInDim S4096x4096 ![] bcast_S_S4096x4096 (constantI S_ 32 128#32)))

/-- The bias of a pair of positions. -/
def biasT (x1 : FVec Ideal S8x257 .f32) : FVec Ideal S8x4096x4096 .f32 :=
  (Host.gather gather_S8x257_S4096x4096x1_S8x4096x4096_0_1_n_n_1_2_81 x1 (broadcastInDim S4096x4096x1 ![0, 1] bcast_S4096x4096_S4096x4096x1_0_1 (select (cmpi .slt relP (broadcastInDim S4096x4096 ![] bcast_S_S4096x4096 (constantI S_ 32 0#32))) (addi relP (broadcastInDim S4096x4096 ![] bcast_S_S4096x4096 (constantI S_ 32 257#32))) relP)))

/-- The scaled queries, per head. -/
def qs (x0 : FVec Ideal S4096x7168 .f32) : FVec Ideal S8x4096x128 .f32 :=
  (mulf (transpose S8x4096x128 [1, 0, 2] (shapeCast _ (extractStridedSlice S4096x1024 ![0, 4096] x0 slices_S4096x7168_S4096x1024_0_4096) shapeCasts_S4096x1024_S4096x8x128) transposes_S4096x8x128_S8x4096x128_1_0_2) (broadcastInDim S8x4096x128 ![] bcast_S_S8x4096x128 (constant S_ .f32 0x3DB504F3#32)))

/-- The keys, per head. -/
def kh (x0 : FVec Ideal S4096x7168 .f32) : FVec Ideal S8x4096x128 .f32 :=
  (transpose S8x4096x128 [1, 0, 2] (shapeCast _ (extractStridedSlice S4096x1024 ![0, 5120] x0 slices_S4096x7168_S4096x1024_0_5120) shapeCasts_S4096x1024_S4096x8x128) transposes_S4096x8x128_S8x4096x128_1_0_2)

/-- The values, per head. -/
def vh (x0 : FVec Ideal S4096x7168 .f32) : FVec Ideal S8x4096x128 .f32 :=
  (transpose S8x4096x128 [1, 0, 2] (shapeCast _ (extractStridedSlice S4096x1024 ![0, 6144] x0 slices_S4096x7168_S4096x1024_0_6144) shapeCasts_S4096x1024_S4096x8x128) transposes_S4096x8x128_S8x4096x128_1_0_2)

/-- The output's gradient, per head. -/
def dyh (x2 : FVec Ideal S4096x2048 .f32) : FVec Ideal S8x4096x128 .f32 :=
  (transpose S8x4096x128 [1, 0, 2] (shapeCast _ (extractStridedSlice S4096x1024 ![0, 1024] x2 slices_S4096x2048_S4096x1024_0_1024) shapeCasts_S4096x1024_S4096x8x128) transposes_S4096x8x128_S8x4096x128_1_0_2)

/-- The masked scores. -/
def sco (x0 : FVec Ideal S4096x7168 .f32) (x1 : FVec Ideal S8x257 .f32) : FVec Ideal S8x4096x4096 .f32 :=
  (select seenB (addf (Host.dotGeneral dot_S8x4096x128_S8x4096x128_S8x4096x4096_2_2_1_1_0_0 none (qs x0) (kh x0)) (biasT x1)) (broadcastInDim S8x4096x4096 ![] bcast_S_S8x4096x4096 (id (constant S_ .f32 0xFF800000#32))))

/-- The exponentials. -/
def ex (x0 : FVec Ideal S4096x7168 .f32) (x1 : FVec Ideal S8x257 .f32) : FVec Ideal S8x4096x4096 .f32 :=
  (Host.exp (subf (sco x0 x1) (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 (constant S_ .f32 0xFF800000#32)) (Host.reduce FloatOps.maximumf (sco x0 x1) (constant S_ .f32 0xFF800000#32) reducesTo_S8x4096x4096_S8x4096_d2 h_S_))))))

/-- Their sums. -/
def zz (x0 : FVec Ideal S4096x7168 .f32) (x1 : FVec Ideal S8x257 .f32) : FVec Ideal S8x4096x1 .f32 :=
  (broadcastInDim S8x4096x1 ![0, 1] bcast_S8x4096_S8x4096x1_0_1 (Host.reduceAdd (ex x0 x1) (constant S_ .f32 0x00000000#32) reducesTo_S8x4096x4096_S8x4096_d2 h_S_))

/-- The weights' gradient. -/
def dd (x0 : FVec Ideal S4096x7168 .f32) (x2 : FVec Ideal S4096x2048 .f32) : FVec Ideal S8x4096x4096 .f32 :=
  (Host.dotGeneral dot_S8x4096x128_S8x4096x128_S8x4096x4096_2_2_1_1_0_0 none (dyh x2) (vh x0))

/-- The scores' gradient. -/
def dss (x0 : FVec Ideal S4096x7168 .f32) (x1 : FVec Ideal S8x257 .f32) (x2 : FVec Ideal S4096x2048 .f32) : FVec Ideal S8x4096x4096 .f32 :=
  (select seenB (mulf (addf (Host.divf (dd x0 x2) (broadcastInDim S8x4096x4096 ![0, 1, 2] bcast_S8x4096x1_S8x4096x4096_0_1_2 (zz x0 x1))) (broadcastInDim S8x4096x4096 ![0, 1] bcast_S8x4096_S8x4096x4096_0_1 (Host.reduceAdd (Host.negf (shapeCast _ (Host.reduceAdd (mulf (mulf (dd x0 x2) (broadcastInDim S8x4096x4096 ![0, 1, 2] bcast_S8x4096x1_S8x4096x4096_0_1_2 (Host.divf (broadcastInDim S8x4096x1 ![] bcast_S_S8x4096x1 (constant S_ .f32 0x3F800000#32)) (mulf (zz x0 x1) (zz x0 x1))))) (ex x0 x1)) (constant S_ .f32 0x00000000#32) reducesTo_S8x4096x4096_S8x4096_d2 h_S_) shapeCasts_S8x4096_S8x4096x1)) (constant S_ .f32 0x00000000#32) reducesTo_S8x4096x1_S8x4096_d2 h_S_))) (ex x0 x1)) (broadcastInDim S8x4096x4096 ![] bcast_S_S8x4096x4096 (constant S_ .f32 0x00000000#32)))

/-- The first result: the query gradient among the columns of the incoming array. -/
def out0 (x0 : FVec Ideal S4096x7168 .f32) (x1 : FVec Ideal S8x257 .f32) (x2 : FVec Ideal S4096x2048 .f32) (x3 : FVec Ideal S4096x7168 .bf16) : FVec Ideal S4096x7168 .bf16 :=
  (concatenate S4096x7168 1 [⟨S4096x4096, ((extractStridedSlice S4096x4096 ![0, 0] x3 slices_S4096x7168_S4096x4096_0_0) : (⟨S4096x4096, .bf16⟩ : BufTy).Contents (Elt Ideal))⟩, ⟨S4096x1024, ((truncf .bf16 (shapeCast _ (transpose S4096x8x128 [1, 0, 2] (mulf (Host.dotGeneral dot_S8x4096x4096_S8x4096x128_S8x4096x128_2_1_1_2_0_0 none (dss x0 x1 x2) (kh x0)) (broadcastInDim S8x4096x128 ![] bcast_S_S8x4096x128 (constant S_ .f32 0x3DB504F3#32))) transposes_S8x4096x128_S4096x8x128_1_0_2) shapeCasts_S4096x8x128_S4096x1024) bitsLt_bf16_f32) : (⟨S4096x1024, .bf16⟩ : BufTy).Contents (Elt Ideal))⟩, ⟨S4096x2048, ((extractStridedSlice S4096x2048 ![0, 5120] x3 slices_S4096x7168_S4096x2048_0_5120) : (⟨S4096x2048, .bf16⟩ : BufTy).Contents (Elt Ideal))⟩] concatenates_S4096x4096_S4096x1024_S4096x2048_S4096x7168_d1 : (⟨S4096x7168, .bf16⟩ : BufTy).Contents (Elt Ideal))

/-- The second result: the gradient of the keys. -/
def out1 (x0 : FVec Ideal S4096x7168 .f32) (x1 : FVec Ideal S8x257 .f32) (x2 : FVec Ideal S4096x2048 .f32) : FVec Ideal S4096x1024 .bf16 :=
  truncf .bf16 (shapeCast _ (transpose S4096x8x128 [1, 0, 2] (Host.dotGeneral dot_S8x4096x4096_S8x4096x128_S8x4096x128_1_1_2_2_0_0 none (dss x0 x1 x2) (qs x0)) transposes_S8x4096x128_S4096x8x128_1_0_2) shapeCasts_S4096x8x128_S4096x1024) bitsLt_bf16_f32

/-- The third result: the gradient of the values. -/
def out2 (x0 : FVec Ideal S4096x7168 .f32) (x1 : FVec Ideal S8x257 .f32) (x2 : FVec Ideal S4096x2048 .f32) : FVec Ideal S4096x1024 .bf16 :=
  truncf .bf16 (shapeCast _ (transpose S4096x8x128 [1, 0, 2] (transpose S8x4096x128 [0, 2, 1] (Host.dotGeneral dot_S8x4096x128_S8x4096x4096_S8x128x4096_1_1_2_2_0_0 none (dyh x2) (Host.divf (ex x0 x1) (broadcastInDim S8x4096x4096 ![0, 1, 2] bcast_S8x4096x1_S8x4096x4096_0_1_2 (zz x0 x1)))) transposes_S8x128x4096_S8x4096x128_0_2_1) transposes_S8x4096x128_S4096x8x128_1_0_2) shapeCasts_S4096x8x128_S4096x1024) bitsLt_bf16_f32

end Cert.ReferenceIdeal.Stage

end
-- ==== Proof.Stage.lean ====
module

public import proofs.«01_k».proof.Proof.StageDefs
public import proofs.«01_k».proof.Proof.Gather
public import Idealize.ShloMosaic.Lib.Routing.Words

@[expose] public section

set_option maxRecDepth 16384

noncomputable section

/-! Each stage of the reference read at an index. -/

namespace Cert.ReferenceIdeal.Stage

open Cert.ReferenceIdeal Cert.ReferenceIdeal.Gen Idealize.ShloMosaic Cert.Row Cert.Spec

/-- The word of minus infinity. -/
theorem negInf : Ideal.ofBits .f32 0xFF800000#32 = (⊥ : EReal) := by
  first | rfl | decide | simp [Ideal.ofBits]

/-- The largest entry of a row of scores. -/
theorem rowmax (X : FVec Ideal S8x4096x4096 .f32) (h : Fin 8) (t : Fin 4096) :
    Host.reduce (FloatOps.maximumf (F := Ideal) (φ := .f32)) X (constant S_ .f32 0xFF800000#32) reducesTo_S8x4096x4096_S8x4096_d2 h_S_ (ix2 h t) = top fun s => X (ix3 h t s) := by
  rw [Host.reduce_eq_fold]
  pointwise
  rw [negInf]
  rfl

/-- Three arrays side by side, read at a column. -/
theorem concat3 (A : FVec Ideal S4096x4096 .bf16) (B : FVec Ideal S4096x1024 .bf16) (C : FVec Ideal S4096x2048 .bf16) (s : Fin 4096) (l : Fin 7168) :
    concatenate S4096x7168 1 [⟨S4096x4096, A⟩, ⟨S4096x1024, B⟩, ⟨S4096x2048, C⟩] concatenates_S4096x4096_S4096x1024_S4096x2048_S4096x7168_d1 (ix2 s l)
     = if h1 : l.val < 4096 then A (ix2 s ⟨l.val, h1⟩) else if h2 : l.val - 4096 < 1024 then B (ix2 s ⟨l.val - 4096, h2⟩) else C (ix2 s ⟨l.val - 4096 - 1024, by omega⟩) := by
  pointwise

/-- A position's chunk, as a word. -/
theorem chunk_apply (t : Fin 4096) : chunk (ix1 t) = BitVec.ofNat 32 (t.val / 64) := by
  unfold chunk
  pointwise
  simp only [id, constantI]
  revert t
  decide +kernel

/-- The two comparisons of the mask. -/
theorem seenW (a b : Fin 64) : IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32) =
    BitVec.ofBool (decide (b.val ≤ a.val ∧ a.val ≤ b.val + 8)) := by
  revert a b
  decide +kernel

/-- Clipping a difference that is known up to an offset. -/
theorem clipW (n : Fin 8192) : IntOp.addi (IntOp.minsi 128#32 (IntOp.maxsi 4294967168#32 (BitVec.ofNat 32 n.val - 4096#32))) 128#32 =
    BitVec.ofNat 32 (min (n.val + 128 - 4096) 256) := by
  revert n
  decide +kernel

/-- Clipping a difference of positions. -/
theorem relW (t s : Fin 4096) : IntOp.addi (IntOp.minsi 128#32
        (IntOp.maxsi 4294967168#32 (IntOp.subi (BitVec.ofNat 32 t.val) (BitVec.ofNat 32 s.val)))) 128#32 = BitVec.ofNat 32 (rel t s).val := by
  have e : IntOp.subi (BitVec.ofNat 32 t.val) (BitVec.ofNat 32 s.val) = BitVec.ofNat 32 (t.val + 4096 - s.val) - 4096#32 := by
    unfold IntOp.subi
    apply BitVec.eq_of_toNat_eq
    simp only [BitVec.toNat_sub, BitVec.toNat_ofNat]
    omega
  rw [e]
  have := clipW ⟨t.val + 4096 - s.val, by omega⟩
  dsimp only at this
  rw [this]
  exact congrArg (BitVec.ofNat 32) (show min (t.val + 4096 - s.val + 128 - 4096) 256 = min (t.val + 128 - s.val) 256 by omega)

/-- The mask at a pair of positions. -/
theorem seenM_apply (t s : Fin 4096) : seenM (ix2 t s) = BitVec.ofBool (decide (Seen t s)) := by
  unfold seenM
  pointwise
  rw [chunk_apply, chunk_apply]
  exact seenW ⟨t.val / 64, by omega⟩ ⟨s.val / 64, by omega⟩

/-- The same, per head. -/
theorem seen_apply (h : Fin 8) (t s : Fin 4096) : seenB (ix3 h t s) = BitVec.ofBool (decide (Seen t s)) := by
  unfold seenB
  pointwise
  exact seenM_apply t s

/-- The clipped relative position at a pair of positions. -/
theorem relP_apply (t s : Fin 4096) : relP (ix2 t s) = BitVec.ofNat 32 (rel t s).val := by
  unfold relP relC
  pointwise
  exact relW t s

/-- A number below 257 is not negative as a word. -/
theorem nonnegW (b : Fin 257) : IntOp.cmpi CmpIPredicate.slt (BitVec.ofNat 32 b.val) 0#32 = 0#1 := by
  revert b
  decide +kernel

/-- The bias of a pair of positions. -/
theorem bias_apply (x1 : FVec Ideal S8x257 .f32) (h : Fin 8) (t s : Fin 4096) : biasT x1 (ix3 h t s) = x1 (ix2 h (rel t s)) := by
  unfold biasT
  refine Gather.columns _ rfl rfl rfl rfl rfl x1 _ h t s (rel t s) ?_ ?_
  · pointwise
    rw [relP_apply, nonnegW]
    rfl
  · decide

/-- The scaled queries. -/
theorem qs_apply (x0 : FVec Ideal S4096x7168 .f32) (h : Fin 8) (t : Fin 4096) (d : Fin 128) : qs x0 (ix3 h t d) = q x0 h t d := by
  unfold qs
  pointwise
  rfl

/-- The keys. -/
theorem kh_apply (x0 : FVec Ideal S4096x7168 .f32) (h : Fin 8) (t : Fin 4096) (d : Fin 128) : kh x0 (ix3 h t d) = k x0 h t d := by
  unfold kh
  pointwise
  rfl

/-- The values. -/
theorem vh_apply (x0 : FVec Ideal S4096x7168 .f32) (h : Fin 8) (t : Fin 4096) (d : Fin 128) : vh x0 (ix3 h t d) = v x0 h t d := by
  unfold vh
  pointwise
  rfl

/-- The gradient of the output. -/
theorem dyh_apply (x2 : FVec Ideal S4096x2048 .f32) (h : Fin 8) (t : Fin 4096) (d : Fin 128) : dyh x2 (ix3 h t d) = dy x2 h t d := by
  unfold dyh
  pointwise
  rfl

/-- A masked choice. -/
theorem sel {α : Type} (p : Prop) [Decidable p] (a b : α) : Scalar.select (BitVec.ofBool (decide p)) a b = if p then a else b := by
  by_cases hp : p <;> simp [hp, Scalar.select]

/-- The masked scores. -/
theorem sco_apply (x0 : FVec Ideal S4096x7168 .f32) (x1 : FVec Ideal S8x257 .f32) (h : Fin 8) (t s : Fin 4096) : sco x0 x1 (ix3 h t s) = score x0 x1 h t s := by
  unfold sco
  pointwise
  rw [seen_apply, sel, bias_apply]
  simp only [qs_apply, kh_apply]
  unfold score raw
  exact if_congr Iff.rfl rfl negInf

/-- A row's base for the exponentials. -/
theorem base_gen (M : FVec Ideal S8x4096 .f32) (h : Fin 8) (t : Fin 4096) :
    (maximumf (broadcastInDim S8x4096 ![] bcast_S_S8x4096 (constant S_ .f32 0xFF800000#32)) M) (ix2 h t) = M (ix2 h t) := by
  show max (Ideal.ofBits .f32 0xFF800000#32) (M (ix2 h t)) = _
  rw [negInf, max_eq_right bot_le]

/-- The exponential of a score less its row's base. -/
theorem exp_gen (X : FVec Ideal S8x4096x4096 .f32) (N : FVec Ideal S8x4096 .f32) (h : Fin 8) (t s : Fin 4096) :
    (Host.exp (subf X (broadcastInDim S8x4096x4096 ![0, 1, 2] bcast_S8x4096x1_S8x4096x4096_0_1_2 (broadcastInDim S8x4096x1 ![0, 1] bcast_S8x4096_S8x4096x1_0_1 N)))) (ix3 h t s)
      = Ideal.exp (X (ix3 h t s) - N (ix2 h t)) := by
  pointwise

/-- The weights before the division. -/
theorem ex_apply (x0 : FVec Ideal S4096x7168 .f32) (x1 : FVec Ideal S8x257 .f32) (h : Fin 8) (t s : Fin 4096) : ex x0 x1 (ix3 h t s) = wt (score x0 x1 h t) s := by
  unfold ex
  rw [exp_gen, base_gen, rowmax, sco_apply]
  exact congrArg (fun f : Fin 4096 → EReal => Ideal.exp (score x0 x1 h t s - top f)) (funext fun s => sco_apply x0 x1 h t s)

/-- Their sum over a row. -/
theorem zz_apply (x0 : FVec Ideal S4096x7168 .f32) (x1 : FVec Ideal S8x257 .f32) (h : Fin 8) (t : Fin 4096) (u : Fin 1) : zz x0 x1 (ix3 h t u) = mass (score x0 x1 h t) := by
  unfold zz
  generalize hE : ex x0 x1 = E
  pointwise
  subst hE
  simp only [ex_apply]
  rfl

/-- The gradient of a weight. -/
theorem dd_apply (x0 : FVec Ideal S4096x7168 .f32) (x2 : FVec Ideal S4096x2048 .f32) (h : Fin 8) (t s : Fin 4096) : dd x0 x2 (ix3 h t s) = dp x0 x2 h t s := by
  unfold dd
  pointwise
  simp only [dyh_apply, vh_apply]
  rfl

/-- The gradient of a score. -/
theorem dss_apply (x0 : FVec Ideal S4096x7168 .f32) (x1 : FVec Ideal S8x257 .f32) (x2 : FVec Ideal S4096x2048 .f32) (h : Fin 8) (t s : Fin 4096) : dss x0 x1 x2 (ix3 h t s) = ds x0 x1 x2 h t s := by
  unfold dss
  generalize hE : ex x0 x1 = E
  generalize hZ : zz x0 x1 = Z
  generalize hD : dd x0 x2 = D
  pointwise
  subst hE hZ hD
  rw [seen_apply, sel]
  simp only [ex_apply, zz_apply, dd_apply]
  rw [Fin.sum_univ_one]
  unfold ds
  by_cases hs : Seen t s
  · rw [if_pos hs]
    rfl
  · rw [if_neg hs, dsR_zero]
    unfold score
    rw [if_neg hs]

/-- The second result at an index. -/
theorem out1_apply (x0 : FVec Ideal S4096x7168 .f32) (x1 : FVec Ideal S8x257 .f32) (x2 : FVec Ideal S4096x2048 .f32) (s : Fin 4096) (l : Fin 1024) : out1 x0 x1 x2 (ix2 s l) = dk x0 x1 x2 ⟨l.val / 128, by omega⟩ s ⟨l.val % 128, by omega⟩ := by
  unfold out1
  generalize hE : dss x0 x1 x2 = E
  generalize hZ : qs x0 = Z
  pointwise
  subst hE hZ
  simp only [dss_apply, qs_apply]
  rfl

/-- The third result at an index. -/
theorem out2_apply (x0 : FVec Ideal S4096x7168 .f32) (x1 : FVec Ideal S8x257 .f32) (x2 : FVec Ideal S4096x2048 .f32) (s : Fin 4096) (l : Fin 1024) : out2 x0 x1 x2 (ix2 s l) = dv x0 x1 x2 ⟨l.val / 128, by omega⟩ s ⟨l.val % 128, by omega⟩ := by
  unfold out2
  generalize hE : ex x0 x1 = E
  generalize hZ : zz x0 x1 = Z
  generalize hD : dyh x2 = D
  pointwise
  subst hE hZ hD
  simp only [ex_apply, zz_apply, dyh_apply]
  rfl

/-- The query gradient inside the first result. -/
theorem mid_apply (E : FVec Ideal S8x4096x4096 .f32) (K : FVec Ideal S8x4096x128 .f32) (s : Fin 4096) (l : Fin 1024) :
    (truncf .bf16 (shapeCast S4096x1024 (transpose S4096x8x128 [1, 0, 2] (mulf (Host.dotGeneral (F := Ideal) dot_S8x4096x4096_S8x4096x128_S8x4096x128_2_1_1_2_0_0 none E K) (broadcastInDim S8x4096x128 ![] bcast_S_S8x4096x128 (constant S_ .f32 0x3DB504F3#32))) transposes_S8x4096x128_S4096x8x128_1_0_2) shapeCasts_S4096x8x128_S4096x1024) bitsLt_bf16_f32 : FVec Ideal S4096x1024 .bf16) (ix2 s l)
      = (∑ j, E (ix3 ⟨l.val / 128, by omega⟩ s j) * K (ix3 ⟨l.val / 128, by omega⟩ j ⟨l.val % 128, by omega⟩)) * sc := by
  pointwise
  rfl

/-- The first result at an index. -/
theorem out0_apply (x0 : FVec Ideal S4096x7168 .f32) (x1 : FVec Ideal S8x257 .f32) (x2 : FVec Ideal S4096x2048 .f32) (x3 : FVec Ideal S4096x7168 .bf16) (s : Fin 4096) (l : Fin 7168) : out0 x0 x1 x2 x3 (ix2 s l) =
    if hl : 4096 ≤ l.val ∧ l.val < 5120 then dq x0 x1 x2 ⟨(l.val - 4096) / 128, by omega⟩ s ⟨(l.val - 4096) % 128, by omega⟩ else x3 (ix2 s l) := by
  unfold out0
  rw [concat3]
  by_cases h1 : l.val < 4096
  · rw [dif_pos h1, dif_neg (by omega)]
    pointwise
  · rw [dif_neg h1]
    by_cases h2 : l.val - 4096 < 1024
    · rw [dif_pos h2, dif_pos (by omega), mid_apply]
      simp only [dss_apply, kh_apply]
      rfl
    · rw [dif_neg h2, dif_neg (by omega)]
      pointwise
      exact congrArg x3 (congrArg (ix2 s) (Fin.ext (show 5120 + (l.val - 4096 - 1024) = l.val by omega)))

end Cert.ReferenceIdeal.Stage

end
-- ==== Proof.RefVal.lean ====
module

public import proofs.«01_k».proof.Proof.Stage
public import proofs.«01_k».proof.Proof.Gen.ReferenceIdeal.Run

@[expose] public section

set_option maxRecDepth 16384

noncomputable section

/-! The reference's results are the folded stages. -/

namespace Cert.ReferenceIdeal.Stage

open Cert.ReferenceIdeal Cert.ReferenceIdeal.Gen Cert.ReferenceIdeal.Value Idealize.ShloMosaic Idealize.ShloMosaic.TcCoe

variable (m : (ℓ : Loc nD τ sig) → Buf (Elt Ideal) ℓ) (c : Dev nD)

/-- The first result, folded. -/
theorem res0 : res_out0 m c = out0 (m ((c.tc : Thread nD τ).loc main_arg0)) (m ((c.tc : Thread nD τ).loc main_arg1)) (m ((c.tc : Thread nD τ).loc main_arg2)) (m ((c.tc : Thread nD τ).loc main_arg3)) := by
  unfold res_out0 res_main_v105
  rfl

/-- The second result, folded. -/
theorem res1 : res_out1 m c = out1 (m ((c.tc : Thread nD τ).loc main_arg0)) (m ((c.tc : Thread nD τ).loc main_arg1)) (m ((c.tc : Thread nD τ).loc main_arg2)) := by
  unfold res_out1 res_main_v106
  rfl

/-- The third result, folded. -/
theorem res2 : res_out2 m c = out2 (m ((c.tc : Thread nD τ).loc main_arg0)) (m ((c.tc : Thread nD τ).loc main_arg1)) (m ((c.tc : Thread nD τ).loc main_arg2)) := by
  unfold res_out2 res_main_v107
  rfl

end Cert.ReferenceIdeal.Stage

end
-- ==== Proof.Product.lean ====
module

public import Idealize.ShloMosaic.Lib.Pointwise
public import Idealize.ShloMosaic.Lib.Pipeline.Value
public import Idealize.ShloMosaic.Lib.Pipeline.ValueKit
public import Idealize.ShloMosaic.Lib.Pipeline.ValueKit.Tiles
public import Idealize.ShloMosaic.Lib.Pipeline.ValueKit.Acc

@[expose] public section

noncomputable section

/-! The product of two matrices of extended reals, in the three orders in which a training step needs it, and the
    fact that a block of a product is the product of a band of rows and a band of columns. -/

namespace Cert.Product

open Idealize.ShloMosaic

/-- A matrix of extended reals. -/
abbrev Mat (M N : ℕ) : Type := (⟨2, ![M, N]⟩ : Shape).Idx → EReal

variable {M K N M' K' N' : ℕ}

/-- Row by column. -/
def nn (a : Mat M K) (b : Mat K N) : Mat M N := fun i => ∑ k : Fin K, a (ix2 (i 0) k) * b (ix2 k (i 1))

/-- Row by column, with a matrix added. -/
def nn_added (a : Mat M K) (b : Mat K N) (x : Mat M N) : Mat M N := fun i => nn a b i + x i

/-- Row by row. -/
def nt (a : Mat M K) (b : Mat N K) : Mat M N := fun i => ∑ k : Fin K, a (ix2 (i 0) k) * b (ix2 (i 1) k)

/-- Column by column. -/
def tn (a : Mat K M) (b : Mat K N) : Mat M N := fun i => ∑ k : Fin K, a (ix2 k (i 0)) * b (ix2 k (i 1))

/-- An entry of a product of blocks is an entry of the whole product, if the row and the column are. -/
theorem nn_block {a : Mat M K} {b : Mat K N} {A : Mat M' K} {B : Mat K N'} {y : (⟨2, ![M, N]⟩ : Shape).Idx} {i : (⟨2, ![M', N']⟩ : Shape).Idx}
    (ha : ∀ k, a (ix2 (y 0) k) = A (ix2 (i 0) k)) (hb : ∀ k, b (ix2 k (y 1)) = B (ix2 k (i 1))) : nn a b y = nn A B i :=
  Finset.sum_congr rfl fun k _ => congrArg₂ _ (ha k) (hb k)

/-- The same with a matrix added. -/
theorem nn_added_block {a : Mat M K} {b : Mat K N} {x : Mat M N} {A : Mat M' K} {B : Mat K N'} {X : Mat M' N'} {y : (⟨2, ![M, N]⟩ : Shape).Idx} {i : (⟨2, ![M', N']⟩ : Shape).Idx}
    (ha : ∀ k, a (ix2 (y 0) k) = A (ix2 (i 0) k)) (hb : ∀ k, b (ix2 k (y 1)) = B (ix2 k (i 1))) (hx : x y = X i) : nn_added a b x y = nn_added A B X i :=
  congrArg₂ _ (nn_block ha hb) hx

/-- The same, row by row. -/
theorem nt_block {a : Mat M K} {b : Mat N K} {A : Mat M' K} {B : Mat N' K} {y : (⟨2, ![M, N]⟩ : Shape).Idx} {i : (⟨2, ![M', N']⟩ : Shape).Idx}
    (ha : ∀ k, a (ix2 (y 0) k) = A (ix2 (i 0) k)) (hb : ∀ k, b (ix2 (y 1) k) = B (ix2 (i 1) k)) : nt a b y = nt A B i :=
  Finset.sum_congr rfl fun k _ => congrArg₂ _ (ha k) (hb k)

/-- The same, column by column. -/
theorem tn_block {a : Mat K M} {b : Mat K N} {A : Mat K M'} {B : Mat K N'} {y : (⟨2, ![M, N]⟩ : Shape).Idx} {i : (⟨2, ![M', N']⟩ : Shape).Idx}
    (ha : ∀ k, a (ix2 k (y 0)) = A (ix2 k (i 0))) (hb : ∀ k, b (ix2 k (y 1)) = B (ix2 k (i 1))) : tn a b y = tn A B i :=
  Finset.sum_congr rfl fun k _ => congrArg₂ _ (ha k) (hb k)

/-- The two factors of a column by column product in the other order give the transposed product. -/
theorem tn_swap (a : Mat K M) (b : Mat K N) (i : Fin M) (j : Fin N) : ∑ k : Fin K, b (ix2 k j) * a (ix2 k i) = tn a b (ix2 i j) :=
  Finset.sum_congr rfl fun k _ => mul_comm _ _

/-- A product summed over bands of the contracted axis is the whole product, if each band's row and column are. -/
theorem nn_bands {S n : ℕ} {a : Fin S → Mat M n} {b : Fin S → Mat n N} {A : Mat M' K} {B : Mat K N'} {y : (⟨2, ![M, N]⟩ : Shape).Idx} {i : (⟨2, ![M', N']⟩ : Shape).Idx} (hK : K = S * n)
    (ha : ∀ s k h, a s (ix2 (y 0) k) = A (ix2 (i 0) ⟨s.val * n + k.val, h⟩)) (hb : ∀ s k h, b s (ix2 k (y 1)) = B (ix2 ⟨s.val * n + k.val, h⟩ (i 1))) :
    ∑ s, nn (a s) (b s) y = nn A B i :=
  Fin.sum_mul_add_congr (fun s k h => congrArg₂ _ (ha s k h) (hb s k h)) hK

/-- The same, row by row. -/
theorem nt_bands {S n : ℕ} {a : Fin S → Mat M n} {b : Fin S → Mat N n} {A : Mat M' K} {B : Mat N' K} {y : (⟨2, ![M, N]⟩ : Shape).Idx} {i : (⟨2, ![M', N']⟩ : Shape).Idx} (hK : K = S * n)
    (ha : ∀ s k h, a s (ix2 (y 0) k) = A (ix2 (i 0) ⟨s.val * n + k.val, h⟩)) (hb : ∀ s k h, b s (ix2 (y 1) k) = B (ix2 (i 1) ⟨s.val * n + k.val, h⟩)) :
    ∑ s, nt (a s) (b s) y = nt A B i :=
  Fin.sum_mul_add_congr (fun s k h => congrArg₂ _ (ha s k h) (hb s k h)) hK

/-- A window's block that starts at the array's first entry. -/
theorem hz : (![0, 0] : Fin 2 → Nat) = fun _ => 0 := by decide

end Cert.Product

end
-- ==== Proof.DWUp.lean ====
module

public import proofs.«01_k».proof.Defs
public import proofs.«01_k».proof.Proof.Product
public import proofs.«01_k».proof.Proof.Gen.Kernel2.Frame
public import proofs.«01_k».proof.Proof.Gen.Kernel2Ideal.Value
public import proofs.«01_k».proof.Proof.Gen.Reference2Ideal.Run

@[expose] public section

set_option maxRecDepth 16384

noncomputable section

/-! The gradient of the weights of the feed-forward part's first product. -/

namespace Cert.Kernel2Ideal.Val

open Cert.Kernel2Ideal Cert.Kernel2Ideal.Gen Idealize.ShloMosaic Idealize.ShloMosaic.TcCoe Idealize.SL.Sem Cert.Product

/-- What a step stores is the product of its blocks. -/
theorem pay (a : Vec Ideal S4096x512 .bf16) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel2 := fun m g _ => Cert.Kernel2.Gen.frame m g

/-- The same over the extended reals. -/
theorem frame_ideal : Cert.quiescent_Kernel2Ideal := fun m g _ => Cert.Kernel2Ideal.Gen.frame m g

/-- The reference runs, keeps its arguments and leaves no counter. -/
theorem frame_reference : Cert.quiescent_Reference2Ideal :=
  fun m g _ => (θ_run Cert.Reference2Ideal.defs _ _).mono (fun r h => ⟨fun c => (h c).2, sem_eq_zero_of_no_sems (by decide) r.2⟩)
    (Cert.Reference2Ideal.Value.run (F := Ideal) m g)

/-- Over the extended reals the kernel and the reference end with the same array. -/
theorem algebraic : Cert.algebraic_Kernel2Ideal_Reference2Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference2Ideal.defs _ _).mono (fun r h c => ⟨(h c).1.trans ?_, (h c).2⟩) (Cert.Reference2Ideal.Value.run (F := Ideal) m' g')
    rw [(hargs c).1, (hargs c).2]
    funext j
    idx_vars j
    pointwise
    exact tn_swap _ _ _ _

end Cert.Kernel2Ideal.Val

end
-- ==== Proof.DNormFfnOut.lean ====
module

public import proofs.«01_k».proof.Defs
public import proofs.«01_k».proof.Proof.Product
public import proofs.«01_k».proof.Proof.Gen.Kernel3.Frame
public import proofs.«01_k».proof.Proof.Gen.Kernel3Ideal.Value
public import proofs.«01_k».proof.Proof.Gen.Reference3Ideal.Run

@[expose] public section

set_option maxRecDepth 16384

noncomputable section

/-! The gradient of the input of the feed-forward part's first product, accumulated over four bands of the contracted axis. -/

namespace Cert.Kernel3Ideal.Val

open Cert.Kernel3Ideal Cert.Kernel3Ideal.Gen Idealize.ShloMosaic Idealize.ShloMosaic.TcCoe Idealize.SL.Sem Cert.Product

/-- A step's product of blocks. -/
theorem pay (a : Vec Ideal S1024x2816 .bf16) (b : Vec Ideal S1024x2816 .bf16) : k0_pay1 a b = nt a b := by
  funext y
  idx_vars y
  pointwise [k0_pay1]
  rfl

/-- What the first step of a block stores in the accumulator. -/
theorem pay_first (a : Vec Ideal S1024x2816 .bf16) (b : Vec Ideal S1024x2816 .bf16) : k0_pay2 a b = nt a b := by
  unfold k0_pay2
  rw [pay]
  exact shapeCast_self _ _

/-- What a later step stores there. -/
theorem pay_next (a : Vec Ideal S1024x2816 .bf16) (b : Vec Ideal S1024x2816 .bf16) (x : Vec Ideal S1024x1024 .f32) (j : S1024x1024.Idx) : k0_pay3 a b x j = x j + nt a b j := by
  unfold k0_pay3
  rw [pay]
  rw [shapeCast_self]
  rfl

/-- Where the blocks of the step at a place of a block's run lie. -/
theorem idx : ∀ (t : Fin grid0.N) (s : Fin 4) (h : 4 * (t.val / 4) + s.val < grid0.N),
    win0_0.index ⟨4 * (t.val / 4) + s.val, h⟩ 0 = win0_2.index t 0 ∧ win0_0.index ⟨4 * (t.val / 4) + s.val, h⟩ 1 = s.val ∧ win0_1.index ⟨4 * (t.val / 4) + s.val, h⟩ 0 = win0_2.index t 1 ∧ win0_1.index ⟨4 * (t.val / 4) + s.val, h⟩ 1 = s.val := by
  decide +kernel

variable (m : (ℓ : Loc nD τ sig) → Buf (Elt Ideal) ℓ) (c : Dev nD)

/-- The last step of a block's run writes the accumulator. -/
theorem out_eq (t : Fin cfg0.N) (h : t.val % 4 = 3) : (outsAt0 m c t.val t.isLt).1 = (outsAt0 m c t.val t.isLt).2 := by
  rw [outsAt0_C m c t (by omega) (by omega) h]
  frame_out
  rfl

/-- What is written for a block is the sum of the products of its four bands. -/
theorem sum (t : Fin cfg0.N) (h : t.val % 4 = 3) (j : S1024x1024.Idx) : (outsAt0 m c t.val t.isLt).1 j =
    ∑ s : Fin 4, nt (iblk m c 0 ⟨4 * (t.val / 4) + s.val, by have := t.isLt; omega⟩) (iblk m c 1 ⟨4 * (t.val / 4) + s.val, by have := t.isLt; omega⟩) j := by
  rw [out_eq m c t h, Pipeline.eq_sum_fin_of_reset_step_apply_of_flush (fun n h => (outsAt0 m c n h).2) 4 (fun _ => 0) (fun t => nt (iblk m c 0 t) (iblk m c 1 t))
    (fun t h j => by rw [outsAt0_A m c t h (by omega) (by omega)]; frame_out; rw [pay_first, zero_add])
    (fun t h j => by
      by_cases h3 : t.val % 4 = 3
      · rw [outsAt0_C m c t h (by omega) h3]; frame_out; rw [pay_next, (Memref.isWhole_whole _).read_unread]
      · rw [outsAt0_B m c t h (by omega) h3]; frame_out; rw [pay_next, (Memref.isWhole_whole _).read_unread]) t h j, zero_add]

/-- The result array after the run is the product of the arguments. -/
theorem arr : (dats m 0 c).arrAt 2 cfg0.N = nt (m ((c : Thread nD τ).loc main_arg0)) (m ((c : Thread nD τ).loc main_arg1)) := by
  refine (dats m 0 c).arrAt_eq_of_covers 2 (nt (m ((c : Thread nD τ).loc main_arg0)) (m ((c : Thread nD τ).loc main_arg1))) (by decide +kernel) (fun t hf y => ?_)
  blk_simp
  rw [after0_2, sum m c t ((flush0_2 t).mp hf)]
  refine nt_bands (K := 11264) (S := 4) rfl (fun s k _ => ?_) (fun s k _ => ?_) <;> blk_ext [iblk, V, idx t s (Pipeline.run_point_lt_of_flush t ((flush0_2 t).mp hf) s)]

/-- The kernel runs, keeps its arguments and leaves no counter. -/
theorem frame_kernel : Cert.quiescent_Kernel3 := fun m g _ => Cert.Kernel3.Gen.frame m g

/-- The same over the extended reals. -/
theorem frame_ideal : Cert.quiescent_Kernel3Ideal := fun m g _ => Cert.Kernel3Ideal.Gen.frame m g

/-- The reference runs, keeps its arguments and leaves no counter. -/
theorem frame_reference : Cert.quiescent_Reference3Ideal :=
  fun m g _ => (θ_run Cert.Reference3Ideal.defs _ _).mono (fun r h => ⟨fun c => (h c).2, sem_eq_zero_of_no_sems (by decide) r.2⟩)
    (Cert.Reference3Ideal.Value.run (F := Ideal) m g)

/-- Over the extended reals the kernel and the reference end with the same array. -/
theorem algebraic : Cert.algebraic_Kernel3Ideal_Reference3Ideal := by
  intro m g m' g' _ hargs
  refine ⟨fun c => nt (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference3Ideal.defs _ _).mono (fun r h c => ⟨(h c).1.trans ?_, (h c).2⟩) (Cert.Reference3Ideal.Value.run (F := Ideal) m' g')
    rw [(hargs c).1, (hargs c).2]
    funext j
    idx_vars j
    pointwise
    rfl

end Cert.Kernel3Ideal.Val

end
-- ==== Proof.DWIn.lean ====
module

public import proofs.«01_k».proof.Defs
public import proofs.«01_k».proof.Proof.Product
public import proofs.«01_k».proof.Proof.Gen.Kernel4.Frame
public import proofs.«01_k».proof.Proof.Gen.Kernel4Ideal.Value
public import proofs.«01_k».proof.Proof.Gen.Reference4Ideal.Run

@[expose] public section

set_option maxRecDepth 16384

noncomputable section

/-! The gradient of the weights of the mixers' projections. -/

namespace Cert.Kernel4Ideal.Val

open Cert.Kernel4Ideal Cert.Kernel4Ideal.Gen Idealize.ShloMosaic Idealize.ShloMosaic.TcCoe Idealize.SL.Sem Cert.Product

/-- What a step stores is the product of its blocks. -/
theorem pay (a : Vec Ideal S4096x512 .bf16) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel4 := fun m g _ => Cert.Kernel4.Gen.frame m g

/-- The same over the extended reals. -/
theorem frame_ideal : Cert.quiescent_Kernel4Ideal := fun m g _ => Cert.Kernel4Ideal.Gen.frame m g

/-- The reference runs, keeps its arguments and leaves no counter. -/
theorem frame_reference : Cert.quiescent_Reference4Ideal :=
  fun m g _ => (θ_run Cert.Reference4Ideal.defs _ _).mono (fun r h => ⟨fun c => (h c).2, sem_eq_zero_of_no_sems (by decide) r.2⟩)
    (Cert.Reference4Ideal.Value.run (F := Ideal) m g)

/-- Over the extended reals the kernel and the reference end with the same array. -/
theorem algebraic : Cert.algebraic_Kernel4Ideal_Reference4Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference4Ideal.defs _ _).mono (fun r h c => ⟨(h c).1.trans ?_, (h c).2⟩) (Cert.Reference4Ideal.Value.run (F := Ideal) m' g')
    rw [(hargs c).1, (hargs c).2]
    funext j
    idx_vars j
    pointwise
    exact tn_swap _ _ _ _

end Cert.Kernel4Ideal.Val

end
-- ==== Proof.DNormMixOut.lean ====
module

public import proofs.«01_k».proof.Defs
public import proofs.«01_k».proof.Proof.Product
public import proofs.«01_k».proof.Proof.Gen.Kernel5.Frame
public import proofs.«01_k».proof.Proof.Gen.Kernel5Ideal.Value
public import proofs.«01_k».proof.Proof.Gen.Reference5Ideal.Run

@[expose] public section

set_option maxRecDepth 16384

noncomputable section

/-! The gradient of the input of the mixers' projections, accumulated over four bands of the contracted axis. -/

namespace Cert.Kernel5Ideal.Val

open Cert.Kernel5Ideal Cert.Kernel5Ideal.Gen Idealize.ShloMosaic Idealize.ShloMosaic.TcCoe Idealize.SL.Sem Cert.Product

/-- A step's product of blocks. -/
theorem pay (a : Vec Ideal S1024x1792 .bf16) (b : Vec Ideal S1024x1792 .bf16) : k0_pay1 a b = nt a b := by
  funext y
  idx_vars y
  pointwise [k0_pay1]
  rfl

/-- What the first step of a block stores in the accumulator. -/
theorem pay_first (a : Vec Ideal S1024x1792 .bf16) (b : Vec Ideal S1024x1792 .bf16) : k0_pay2 a b = nt a b := by
  unfold k0_pay2
  rw [pay]
  exact shapeCast_self _ _

/-- What a later step stores there. -/
theorem pay_next (a : Vec Ideal S1024x1792 .bf16) (b : Vec Ideal S1024x1792 .bf16) (x : Vec Ideal S1024x1024 .f32) (j : S1024x1024.Idx) : k0_pay3 a b x j = x j + nt a b j := by
  unfold k0_pay3
  rw [pay]
  rw [shapeCast_self]
  rfl

/-- Where the blocks of the step at a place of a block's run lie. -/
theorem idx : ∀ (t : Fin grid0.N) (s : Fin 4) (h : 4 * (t.val / 4) + s.val < grid0.N),
    win0_0.index ⟨4 * (t.val / 4) + s.val, h⟩ 0 = win0_2.index t 0 ∧ win0_0.index ⟨4 * (t.val / 4) + s.val, h⟩ 1 = s.val ∧ win0_1.index ⟨4 * (t.val / 4) + s.val, h⟩ 0 = win0_2.index t 1 ∧ win0_1.index ⟨4 * (t.val / 4) + s.val, h⟩ 1 = s.val := by
  decide +kernel

variable (m : (ℓ : Loc nD τ sig) → Buf (Elt Ideal) ℓ) (c : Dev nD)

/-- The last step of a block's run writes the accumulator. -/
theorem out_eq (t : Fin cfg0.N) (h : t.val % 4 = 3) : (outsAt0 m c t.val t.isLt).1 = (outsAt0 m c t.val t.isLt).2 := by
  rw [outsAt0_C m c t (by omega) (by omega) h]
  frame_out
  rfl

/-- What is written for a block is the sum of the products of its four bands. -/
theorem sum (t : Fin cfg0.N) (h : t.val % 4 = 3) (j : S1024x1024.Idx) : (outsAt0 m c t.val t.isLt).1 j =
    ∑ s : Fin 4, nt (iblk m c 0 ⟨4 * (t.val / 4) + s.val, by have := t.isLt; omega⟩) (iblk m c 1 ⟨4 * (t.val / 4) + s.val, by have := t.isLt; omega⟩) j := by
  rw [out_eq m c t h, Pipeline.eq_sum_fin_of_reset_step_apply_of_flush (fun n h => (outsAt0 m c n h).2) 4 (fun _ => 0) (fun t => nt (iblk m c 0 t) (iblk m c 1 t))
    (fun t h j => by rw [outsAt0_A m c t h (by omega) (by omega)]; frame_out; rw [pay_first, zero_add])
    (fun t h j => by
      by_cases h3 : t.val % 4 = 3
      · rw [outsAt0_C m c t h (by omega) h3]; frame_out; rw [pay_next, (Memref.isWhole_whole _).read_unread]
      · rw [outsAt0_B m c t h (by omega) h3]; frame_out; rw [pay_next, (Memref.isWhole_whole _).read_unread]) t h j, zero_add]

/-- The result array after the run is the product of the arguments. -/
theorem arr : (dats m 0 c).arrAt 2 cfg0.N = nt (m ((c : Thread nD τ).loc main_arg0)) (m ((c : Thread nD τ).loc main_arg1)) := by
  refine (dats m 0 c).arrAt_eq_of_covers 2 (nt (m ((c : Thread nD τ).loc main_arg0)) (m ((c : Thread nD τ).loc main_arg1))) (by decide +kernel) (fun t hf y => ?_)
  blk_simp
  rw [after0_2, sum m c t ((flush0_2 t).mp hf)]
  refine nt_bands (K := 7168) (S := 4) rfl (fun s k _ => ?_) (fun s k _ => ?_) <;> blk_ext [iblk, V, idx t s (Pipeline.run_point_lt_of_flush t ((flush0_2 t).mp hf) s)]

/-- The kernel runs, keeps its arguments and leaves no counter. -/
theorem frame_kernel : Cert.quiescent_Kernel5 := fun m g _ => Cert.Kernel5.Gen.frame m g

/-- The same over the extended reals. -/
theorem frame_ideal : Cert.quiescent_Kernel5Ideal := fun m g _ => Cert.Kernel5Ideal.Gen.frame m g

/-- The reference runs, keeps its arguments and leaves no counter. -/
theorem frame_reference : Cert.quiescent_Reference5Ideal :=
  fun m g _ => (θ_run Cert.Reference5Ideal.defs _ _).mono (fun r h => ⟨fun c => (h c).2, sem_eq_zero_of_no_sems (by decide) r.2⟩)
    (Cert.Reference5Ideal.Value.run (F := Ideal) m g)

/-- Over the extended reals the kernel and the reference end with the same array. -/
theorem algebraic : Cert.algebraic_Kernel5Ideal_Reference5Ideal := by
  intro m g m' g' _ hargs
  refine ⟨fun c => nt (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference5Ideal.defs _ _).mono (fun r h c => ⟨(h c).1.trans ?_, (h c).2⟩) (Cert.Reference5Ideal.Value.run (F := Ideal) m' g')
    rw [(hargs c).1, (hargs c).2]
    funext j
    idx_vars j
    pointwise
    rfl

end Cert.Kernel5Ideal.Val

end
-- ==== Proof.DWDown.lean ====
module

public import proofs.«01_k».proof.Defs
public import proofs.«01_k».proof.Proof.Product
public import proofs.«01_k».proof.Proof.Gen.Kernel6.Frame
public import proofs.«01_k».proof.Proof.Gen.Kernel6Ideal.Value
public import proofs.«01_k».proof.Proof.Gen.Reference6Ideal.Run

@[expose] public section

set_option maxRecDepth 16384

noncomputable section

/-! The gradient of the weights of the feed-forward part's second product. -/

namespace Cert.Kernel6Ideal.Val

open Cert.Kernel6Ideal Cert.Kernel6Ideal.Gen Idealize.ShloMosaic Idealize.ShloMosaic.TcCoe Idealize.SL.Sem Cert.Product

/-- What a step stores is the product of its blocks. -/
theorem pay (a : Vec Ideal S4096x512 .bf16) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel6 := fun m g _ => Cert.Kernel6.Gen.frame m g

/-- The same over the extended reals. -/
theorem frame_ideal : Cert.quiescent_Kernel6Ideal := fun m g _ => Cert.Kernel6Ideal.Gen.frame m g

/-- The reference runs, keeps its arguments and leaves no counter. -/
theorem frame_reference : Cert.quiescent_Reference6Ideal :=
  fun m g _ => (θ_run Cert.Reference6Ideal.defs _ _).mono (fun r h => ⟨fun c => (h c).2, sem_eq_zero_of_no_sems (by decide) r.2⟩)
    (Cert.Reference6Ideal.Value.run (F := Ideal) m g)

/-- Over the extended reals the kernel and the reference end with the same array. -/
theorem algebraic : Cert.algebraic_Kernel6Ideal_Reference6Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference6Ideal.defs _ _).mono (fun r h c => ⟨(h c).1.trans ?_, (h c).2⟩) (Cert.Reference6Ideal.Value.run (F := Ideal) m' g')
    rw [(hargs c).1, (hargs c).2]
    funext j
    idx_vars j
    pointwise
    exact tn_swap _ _ _ _

end Cert.Kernel6Ideal.Val

end
-- ==== Proof.DFfnAct.lean ====
module

public import proofs.«01_k».proof.Defs
public import proofs.«01_k».proof.Proof.Product
public import proofs.«01_k».proof.Proof.Gen.Kernel7.Frame
public import proofs.«01_k».proof.Proof.Gen.Kernel7Ideal.Value
public import proofs.«01_k».proof.Proof.Gen.Reference7Ideal.Run

@[expose] public section

set_option maxRecDepth 16384

noncomputable section

/-! The gradient of the input of the feed-forward part's second product. -/

namespace Cert.Kernel7Ideal.Val

open Cert.Kernel7Ideal Cert.Kernel7Ideal.Gen Idealize.ShloMosaic Idealize.ShloMosaic.TcCoe Idealize.SL.Sem Cert.Product

/-- What a step stores is the product of its blocks. -/
theorem pay (a : Vec Ideal S1024x2048 .bf16) (b : Vec Ideal S1408x2048 .bf16) : k0_pay1 a b = nt a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = win0_2.index t 1 ∧ win0_1.index t 1 = 0 := by
  decide +kernel

variable (m : (ℓ : Loc nD τ sig) → Buf (Elt Ideal) ℓ) (c : Dev nD)

/-- The result array after the run is the product of the arguments. -/
theorem arr : (dats m 0 c).arrAt 2 cfg0.N = nt (m ((c : Thread nD τ).loc main_arg0)) (m ((c : Thread nD τ).loc main_arg1)) := by
  refine (dats m 0 c).arrAt_eq_of_covers 2 (nt (m ((c : Thread nD τ).loc main_arg0)) (m ((c : Thread nD τ).loc main_arg1))) (by decide +kernel) (fun t _ y => ?_)
  blk_simp
  rw [after0_2]
  frame_out
  rw [pay]
  refine nt_block (fun k => ?_) (fun k => ?_) <;> blk_ext [iblk, V, idx t]

/-- The kernel runs, keeps its arguments and leaves no counter. -/
theorem frame_kernel : Cert.quiescent_Kernel7 := fun m g _ => Cert.Kernel7.Gen.frame m g

/-- The same over the extended reals. -/
theorem frame_ideal : Cert.quiescent_Kernel7Ideal := fun m g _ => Cert.Kernel7Ideal.Gen.frame m g

/-- The reference runs, keeps its arguments and leaves no counter. -/
theorem frame_reference : Cert.quiescent_Reference7Ideal :=
  fun m g _ => (θ_run Cert.Reference7Ideal.defs _ _).mono (fun r h => ⟨fun c => (h c).2, sem_eq_zero_of_no_sems (by decide) r.2⟩)
    (Cert.Reference7Ideal.Value.run (F := Ideal) m g)

/-- Over the extended reals the kernel and the reference end with the same array. -/
theorem algebraic : Cert.algebraic_Kernel7Ideal_Reference7Ideal := by
  intro m g m' g' _ hargs
  refine ⟨fun c => nt (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference7Ideal.defs _ _).mono (fun r h c => ⟨(h c).1.trans ?_, (h c).2⟩) (Cert.Reference7Ideal.Value.run (F := Ideal) m' g')
    rw [(hargs c).1, (hargs c).2]
    funext j
    idx_vars j
    pointwise
    rfl

end Cert.Kernel7Ideal.Val

end
-- ==== Proof.DWOut.lean ====
module

public import proofs.«01_k».proof.Defs
public import proofs.«01_k».proof.Proof.Product
public import proofs.«01_k».proof.Proof.Gen.Kernel8.Frame
public import proofs.«01_k».proof.Proof.Gen.Kernel8Ideal.Value
public import proofs.«01_k».proof.Proof.Gen.Reference8Ideal.Run

@[expose] public section

set_option maxRecDepth 16384

noncomputable section

/-! The gradient of the weights of the mixers' output projection. -/

namespace Cert.Kernel8Ideal.Val

open Cert.Kernel8Ideal Cert.Kernel8Ideal.Gen Idealize.ShloMosaic Idealize.ShloMosaic.TcCoe Idealize.SL.Sem Cert.Product

/-- What a step stores is the product of its blocks. -/
theorem pay (a : Vec Ideal S4096x512 .bf16) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel8 := fun m g _ => Cert.Kernel8.Gen.frame m g

/-- The same over the extended reals. -/
theorem frame_ideal : Cert.quiescent_Kernel8Ideal := fun m g _ => Cert.Kernel8Ideal.Gen.frame m g

/-- The reference runs, keeps its arguments and leaves no counter. -/
theorem frame_reference : Cert.quiescent_Reference8Ideal :=
  fun m g _ => (θ_run Cert.Reference8Ideal.defs _ _).mono (fun r h => ⟨fun c => (h c).2, sem_eq_zero_of_no_sems (by decide) r.2⟩)
    (Cert.Reference8Ideal.Value.run (F := Ideal) m g)

/-- Over the extended reals the kernel and the reference end with the same array. -/
theorem algebraic : Cert.algebraic_Kernel8Ideal_Reference8Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference8Ideal.defs _ _).mono (fun r h c => ⟨(h c).1.trans ?_, (h c).2⟩) (Cert.Reference8Ideal.Value.run (F := Ideal) m' g')
    rw [(hargs c).1, (hargs c).2]
    funext j
    idx_vars j
    pointwise
    exact tn_swap _ _ _ _

end Cert.Kernel8Ideal.Val

end
-- ==== Proof.DMixOut.lean ====
module

public import proofs.«01_k».proof.Defs
public import proofs.«01_k».proof.Proof.Product
public import proofs.«01_k».proof.Proof.Gen.Kernel9.Frame
public import proofs.«01_k».proof.Proof.Gen.Kernel9Ideal.Value
public import proofs.«01_k».proof.Proof.Gen.Reference9Ideal.Run

@[expose] public section

set_option maxRecDepth 16384

noncomputable section

/-! The gradient of the input of the mixers' output projection. -/

namespace Cert.Kernel9Ideal.Val

open Cert.Kernel9Ideal Cert.Kernel9Ideal.Gen Idealize.ShloMosaic Idealize.ShloMosaic.TcCoe Idealize.SL.Sem Cert.Product

/-- What a step stores is the product of its blocks. -/
theorem pay (a : Vec Ideal S1024x2048 .bf16) (b : Vec Ideal S1024x2048 .bf16) : k0_pay1 a b = nt a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = win0_2.index t 1 ∧ win0_1.index t 1 = 0 := by
  decide +kernel

variable (m : (ℓ : Loc nD τ sig) → Buf (Elt Ideal) ℓ) (c : Dev nD)

/-- The result array after the run is the product of the arguments. -/
theorem arr : (dats m 0 c).arrAt 2 cfg0.N = nt (m ((c : Thread nD τ).loc main_arg0)) (m ((c : Thread nD τ).loc main_arg1)) := by
  refine (dats m 0 c).arrAt_eq_of_covers 2 (nt (m ((c : Thread nD τ).loc main_arg0)) (m ((c : Thread nD τ).loc main_arg1))) (by decide +kernel) (fun t _ y => ?_)
  blk_simp
  rw [after0_2]
  frame_out
  rw [pay]
  refine nt_block (fun k => ?_) (fun k => ?_) <;> blk_ext [iblk, V, idx t]

/-- The kernel runs, keeps its arguments and leaves no counter. -/
theorem frame_kernel : Cert.quiescent_Kernel9 := fun m g _ => Cert.Kernel9.Gen.frame m g

/-- The same over the extended reals. -/
theorem frame_ideal : Cert.quiescent_Kernel9Ideal := fun m g _ => Cert.Kernel9Ideal.Gen.frame m g

/-- The reference runs, keeps its arguments and leaves no counter. -/
theorem frame_reference : Cert.quiescent_Reference9Ideal :=
  fun m g _ => (θ_run Cert.Reference9Ideal.defs _ _).mono (fun r h => ⟨fun c => (h c).2, sem_eq_zero_of_no_sems (by decide) r.2⟩)
    (Cert.Reference9Ideal.Value.run (F := Ideal) m g)

/-- Over the extended reals the kernel and the reference end with the same array. -/
theorem algebraic : Cert.algebraic_Kernel9Ideal_Reference9Ideal := by
  intro m g m' g' _ hargs
  refine ⟨fun c => nt (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference9Ideal.defs _ _).mono (fun r h c => ⟨(h c).1.trans ?_, (h c).2⟩) (Cert.Reference9Ideal.Value.run (F := Ideal) m' g')
    rw [(hargs c).1, (hargs c).2]
    funext j
    idx_vars j
    pointwise
    rfl

end Cert.Kernel9Ideal.Val

end
-- ==== Proof.DWPleGate.lean ====
module

public import proofs.«01_k».proof.Defs
public import proofs.«01_k».proof.Proof.Product
public import proofs.«01_k».proof.Proof.Gen.Kernel10.Frame
public import proofs.«01_k».proof.Proof.Gen.Kernel10Ideal.Value
public import proofs.«01_k».proof.Proof.Gen.Reference10Ideal.Run

@[expose] public section

set_option maxRecDepth 16384

noncomputable section

/-! The gradient of the weights of the layer embedding's gate. -/

namespace Cert.Kernel10Ideal.Val

open Cert.Kernel10Ideal Cert.Kernel10Ideal.Gen Idealize.ShloMosaic Idealize.ShloMosaic.TcCoe Idealize.SL.Sem Cert.Product

/-- What a step stores is the product of its blocks. -/
theorem pay (a : Vec Ideal S4096x512 .bf16) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel10 := fun m g _ => Cert.Kernel10.Gen.frame m g

/-- The same over the extended reals. -/
theorem frame_ideal : Cert.quiescent_Kernel10Ideal := fun m g _ => Cert.Kernel10Ideal.Gen.frame m g

/-- The reference runs, keeps its arguments and leaves no counter. -/
theorem frame_reference : Cert.quiescent_Reference10Ideal :=
  fun m g _ => (θ_run Cert.Reference10Ideal.defs _ _).mono (fun r h => ⟨fun c => (h c).2, sem_eq_zero_of_no_sems (by decide) r.2⟩)
    (Cert.Reference10Ideal.Value.run (F := Ideal) m g)

/-- Over the extended reals the kernel and the reference end with the same array. -/
theorem algebraic : Cert.algebraic_Kernel10Ideal_Reference10Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference10Ideal.defs _ _).mono (fun r h c => ⟨(h c).1.trans ?_, (h c).2⟩) (Cert.Reference10Ideal.Value.run (F := Ideal) m' g')
    rw [(hargs c).1, (hargs c).2]
    funext j
    idx_vars j
    pointwise
    exact tn_swap _ _ _ _

end Cert.Kernel10Ideal.Val

end
-- ==== Proof.DNormPleOut.lean ====
module

public import proofs.«01_k».proof.Defs
public import proofs.«01_k».proof.Proof.Product
public import proofs.«01_k».proof.Proof.Gen.Kernel11.Frame
public import proofs.«01_k».proof.Proof.Gen.Kernel11Ideal.Value
public import proofs.«01_k».proof.Proof.Gen.Reference11Ideal.Run

@[expose] public section

set_option maxRecDepth 16384

noncomputable section

/-! The gradient of the input of the layer embedding's gate. -/

namespace Cert.Kernel11Ideal.Val

open Cert.Kernel11Ideal Cert.Kernel11Ideal.Gen Idealize.ShloMosaic Idealize.ShloMosaic.TcCoe Idealize.SL.Sem Cert.Product

/-- What a step stores is the product of its blocks. -/
theorem pay (a : Vec Ideal S1024x2048 .bf16) (b : Vec Ideal S1024x2048 .bf16) : k0_pay1 a b = nt a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = win0_2.index t 1 ∧ win0_1.index t 1 = 0 := by
  decide +kernel

variable (m : (ℓ : Loc nD τ sig) → Buf (Elt Ideal) ℓ) (c : Dev nD)

/-- The result array after the run is the product of the arguments. -/
theorem arr : (dats m 0 c).arrAt 2 cfg0.N = nt (m ((c : Thread nD τ).loc main_arg0)) (m ((c : Thread nD τ).loc main_arg1)) := by
  refine (dats m 0 c).arrAt_eq_of_covers 2 (nt (m ((c : Thread nD τ).loc main_arg0)) (m ((c : Thread nD τ).loc main_arg1))) (by decide +kernel) (fun t _ y => ?_)
  blk_simp
  rw [after0_2]
  frame_out
  rw [pay]
  refine nt_block (fun k => ?_) (fun k => ?_) <;> blk_ext [iblk, V, idx t]

/-- The kernel runs, keeps its arguments and leaves no counter. -/
theorem frame_kernel : Cert.quiescent_Kernel11 := fun m g _ => Cert.Kernel11.Gen.frame m g

/-- The same over the extended reals. -/
theorem frame_ideal : Cert.quiescent_Kernel11Ideal := fun m g _ => Cert.Kernel11Ideal.Gen.frame m g

/-- The reference runs, keeps its arguments and leaves no counter. -/
theorem frame_reference : Cert.quiescent_Reference11Ideal :=
  fun m g _ => (θ_run Cert.Reference11Ideal.defs _ _).mono (fun r h => ⟨fun c => (h c).2, sem_eq_zero_of_no_sems (by decide) r.2⟩)
    (Cert.Reference11Ideal.Value.run (F := Ideal) m g)

/-- Over the extended reals the kernel and the reference end with the same array. -/
theorem algebraic : Cert.algebraic_Kernel11Ideal_Reference11Ideal := by
  intro m g m' g' _ hargs
  refine ⟨fun c => nt (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference11Ideal.defs _ _).mono (fun r h c => ⟨(h c).1.trans ?_, (h c).2⟩) (Cert.Reference11Ideal.Value.run (F := Ideal) m' g')
    rw [(hargs c).1, (hargs c).2]
    funext j
    idx_vars j
    pointwise
    rfl

end Cert.Kernel11Ideal.Val

end
-- ==== Proof.DWPleProj.lean ====
module

public import proofs.«01_k».proof.Defs
public import proofs.«01_k».proof.Proof.Product
public import proofs.«01_k».proof.Proof.Gen.Kernel12.Frame
public import proofs.«01_k».proof.Proof.Gen.Kernel12Ideal.Value
public import proofs.«01_k».proof.Proof.Gen.Reference12Ideal.Run

@[expose] public section

set_option maxRecDepth 16384

noncomputable section

/-! The gradient of the weights of the layer embedding's projection. -/

namespace Cert.Kernel12Ideal.Val

open Cert.Kernel12Ideal Cert.Kernel12Ideal.Gen Idealize.ShloMosaic Idealize.ShloMosaic.TcCoe Idealize.SL.Sem Cert.Product

/-- What a step stores is the product of its blocks. -/
theorem pay (a : Vec Ideal S4096x256 .f32) (b : Vec Ideal S4096x1024 .bf16) : k0_pay1 a b = tn a b := by
  funext y
  idx_vars y
  pointwise [k0_pay1]
  rfl

/-- Where a step's blocks lie. -/
theorem idx : ∀ t : Fin grid0.N, win0_0.index t 0 = 0 ∧ win0_0.index t 1 = win0_2.index t 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = tn (m ((c : Thread nD τ).loc main_arg0)) (m ((c : Thread nD τ).loc main_arg1)) := by
  refine (dats m 0 c).arrAt_eq_of_covers 2 (tn (m ((c : Thread nD τ).loc main_arg0)) (m ((c : Thread nD τ).loc main_arg1))) (by decide +kernel) (fun t _ y => ?_)
  blk_simp
  rw [after0_2]
  frame_out
  rw [pay]
  refine tn_block (fun k => ?_) (fun k => ?_) <;> blk_ext [iblk, V, idx t]

/-- The kernel runs, keeps its arguments and leaves no counter. -/
theorem frame_kernel : Cert.quiescent_Kernel12 := fun m g _ => Cert.Kernel12.Gen.frame m g

/-- The same over the extended reals. -/
theorem frame_ideal : Cert.quiescent_Kernel12Ideal := fun m g _ => Cert.Kernel12Ideal.Gen.frame m g

/-- The reference runs, keeps its arguments and leaves no counter. -/
theorem frame_reference : Cert.quiescent_Reference12Ideal :=
  fun m g _ => (θ_run Cert.Reference12Ideal.defs _ _).mono (fun r h => ⟨fun c => (h c).2, sem_eq_zero_of_no_sems (by decide) r.2⟩)
    (Cert.Reference12Ideal.Value.run (F := Ideal) m g)

/-- Over the extended reals the kernel and the reference end with the same array. -/
theorem algebraic : Cert.algebraic_Kernel12Ideal_Reference12Ideal := by
  intro m g m' g' _ hargs
  refine ⟨fun c => tn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference12Ideal.defs _ _).mono (fun r h c => ⟨(h c).1.trans ?_, (h c).2⟩) (Cert.Reference12Ideal.Value.run (F := Ideal) m' g')
    rw [(hargs c).1, (hargs c).2]
    funext j
    idx_vars j
    pointwise
    exact tn_swap _ _ _ _

end Cert.Kernel12Ideal.Val

end
-- ==== Proof.UpProj.lean ====
module

public import proofs.«01_k».proof.Defs
public import proofs.«01_k».proof.Proof.Product
public import proofs.«01_k».proof.Proof.Gen.Kernel13.Frame
public import proofs.«01_k».proof.Proof.Gen.Kernel13Ideal.Value
public import proofs.«01_k».proof.Proof.Gen.Reference13Ideal.Run

@[expose] public section

set_option maxRecDepth 16384

noncomputable section

/-! The feed-forward part's first product. -/

namespace Cert.Kernel13Ideal.Val

open Cert.Kernel13Ideal Cert.Kernel13Ideal.Gen Idealize.ShloMosaic Idealize.ShloMosaic.TcCoe Idealize.SL.Sem Cert.Product

/-- What a step stores is the product of its blocks. -/
theorem pay (a : Vec Ideal S1024x2048 .bf16) (b : Vec Ideal S2048x1024 .bf16) : k0_pay1 a b = nn a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = nn (m ((c : Thread nD τ).loc main_arg0)) (m ((c : Thread nD τ).loc main_arg1)) := by
  refine (dats m 0 c).arrAt_eq_of_covers 2 (nn (m ((c : Thread nD τ).loc main_arg0)) (m ((c : Thread nD τ).loc main_arg1))) (by decide +kernel) (fun t _ y => ?_)
  blk_simp
  rw [after0_2]
  frame_out
  rw [pay]
  refine nn_block (fun k => ?_) (fun k => ?_) <;> blk_ext [iblk, V, idx t]

/-- The kernel runs, keeps its arguments and leaves no counter. -/
theorem frame_kernel : Cert.quiescent_Kernel13 := fun m g _ => Cert.Kernel13.Gen.frame m g

/-- The same over the extended reals. -/
theorem frame_ideal : Cert.quiescent_Kernel13Ideal := fun m g _ => Cert.Kernel13Ideal.Gen.frame m g

/-- The reference runs, keeps its arguments and leaves no counter. -/
theorem frame_reference : Cert.quiescent_Reference13Ideal :=
  fun m g _ => (θ_run Cert.Reference13Ideal.defs _ _).mono (fun r h => ⟨fun c => (h c).2, sem_eq_zero_of_no_sems (by decide) r.2⟩)
    (Cert.Reference13Ideal.Value.run (F := Ideal) m g)

/-- Over the extended reals the kernel and the reference end with the same array. -/
theorem algebraic : Cert.algebraic_Kernel13Ideal_Reference13Ideal := by
  intro m g m' g' _ hargs
  refine ⟨fun c => nn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference13Ideal.defs _ _).mono (fun r h c => ⟨(h c).1.trans ?_, (h c).2⟩) (Cert.Reference13Ideal.Value.run (F := Ideal) m' g')
    rw [(hargs c).1, (hargs c).2]
    funext j
    idx_vars j
    pointwise
    rfl

end Cert.Kernel13Ideal.Val

end
-- ==== Proof.DownProj.lean ====
module

public import proofs.«01_k».proof.Defs
public import proofs.«01_k».proof.Proof.Product
public import proofs.«01_k».proof.Proof.Gen.Kernel14.Frame
public import proofs.«01_k».proof.Proof.Gen.Kernel14Ideal.Value
public import proofs.«01_k».proof.Proof.Gen.Reference14Ideal.Run

@[expose] public section

set_option maxRecDepth 16384

noncomputable section

/-! The feed-forward part's second product, accumulated over two bands of the contracted axis and added to the stream. -/

namespace Cert.Kernel14Ideal.Val

open Cert.Kernel14Ideal Cert.Kernel14Ideal.Gen Idealize.ShloMosaic Idealize.ShloMosaic.TcCoe Idealize.SL.Sem Cert.Product

/-- A step's product of blocks. -/
theorem pay (a : Vec Ideal S1024x2816 .bf16) (b : Vec Ideal S2816x1024 .bf16) : k0_pay1 a b = nn a b := by
  funext y
  idx_vars y
  pointwise [k0_pay1]
  rfl

/-- What the first step of a block stores in the accumulator. -/
theorem pay_first (a : Vec Ideal S1024x2816 .bf16) (b : Vec Ideal S2816x1024 .bf16) : k0_pay2 a b = nn a b := by
  unfold k0_pay2
  rw [pay]
  exact shapeCast_self _ _

/-- What a later step stores there. -/
theorem pay_next (a : Vec Ideal S1024x2816 .bf16) (b : Vec Ideal S2816x1024 .bf16) (x : Vec Ideal S1024x1024 .f32) (j : S1024x1024.Idx) : k0_pay3 a b x j = x j + nn a b j := by
  unfold k0_pay3
  rw [pay]
  rw [shapeCast_self]
  rfl

/-- Where the blocks of the step at a place of a block's run lie. -/
theorem idx : ∀ (t : Fin grid0.N) (s : Fin 2) (h : 2 * (t.val / 2) + s.val < grid0.N),
    win0_0.index ⟨2 * (t.val / 2) + s.val, h⟩ 0 = win0_3.index t 0 ∧ win0_0.index ⟨2 * (t.val / 2) + s.val, h⟩ 1 = s.val ∧ win0_1.index ⟨2 * (t.val / 2) + s.val, h⟩ 0 = s.val ∧ win0_1.index ⟨2 * (t.val / 2) + s.val, h⟩ 1 = win0_3.index t 1 := by
  decide +kernel

/-- Where the added block lies. -/
theorem idx_added : ∀ t : Fin grid0.N, win0_2.index t 0 = win0_3.index t 0 ∧ win0_2.index t 1 = win0_3.index t 1 := by
  decide +kernel

variable (m : (ℓ : Loc nD τ sig) → Buf (Elt Ideal) ℓ) (c : Dev nD)

/-- The last step of a block's run writes the accumulator, added to the given block. -/
theorem out_eq (t : Fin cfg0.N) (h : t.val % 2 = 1) (j : S1024x1024.Idx) : (outsAt0 m c t.val t.isLt).1 j = (outsAt0 m c t.val t.isLt).2 j + iblk m c 2 t j := by
  rw [outsAt0_B m c t (by omega) h h]
  frame_out
  rfl

/-- What is written for a block is the sum of the products of its two bands, added to the given block. -/
theorem sum (t : Fin cfg0.N) (h : t.val % 2 = 1) (j : S1024x1024.Idx) : (outsAt0 m c t.val t.isLt).1 j =
    ∑ s : Fin 2, nn (iblk m c 0 ⟨2 * (t.val / 2) + s.val, by have := t.isLt; omega⟩) (iblk m c 1 ⟨2 * (t.val / 2) + s.val, by have := t.isLt; omega⟩) j + iblk m c 2 t j := by
  rw [out_eq m c t h j, Pipeline.eq_sum_fin_of_reset_step_apply_of_flush (fun n h => (outsAt0 m c n h).2) 2 (fun _ => 0) (fun t => nn (iblk m c 0 t) (iblk m c 1 t))
    (fun t h j => by rw [outsAt0_A m c t h (by omega) (by omega)]; frame_out; rw [pay_first, zero_add])
    (fun t h j => by rw [outsAt0_B m c t h (by omega) (by omega)]; frame_out; rw [pay_next, (Memref.isWhole_whole _).read_unread]) t h j, zero_add]

/-- The result array after the run is the product of the first two arguments, added to the third. -/
theorem arr : (dats m 0 c).arrAt 3 cfg0.N = nn_added (m ((c : Thread nD τ).loc main_arg0)) (m ((c : Thread nD τ).loc main_arg1)) (m ((c : Thread nD τ).loc main_arg2)) := by
  refine (dats m 0 c).arrAt_eq_of_covers 3 (nn_added (m ((c : Thread nD τ).loc main_arg0)) (m ((c : Thread nD τ).loc main_arg1)) (m ((c : Thread nD τ).loc main_arg2))) (by decide +kernel) (fun t hf y => ?_)
  blk_simp
  rw [after0_3, sum m c t ((flush0_3 t).mp hf)]
  refine congrArg₂ _ (nn_bands (K := 5632) (S := 2) rfl (fun s k _ => ?_) (fun s k _ => ?_)) ?_
  · blk_ext [iblk, V, idx t s (Pipeline.run_point_lt_of_flush t ((flush0_3 t).mp hf) s)]
  · blk_ext [iblk, V, idx t s (Pipeline.run_point_lt_of_flush t ((flush0_3 t).mp hf) s)]
  · blk_ext [iblk, V, idx_added t]

/-- The kernel runs, keeps its arguments and leaves no counter. -/
theorem frame_kernel : Cert.quiescent_Kernel14 := fun m g _ => Cert.Kernel14.Gen.frame m g

/-- The same over the extended reals. -/
theorem frame_ideal : Cert.quiescent_Kernel14Ideal := fun m g _ => Cert.Kernel14Ideal.Gen.frame m g

/-- The reference runs, keeps its arguments and leaves no counter. -/
theorem frame_reference : Cert.quiescent_Reference14Ideal :=
  fun m g _ => (θ_run Cert.Reference14Ideal.defs _ _).mono (fun r h => ⟨fun c => (h c).2, sem_eq_zero_of_no_sems (by decide) r.2⟩)
    (Cert.Reference14Ideal.Value.run (F := Ideal) m g)

/-- Over the extended reals the kernel and the reference end with the same array. -/
theorem algebraic : Cert.algebraic_Kernel14Ideal_Reference14Ideal := by
  intro m g m' g' _ hargs
  refine ⟨fun c => nn_added (m ((c : Thread nD τ).loc main_arg0)) (m ((c : Thread nD τ).loc main_arg1)) (m ((c : Thread nD τ).loc main_arg2)), ?_, ?_⟩
  · exact (θ_run defs _ _).mono (fun r h c => ⟨(h c).1.trans (arr m c), (h c).2⟩) (Value.run_blocks (F := Ideal) m g)
  · refine (θ_run Cert.Reference14Ideal.defs _ _).mono (fun r h c => ⟨(h c).1.trans ?_, (h c).2⟩) (Cert.Reference14Ideal.Value.run (F := Ideal) m' g')
    rw [(hargs c).1, (hargs c).2.1, (hargs c).2.2]
    funext j
    idx_vars j
    pointwise
    exact add_comm _ _

end Cert.Kernel14Ideal.Val

end
-- ==== Proof.InProj.lean ====
module

public import proofs.«01_k».proof.Defs
public import proofs.«01_k».proof.Proof.Product
public import proofs.«01_k».proof.Proof.Gen.Kernel15.Frame
public import proofs.«01_k».proof.Proof.Gen.Kernel15Ideal.Value
public import proofs.«01_k».proof.Proof.Gen.Reference15Ideal.Run

@[expose] public section

set_option maxRecDepth 16384

noncomputable section

/-! The mixers' projections. -/

namespace Cert.Kernel15Ideal.Val

open Cert.Kernel15Ideal Cert.Kernel15Ideal.Gen Idealize.ShloMosaic Idealize.ShloMosaic.TcCoe Idealize.SL.Sem Cert.Product

/-- What a step stores is the product of its blocks. -/
theorem pay (a : Vec Ideal S1024x2048 .bf16) (b : Vec Ideal S2048x1024 .bf16) : k0_pay1 a b = nn a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = nn (m ((c : Thread nD τ).loc main_arg0)) (m ((c : Thread nD τ).loc main_arg1)) := by
  refine (dats m 0 c).arrAt_eq_of_covers 2 (nn (m ((c : Thread nD τ).loc main_arg0)) (m ((c : Thread nD τ).loc main_arg1))) (by decide +kernel) (fun t _ y => ?_)
  blk_simp
  rw [after0_2]
  frame_out
  rw [pay]
  refine nn_block (fun k => ?_) (fun k => ?_) <;> blk_ext [iblk, V, idx t]

/-- The kernel runs, keeps its arguments and leaves no counter. -/
theorem frame_kernel : Cert.quiescent_Kernel15 := fun m g _ => Cert.Kernel15.Gen.frame m g

/-- The same over the extended reals. -/
theorem frame_ideal : Cert.quiescent_Kernel15Ideal := fun m g _ => Cert.Kernel15Ideal.Gen.frame m g

/-- The reference runs, keeps its arguments and leaves no counter. -/
theorem frame_reference : Cert.quiescent_Reference15Ideal :=
  fun m g _ => (θ_run Cert.Reference15Ideal.defs _ _).mono (fun r h => ⟨fun c => (h c).2, sem_eq_zero_of_no_sems (by decide) r.2⟩)
    (Cert.Reference15Ideal.Value.run (F := Ideal) m g)

/-- Over the extended reals the kernel and the reference end with the same array. -/
theorem algebraic : Cert.algebraic_Kernel15Ideal_Reference15Ideal := by
  intro m g m' g' _ hargs
  refine ⟨fun c => nn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference15Ideal.defs _ _).mono (fun r h c => ⟨(h c).1.trans ?_, (h c).2⟩) (Cert.Reference15Ideal.Value.run (F := Ideal) m' g')
    rw [(hargs c).1, (hargs c).2]
    funext j
    idx_vars j
    pointwise
    rfl

end Cert.Kernel15Ideal.Val

end
-- ==== Proof.OutProj.lean ====
module

public import proofs.«01_k».proof.Defs
public import proofs.«01_k».proof.Proof.Product
public import proofs.«01_k».proof.Proof.Gen.Kernel16.Frame
public import proofs.«01_k».proof.Proof.Gen.Kernel16Ideal.Value
public import proofs.«01_k».proof.Proof.Gen.Reference16Ideal.Run

@[expose] public section

set_option maxRecDepth 16384

noncomputable section

/-! The mixers' output projection, added to the stream. -/

namespace Cert.Kernel16Ideal.Val

open Cert.Kernel16Ideal Cert.Kernel16Ideal.Gen Idealize.ShloMosaic Idealize.ShloMosaic.TcCoe Idealize.SL.Sem Cert.Product

/-- What a step stores is the product of its blocks, added to the given block. -/
theorem pay (a : Vec Ideal S1024x2048 .bf16) (b : Vec Ideal S2048x1024 .bf16) (x : Vec Ideal S1024x1024 .f32) : k0_pay1 a b x = nn_added a b x := by
  funext y
  idx_vars y
  pointwise [k0_pay1]
  rfl

/-- Where a step's blocks lie. -/
theorem idx : ∀ t : Fin grid0.N, win0_0.index t 0 = win0_3.index t 0 ∧ win0_0.index t 1 = 0 ∧ win0_1.index t 0 = 0 ∧ win0_1.index t 1 = win0_3.index t 1 ∧ win0_2.index t 0 = win0_3.index t 0 ∧ win0_2.index t 1 = win0_3.index t 1 := by
  decide +kernel

variable (m : (ℓ : Loc nD τ sig) → Buf (Elt Ideal) ℓ) (c : Dev nD)

/-- The result array after the run is the product of the arguments, added to the given block. -/
theorem arr : (dats m 0 c).arrAt 3 cfg0.N = nn_added (m ((c : Thread nD τ).loc main_arg0)) (m ((c : Thread nD τ).loc main_arg1)) (m ((c : Thread nD τ).loc main_arg2)) := by
  refine (dats m 0 c).arrAt_eq_of_covers 3 (nn_added (m ((c : Thread nD τ).loc main_arg0)) (m ((c : Thread nD τ).loc main_arg1)) (m ((c : Thread nD τ).loc main_arg2))) (by decide +kernel) (fun t _ y => ?_)
  blk_simp
  rw [after0_3]
  frame_out
  rw [pay]
  refine nn_added_block (fun k => ?_) (fun k => ?_) ?_ <;> blk_ext [iblk, V, idx t]

/-- The kernel runs, keeps its arguments and leaves no counter. -/
theorem frame_kernel : Cert.quiescent_Kernel16 := fun m g _ => Cert.Kernel16.Gen.frame m g

/-- The same over the extended reals. -/
theorem frame_ideal : Cert.quiescent_Kernel16Ideal := fun m g _ => Cert.Kernel16Ideal.Gen.frame m g

/-- The reference runs, keeps its arguments and leaves no counter. -/
theorem frame_reference : Cert.quiescent_Reference16Ideal :=
  fun m g _ => (θ_run Cert.Reference16Ideal.defs _ _).mono (fun r h => ⟨fun c => (h c).2, sem_eq_zero_of_no_sems (by decide) r.2⟩)
    (Cert.Reference16Ideal.Value.run (F := Ideal) m g)

/-- Over the extended reals the kernel and the reference end with the same array. -/
theorem algebraic : Cert.algebraic_Kernel16Ideal_Reference16Ideal := by
  intro m g m' g' _ hargs
  refine ⟨fun c => nn_added (m ((c : Thread nD τ).loc main_arg0)) (m ((c : Thread nD τ).loc main_arg1)) (m ((c : Thread nD τ).loc main_arg2)), ?_, ?_⟩
  · exact (θ_run defs _ _).mono (fun r h c => ⟨(h c).1.trans (arr m c), (h c).2⟩) (Value.run_blocks (F := Ideal) m g)
  · refine (θ_run Cert.Reference16Ideal.defs _ _).mono (fun r h c => ⟨(h c).1.trans ?_, (h c).2⟩) (Cert.Reference16Ideal.Value.run (F := Ideal) m' g')
    rw [(hargs c).1, (hargs c).2.1, (hargs c).2.2]
    funext j
    idx_vars j
    pointwise
    exact add_comm _ _

end Cert.Kernel16Ideal.Val

end
-- ==== Proof.PleGate.lean ====
module

public import proofs.«01_k».proof.Defs
public import proofs.«01_k».proof.Proof.Product
public import proofs.«01_k».proof.Proof.Gen.Kernel17.Frame
public import proofs.«01_k».proof.Proof.Gen.Kernel17Ideal.Value
public import proofs.«01_k».proof.Proof.Gen.Reference17Ideal.Run

@[expose] public section

set_option maxRecDepth 16384

noncomputable section

/-! The product of the layer embedding's gate. -/

namespace Cert.Kernel17Ideal.Val

open Cert.Kernel17Ideal Cert.Kernel17Ideal.Gen Idealize.ShloMosaic Idealize.ShloMosaic.TcCoe Idealize.SL.Sem Cert.Product

/-- What a step stores is the product of its blocks. -/
theorem pay (a : Vec Ideal S1024x2048 .bf16) (b : Vec Ideal S2048x1024 .bf16) : k0_pay1 a b = nn a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = nn (m ((c : Thread nD τ).loc main_arg0)) (m ((c : Thread nD τ).loc main_arg1)) := by
  refine (dats m 0 c).arrAt_eq_of_covers 2 (nn (m ((c : Thread nD τ).loc main_arg0)) (m ((c : Thread nD τ).loc main_arg1))) (by decide +kernel) (fun t _ y => ?_)
  blk_simp
  rw [after0_2]
  frame_out
  rw [pay]
  refine nn_block (fun k => ?_) (fun k => ?_) <;> blk_ext [iblk, V, idx t]

/-- The kernel runs, keeps its arguments and leaves no counter. -/
theorem frame_kernel : Cert.quiescent_Kernel17 := fun m g _ => Cert.Kernel17.Gen.frame m g

/-- The same over the extended reals. -/
theorem frame_ideal : Cert.quiescent_Kernel17Ideal := fun m g _ => Cert.Kernel17Ideal.Gen.frame m g

/-- The reference runs, keeps its arguments and leaves no counter. -/
theorem frame_reference : Cert.quiescent_Reference17Ideal :=
  fun m g _ => (θ_run Cert.Reference17Ideal.defs _ _).mono (fun r h => ⟨fun c => (h c).2, sem_eq_zero_of_no_sems (by decide) r.2⟩)
    (Cert.Reference17Ideal.Value.run (F := Ideal) m g)

/-- Over the extended reals the kernel and the reference end with the same array. -/
theorem algebraic : Cert.algebraic_Kernel17Ideal_Reference17Ideal := by
  intro m g m' g' _ hargs
  refine ⟨fun c => nn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference17Ideal.defs _ _).mono (fun r h c => ⟨(h c).1.trans ?_, (h c).2⟩) (Cert.Reference17Ideal.Value.run (F := Ideal) m' g')
    rw [(hargs c).1, (hargs c).2]
    funext j
    idx_vars j
    pointwise
    rfl

end Cert.Kernel17Ideal.Val

end
-- ==== Proof.PleProj.lean ====
module

public import proofs.«01_k».proof.Defs
public import proofs.«01_k».proof.Proof.Product
public import proofs.«01_k».proof.Proof.Gen.Kernel18.Frame
public import proofs.«01_k».proof.Proof.Gen.Kernel18Ideal.Value
public import proofs.«01_k».proof.Proof.Gen.Reference18Ideal.Run

@[expose] public section

set_option maxRecDepth 16384

noncomputable section

/-! The layer embedding's projection. -/

namespace Cert.Kernel18Ideal.Val

open Cert.Kernel18Ideal Cert.Kernel18Ideal.Gen Idealize.ShloMosaic Idealize.ShloMosaic.TcCoe Idealize.SL.Sem Cert.Product

/-- What a step stores is the product of its blocks. -/
theorem pay (a : Vec Ideal S1024x256 .f32) (b : Vec Ideal S256x1024 .bf16) : k0_pay1 a b = nn a b := by
  funext y
  idx_vars y
  pointwise [k0_pay1]
  rfl

/-- Where a step's blocks lie. -/
theorem idx : ∀ t : Fin grid0.N, win0_0.index t 0 = win0_2.index t 0 ∧ win0_0.index t 1 = 0 ∧ win0_1.index t 0 = 0 ∧ win0_1.index t 1 = win0_2.index t 1 := by
  decide +kernel

variable (m : (ℓ : Loc nD τ sig) → Buf (Elt Ideal) ℓ) (c : Dev nD)

/-- The result array after the run is the product of the arguments. -/
theorem arr : (dats m 0 c).arrAt 2 cfg0.N = nn (m ((c : Thread nD τ).loc main_arg0)) (m ((c : Thread nD τ).loc main_arg1)) := by
  refine (dats m 0 c).arrAt_eq_of_covers 2 (nn (m ((c : Thread nD τ).loc main_arg0)) (m ((c : Thread nD τ).loc main_arg1))) (by decide +kernel) (fun t _ y => ?_)
  blk_simp
  rw [after0_2]
  frame_out
  rw [pay]
  refine nn_block (fun k => ?_) (fun k => ?_) <;> blk_ext [iblk, V, idx t]

/-- The kernel runs, keeps its arguments and leaves no counter. -/
theorem frame_kernel : Cert.quiescent_Kernel18 := fun m g _ => Cert.Kernel18.Gen.frame m g

/-- The same over the extended reals. -/
theorem frame_ideal : Cert.quiescent_Kernel18Ideal := fun m g _ => Cert.Kernel18Ideal.Gen.frame m g

/-- The reference runs, keeps its arguments and leaves no counter. -/
theorem frame_reference : Cert.quiescent_Reference18Ideal :=
  fun m g _ => (θ_run Cert.Reference18Ideal.defs _ _).mono (fun r h => ⟨fun c => (h c).2, sem_eq_zero_of_no_sems (by decide) r.2⟩)
    (Cert.Reference18Ideal.Value.run (F := Ideal) m g)

/-- Over the extended reals the kernel and the reference end with the same array. -/
theorem algebraic : Cert.algebraic_Kernel18Ideal_Reference18Ideal := by
  intro m g m' g' _ hargs
  refine ⟨fun c => nn (m ((c : Thread nD τ).loc main_arg0)) (m ((c : Thread nD τ).loc main_arg1)), ?_, ?_⟩
  · exact (θ_run defs _ _).mono (fun r h c => ⟨(h c).1.trans (arr m c), (h c).2⟩) (Value.run_blocks (F := Ideal) m g)
  · refine (θ_run Cert.Reference18Ideal.defs _ _).mono (fun r h c => ⟨(h c).1.trans ?_, (h c).2⟩) (Cert.Reference18Ideal.Value.run (F := Ideal) m' g')
    rw [(hargs c).1, (hargs c).2]
    funext j
    idx_vars j
    pointwise
    rfl

end Cert.Kernel18Ideal.Val

end
-- ==== Proof.Update.lean ====
module

public import proofs.«01_k».proof.Proof.Product

@[expose] public section

noncomputable section

/-! One AdamW step on a matrix of extended reals, entry by entry, and the gradient that it takes: a device's own part
    and three more. -/

namespace Cert.Update

open Idealize.ShloMosaic Cert.Product

/-- A stack of matrices of extended reals. -/
abbrev Stack (K M N : ℕ) : Type := (⟨3, ![K, M, N]⟩ : Shape).Idx → EReal

variable {M N M' N' : ℕ}

/-- A part and three more, each a stack of one. -/
def added (o : Mat M N) (a b c : Stack 1 M N) : Mat M N :=
  fun i => o i + a (ix3 0 (i 0) (i 1)) + b (ix3 0 (i 0) (i 1)) + c (ix3 0 (i 0) (i 1))

/-- The gradient: a part and the three of a stack. -/
def grad (o : Mat M N) (r : Stack 3 M N) : Mat M N :=
  fun i => o i + r (ix3 0 (i 0) (i 1)) + r (ix3 1 (i 0) (i 1)) + r (ix3 2 (i 0) (i 1))

/-- The new first moment. -/
def first (m g : Mat M N) : Mat M N :=
  fun i => Ideal.ofBits FTy.f32 0x3F666666#32 * m i + Ideal.ofBits FTy.f32 0x3DCCCCCD#32 * g i

/-- The new second moment. -/
def second (v g : Mat M N) : Mat M N :=
  fun i => Ideal.ofBits FTy.f32 0x3F7FBE77#32 * v i + Ideal.ofBits FTy.f32 0x3A83126F#32 * (g i * g i)

/-- The step of the weight, from the weight and its new moments. -/
def delta (w m v : Mat M N) : Mat M N :=
  fun i => Ideal.ofBits FTy.f32 0xBA83126F#32 * (Ideal.div (Ideal.div (m i) (Ideal.ofBits FTy.f32 0x3F26BD02#32))
    (Ideal.sqrt (Ideal.div (v i) (Ideal.ofBits FTy.f32 0x3C231ACC#32)) + Ideal.ofBits FTy.f32 0x322BCC77#32) + Ideal.ofBits FTy.f32 0x3C23D70A#32 * w i)

section
variable {y : (⟨2, ![M, N]⟩ : Shape).Idx} {i : (⟨2, ![M', N']⟩ : Shape).Idx}

/-- An entry of a block of the gradient is an entry of the gradient, if those of the parts are. -/
theorem added_block {o : Mat M N} {a b c : Stack 1 M N} {O : Mat M' N'} {R : Stack 3 M' N'}
    (ho : o y = O i) (ha : a (ix3 0 (y 0) (y 1)) = R (ix3 0 (i 0) (i 1))) (hb : b (ix3 0 (y 0) (y 1)) = R (ix3 1 (i 0) (i 1)))
    (hc : c (ix3 0 (y 0) (y 1)) = R (ix3 2 (i 0) (i 1))) : added o a b c y = grad O R i := by
  simp only [added, grad, ho, ha, hb, hc]

/-- The same for the new first moment. -/
theorem first_block {m g : Mat M N} {m' g' : Mat M' N'} (hm : m y = m' i) (hg : g y = g' i) : first m g y = first m' g' i := by
  simp only [first, hm, hg]

/-- The same for the new second moment. -/
theorem second_block {v g : Mat M N} {v' g' : Mat M' N'} (hv : v y = v' i) (hg : g y = g' i) : second v g y = second v' g' i := by
  simp only [second, hv, hg]

/-- The same for the step of the weight. -/
theorem delta_block {w m v : Mat M N} {w' m' v' : Mat M' N'} (hw : w y = w' i) (hm : m y = m' i) (hv : v y = v' i) :
    delta w m v y = delta w' m' v' i := by
  simp only [delta, hw, hm, hv]

end

/-- The gradient as a part and the sum of a stack. -/
theorem grad_sum (o : Mat M N) (r : Stack 3 M N) (i : Fin M) (j : Fin N) :
    o (ix2 i j) + ∑ k : Fin 3, r (ix3 k i j) = grad o r (ix2 i j) := by
  rw [Fin.sum_univ_three, ← add_assoc, ← add_assoc]
  rfl

end Cert.Update

end
-- ==== Proof.AdamWIn.lean ====
module

public import proofs.«01_k».proof.Defs
public import proofs.«01_k».proof.Proof.Update
public import proofs.«01_k».proof.Proof.Gen.Kernel19.Frame
public import proofs.«01_k».proof.Proof.Gen.Kernel19Ideal.Value
public import proofs.«01_k».proof.Proof.Gen.Reference19Ideal.Run

@[expose] public section

set_option maxRecDepth 16384

noncomputable section

/-! The optimiser's step on the projections' weights. -/

namespace Cert.Kernel19Ideal.Val

open Cert.Kernel19Ideal Cert.Kernel19Ideal.Gen Idealize.ShloMosaic Idealize.ShloMosaic.TcCoe Idealize.SL.Sem Cert.Update

section
variable (o w m v : Vec Ideal S256x896 .f32) (a b c : Vec Ideal S1x256x896 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S2048x896 .f32 := grad (m ((c : Thread nD τ).loc main_arg3)) (m ((c : Thread nD τ).loc main_arg4))

/-- The new first moment. -/
abbrev G1 : Vec Ideal S2048x896 .f32 := first (m ((c : Thread nD τ).loc main_arg1)) (G m c)

/-- The new second moment. -/
abbrev G2 : Vec Ideal S2048x896 .f32 := second (m ((c : Thread nD τ).loc main_arg2)) (G m c)

/-- The step of the weight. -/
abbrev GD : Vec Ideal S2048x896 .f32 := delta (m ((c : Thread nD τ).loc main_arg0)) (G1 m c) (G2 m c)

section
variable (t : Fin grid0.N) (y : S256x896.Idx) (i : S2048x896.Idx) (h0 : ((i 0 : Fin _) : ℕ) = win0_0.index t 0 * 256 + ((y 0 : Fin _) : ℕ)) (h1 : ((i 1 : Fin _) : ℕ) = win0_0.index t 1 * 896 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 256 + ((y 0 : Fin _) : ℕ) := by blk_simp [idx t]
  have h1 : (((win0_5.blk t).view.emb y 1 : Fin _) : ℕ) = win0_0.index t 1 * 896 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 256 + ((y 0 : Fin _) : ℕ) := by blk_simp [idx t]
  have h1 : (((win0_6.blk t).view.emb y 1 : Fin _) : ℕ) = win0_0.index t 1 * 896 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 256 + ((y 0 : Fin _) : ℕ) := by blk_simp [idx t]
  have h1 : (((win0_7.blk t).view.emb y 1 : Fin _) : ℕ) = win0_0.index t 1 * 896 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 256 + ((y 0 : Fin _) : ℕ) := by blk_simp [idx t]
  have h1 : (((win0_8.blk t).view.emb y 1 : Fin _) : ℕ) = win0_0.index t 1 * 896 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel19 := fun m g _ => Cert.Kernel19.Gen.frame m g

/-- The same over the extended reals. -/
theorem frame_ideal : Cert.quiescent_Kernel19Ideal := fun m g _ => Cert.Kernel19Ideal.Gen.frame m g

/-- The reference runs, keeps its arguments and leaves no counter. -/
theorem frame_reference : Cert.quiescent_Reference19Ideal :=
  fun m g _ => (θ_run Cert.Reference19Ideal.defs _ _).mono (fun r h => ⟨fun c => (h c).2.2.2.2, sem_eq_zero_of_no_sems (by decide) r.2⟩)
    (Cert.Reference19Ideal.Value.run (F := Ideal) m g)

/-- The gradient as the reference sums it. -/
theorem ref_grad (o : Vec Ideal S2048x896 .f32) (r : Vec Ideal S3x2048x896 .bf16) :
    addf (F := Ideal) o (Host.reduceAdd (extf .f32 r Cert.Reference19Ideal.Facts₀.bitsLt_bf16_f32) (constant Cert.Reference19Ideal.S_ .f32 0x00000000#32) Cert.Reference19Ideal.Facts₀.reducesTo_S3x2048x896_S2048x896_d0 Cert.Reference19Ideal.Facts₀.h_S_) = grad o r := by
  funext j
  idx_vars j
  pointwise
  exact grad_sum o r j0 j1

/-- Over the extended reals the kernel and the reference end with the same arrays. -/
theorem algebraic : Cert.algebraic_Kernel19Ideal_Reference19Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference19Ideal.defs _ _).mono (fun r h c => ?_) (Cert.Reference19Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel19Ideal.Val

end
-- ==== Proof.AdamWOut.lean ====
module

public import proofs.«01_k».proof.Defs
public import proofs.«01_k».proof.Proof.Update
public import proofs.«01_k».proof.Proof.Gen.Kernel20.Frame
public import proofs.«01_k».proof.Proof.Gen.Kernel20Ideal.Value
public import proofs.«01_k».proof.Proof.Gen.Reference20Ideal.Run

@[expose] public section

set_option maxRecDepth 16384

noncomputable section

/-! The optimiser's step on the output projection's weights. -/

namespace Cert.Kernel20Ideal.Val

open Cert.Kernel20Ideal Cert.Kernel20Ideal.Gen Idealize.ShloMosaic Idealize.ShloMosaic.TcCoe Idealize.SL.Sem Cert.Update

section
variable (o w m v : Vec Ideal S256x2048 .f32) (a b c : Vec Ideal S1x256x2048 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S256x2048 .f32 := grad (m ((c : Thread nD τ).loc main_arg3)) (m ((c : Thread nD τ).loc main_arg4))

/-- The new first moment. -/
abbrev G1 : Vec Ideal S256x2048 .f32 := first (m ((c : Thread nD τ).loc main_arg1)) (G m c)

/-- The new second moment. -/
abbrev G2 : Vec Ideal S256x2048 .f32 := second (m ((c : Thread nD τ).loc main_arg2)) (G m c)

/-- The step of the weight. -/
abbrev GD : Vec Ideal S256x2048 .f32 := delta (m ((c : Thread nD τ).loc main_arg0)) (G1 m c) (G2 m c)

section
variable (t : Fin grid0.N) (y : S256x2048.Idx) (i : S256x2048.Idx) (h0 : ((i 0 : Fin _) : ℕ) = win0_0.index t 0 * 256 + ((y 0 : Fin _) : ℕ)) (h1 : ((i 1 : Fin _) : ℕ) = win0_0.index t 1 * 2048 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 256 + ((y 0 : Fin _) : ℕ) := by blk_simp [idx t]
  have h1 : (((win0_5.blk t).view.emb y 1 : Fin _) : ℕ) = win0_0.index t 1 * 2048 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 256 + ((y 0 : Fin _) : ℕ) := by blk_simp [idx t]
  have h1 : (((win0_6.blk t).view.emb y 1 : Fin _) : ℕ) = win0_0.index t 1 * 2048 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 256 + ((y 0 : Fin _) : ℕ) := by blk_simp [idx t]
  have h1 : (((win0_7.blk t).view.emb y 1 : Fin _) : ℕ) = win0_0.index t 1 * 2048 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 256 + ((y 0 : Fin _) : ℕ) := by blk_simp [idx t]
  have h1 : (((win0_8.blk t).view.emb y 1 : Fin _) : ℕ) = win0_0.index t 1 * 2048 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel20 := fun m g _ => Cert.Kernel20.Gen.frame m g

/-- The same over the extended reals. -/
theorem frame_ideal : Cert.quiescent_Kernel20Ideal := fun m g _ => Cert.Kernel20Ideal.Gen.frame m g

/-- The reference runs, keeps its arguments and leaves no counter. -/
theorem frame_reference : Cert.quiescent_Reference20Ideal :=
  fun m g _ => (θ_run Cert.Reference20Ideal.defs _ _).mono (fun r h => ⟨fun c => (h c).2.2.2.2, sem_eq_zero_of_no_sems (by decide) r.2⟩)
    (Cert.Reference20Ideal.Value.run (F := Ideal) m g)

/-- The gradient as the reference sums it. -/
theorem ref_grad (o : Vec Ideal S256x2048 .f32) (r : Vec Ideal S3x256x2048 .bf16) :
    addf (F := Ideal) o (Host.reduceAdd (extf .f32 r Cert.Reference20Ideal.Facts₀.bitsLt_bf16_f32) (constant Cert.Reference20Ideal.S_ .f32 0x00000000#32) Cert.Reference20Ideal.Facts₀.reducesTo_S3x256x2048_S256x2048_d0 Cert.Reference20Ideal.Facts₀.h_S_) = grad o r := by
  funext j
  idx_vars j
  pointwise
  exact grad_sum o r j0 j1

/-- Over the extended reals the kernel and the reference end with the same arrays. -/
theorem algebraic : Cert.algebraic_Kernel20Ideal_Reference20Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference20Ideal.defs _ _).mono (fun r h c => ?_) (Cert.Reference20Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel20Ideal.Val

end
-- ==== Proof.AdamWUp.lean ====
module

public import proofs.«01_k».proof.Defs
public import proofs.«01_k».proof.Proof.Update
public import proofs.«01_k».proof.Proof.Gen.Kernel21.Frame
public import proofs.«01_k».proof.Proof.Gen.Kernel21Ideal.Value
public import proofs.«01_k».proof.Proof.Gen.Reference21Ideal.Run

@[expose] public section

set_option maxRecDepth 16384

noncomputable section

/-! The optimiser's step on the weights of the feed-forward part's first product. -/

namespace Cert.Kernel21Ideal.Val

open Cert.Kernel21Ideal Cert.Kernel21Ideal.Gen Idealize.ShloMosaic Idealize.ShloMosaic.TcCoe Idealize.SL.Sem Cert.Update

section
variable (o w m v : Vec Ideal S256x1408 .f32) (a b c : Vec Ideal S1x256x1408 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S2048x1408 .f32 := grad (m ((c : Thread nD τ).loc main_arg3)) (m ((c : Thread nD τ).loc main_arg4))

/-- The new first moment. -/
abbrev G1 : Vec Ideal S2048x1408 .f32 := first (m ((c : Thread nD τ).loc main_arg1)) (G m c)

/-- The new second moment. -/
abbrev G2 : Vec Ideal S2048x1408 .f32 := second (m ((c : Thread nD τ).loc main_arg2)) (G m c)

/-- The step of the weight. -/
abbrev GD : Vec Ideal S2048x1408 .f32 := delta (m ((c : Thread nD τ).loc main_arg0)) (G1 m c) (G2 m c)

section
variable (t : Fin grid0.N) (y : S256x1408.Idx) (i : S2048x1408.Idx) (h0 : ((i 0 : Fin _) : ℕ) = win0_0.index t 0 * 256 + ((y 0 : Fin _) : ℕ)) (h1 : ((i 1 : Fin _) : ℕ) = win0_0.index t 1 * 1408 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 256 + ((y 0 : Fin _) : ℕ) := by blk_simp [idx t]
  have h1 : (((win0_5.blk t).view.emb y 1 : Fin _) : ℕ) = win0_0.index t 1 * 1408 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 256 + ((y 0 : Fin _) : ℕ) := by blk_simp [idx t]
  have h1 : (((win0_6.blk t).view.emb y 1 : Fin _) : ℕ) = win0_0.index t 1 * 1408 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 256 + ((y 0 : Fin _) : ℕ) := by blk_simp [idx t]
  have h1 : (((win0_7.blk t).view.emb y 1 : Fin _) : ℕ) = win0_0.index t 1 * 1408 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 256 + ((y 0 : Fin _) : ℕ) := by blk_simp [idx t]
  have h1 : (((win0_8.blk t).view.emb y 1 : Fin _) : ℕ) = win0_0.index t 1 * 1408 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel21 := fun m g _ => Cert.Kernel21.Gen.frame m g

/-- The same over the extended reals. -/
theorem frame_ideal : Cert.quiescent_Kernel21Ideal := fun m g _ => Cert.Kernel21Ideal.Gen.frame m g

/-- The reference runs, keeps its arguments and leaves no counter. -/
theorem frame_reference : Cert.quiescent_Reference21Ideal :=
  fun m g _ => (θ_run Cert.Reference21Ideal.defs _ _).mono (fun r h => ⟨fun c => (h c).2.2.2.2, sem_eq_zero_of_no_sems (by decide) r.2⟩)
    (Cert.Reference21Ideal.Value.run (F := Ideal) m g)

/-- The gradient as the reference sums it. -/
theorem ref_grad (o : Vec Ideal S2048x1408 .f32) (r : Vec Ideal S3x2048x1408 .bf16) :
    addf (F := Ideal) o (Host.reduceAdd (extf .f32 r Cert.Reference21Ideal.Facts₀.bitsLt_bf16_f32) (constant Cert.Reference21Ideal.S_ .f32 0x00000000#32) Cert.Reference21Ideal.Facts₀.reducesTo_S3x2048x1408_S2048x1408_d0 Cert.Reference21Ideal.Facts₀.h_S_) = grad o r := by
  funext j
  idx_vars j
  pointwise
  exact grad_sum o r j0 j1

/-- Over the extended reals the kernel and the reference end with the same arrays. -/
theorem algebraic : Cert.algebraic_Kernel21Ideal_Reference21Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference21Ideal.defs _ _).mono (fun r h c => ?_) (Cert.Reference21Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel21Ideal.Val

end
-- ==== Proof.AdamWDown.lean ====
module

public import proofs.«01_k».proof.Defs
public import proofs.«01_k».proof.Proof.Update
public import proofs.«01_k».proof.Proof.Gen.Kernel22.Frame
public import proofs.«01_k».proof.Proof.Gen.Kernel22Ideal.Value
public import proofs.«01_k».proof.Proof.Gen.Reference22Ideal.Run

@[expose] public section

set_option maxRecDepth 16384

noncomputable section

/-! The optimiser's step on the weights of the feed-forward part's second product. -/

namespace Cert.Kernel22Ideal.Val

open Cert.Kernel22Ideal Cert.Kernel22Ideal.Gen Idealize.ShloMosaic Idealize.ShloMosaic.TcCoe Idealize.SL.Sem Cert.Update

section
variable (o w m v : Vec Ideal S176x2048 .f32) (a b c : Vec Ideal S1x176x2048 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S704x2048 .f32 := grad (m ((c : Thread nD τ).loc main_arg3)) (m ((c : Thread nD τ).loc main_arg4))

/-- The new first moment. -/
abbrev G1 : Vec Ideal S704x2048 .f32 := first (m ((c : Thread nD τ).loc main_arg1)) (G m c)

/-- The new second moment. -/
abbrev G2 : Vec Ideal S704x2048 .f32 := second (m ((c : Thread nD τ).loc main_arg2)) (G m c)

/-- The step of the weight. -/
abbrev GD : Vec Ideal S704x2048 .f32 := delta (m ((c : Thread nD τ).loc main_arg0)) (G1 m c) (G2 m c)

section
variable (t : Fin grid0.N) (y : S176x2048.Idx) (i : S704x2048.Idx) (h0 : ((i 0 : Fin _) : ℕ) = win0_0.index t 0 * 176 + ((y 0 : Fin _) : ℕ)) (h1 : ((i 1 : Fin _) : ℕ) = win0_0.index t 1 * 2048 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 176 + ((y 0 : Fin _) : ℕ) := by blk_simp [idx t]
  have h1 : (((win0_5.blk t).view.emb y 1 : Fin _) : ℕ) = win0_0.index t 1 * 2048 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 176 + ((y 0 : Fin _) : ℕ) := by blk_simp [idx t]
  have h1 : (((win0_6.blk t).view.emb y 1 : Fin _) : ℕ) = win0_0.index t 1 * 2048 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 176 + ((y 0 : Fin _) : ℕ) := by blk_simp [idx t]
  have h1 : (((win0_7.blk t).view.emb y 1 : Fin _) : ℕ) = win0_0.index t 1 * 2048 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 176 + ((y 0 : Fin _) : ℕ) := by blk_simp [idx t]
  have h1 : (((win0_8.blk t).view.emb y 1 : Fin _) : ℕ) = win0_0.index t 1 * 2048 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel22 := fun m g _ => Cert.Kernel22.Gen.frame m g

/-- The same over the extended reals. -/
theorem frame_ideal : Cert.quiescent_Kernel22Ideal := fun m g _ => Cert.Kernel22Ideal.Gen.frame m g

/-- The reference runs, keeps its arguments and leaves no counter. -/
theorem frame_reference : Cert.quiescent_Reference22Ideal :=
  fun m g _ => (θ_run Cert.Reference22Ideal.defs _ _).mono (fun r h => ⟨fun c => (h c).2.2.2.2, sem_eq_zero_of_no_sems (by decide) r.2⟩)
    (Cert.Reference22Ideal.Value.run (F := Ideal) m g)

/-- The gradient as the reference sums it. -/
theorem ref_grad (o : Vec Ideal S704x2048 .f32) (r : Vec Ideal S3x704x2048 .bf16) :
    addf (F := Ideal) o (Host.reduceAdd (extf .f32 r Cert.Reference22Ideal.Facts₀.bitsLt_bf16_f32) (constant Cert.Reference22Ideal.S_ .f32 0x00000000#32) Cert.Reference22Ideal.Facts₀.reducesTo_S3x704x2048_S704x2048_d0 Cert.Reference22Ideal.Facts₀.h_S_) = grad o r := by
  funext j
  idx_vars j
  pointwise
  exact grad_sum o r j0 j1

/-- Over the extended reals the kernel and the reference end with the same arrays. -/
theorem algebraic : Cert.algebraic_Kernel22Ideal_Reference22Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference22Ideal.defs _ _).mono (fun r h c => ?_) (Cert.Reference22Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel22Ideal.Val

end
-- ==== Proof.AdamWPleGate.lean ====
module

public import proofs.«01_k».proof.Defs
public import proofs.«01_k».proof.Proof.Update
public import proofs.«01_k».proof.Proof.Gen.Kernel23.Frame
public import proofs.«01_k».proof.Proof.Gen.Kernel23Ideal.Value
public import proofs.«01_k».proof.Proof.Gen.Reference23Ideal.Run

@[expose] public section

set_option maxRecDepth 16384

noncomputable section

/-! The optimiser's step on the weights of the layer embedding's gate. -/

namespace Cert.Kernel23Ideal.Val

open Cert.Kernel23Ideal Cert.Kernel23Ideal.Gen Idealize.ShloMosaic Idealize.ShloMosaic.TcCoe Idealize.SL.Sem Cert.Update

section
variable (o w m v : Vec Ideal S256x2048 .f32) (a b c : Vec Ideal S1x256x2048 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S256x2048 .f32 := grad (m ((c : Thread nD τ).loc main_arg3)) (m ((c : Thread nD τ).loc main_arg4))

/-- The new first moment. -/
abbrev G1 : Vec Ideal S256x2048 .f32 := first (m ((c : Thread nD τ).loc main_arg1)) (G m c)

/-- The new second moment. -/
abbrev G2 : Vec Ideal S256x2048 .f32 := second (m ((c : Thread nD τ).loc main_arg2)) (G m c)

/-- The step of the weight. -/
abbrev GD : Vec Ideal S256x2048 .f32 := delta (m ((c : Thread nD τ).loc main_arg0)) (G1 m c) (G2 m c)

section
variable (t : Fin grid0.N) (y : S256x2048.Idx) (i : S256x2048.Idx) (h0 : ((i 0 : Fin _) : ℕ) = win0_0.index t 0 * 256 + ((y 0 : Fin _) : ℕ)) (h1 : ((i 1 : Fin _) : ℕ) = win0_0.index t 1 * 2048 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 256 + ((y 0 : Fin _) : ℕ) := by blk_simp [idx t]
  have h1 : (((win0_5.blk t).view.emb y 1 : Fin _) : ℕ) = win0_0.index t 1 * 2048 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 256 + ((y 0 : Fin _) : ℕ) := by blk_simp [idx t]
  have h1 : (((win0_6.blk t).view.emb y 1 : Fin _) : ℕ) = win0_0.index t 1 * 2048 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 256 + ((y 0 : Fin _) : ℕ) := by blk_simp [idx t]
  have h1 : (((win0_7.blk t).view.emb y 1 : Fin _) : ℕ) = win0_0.index t 1 * 2048 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 256 + ((y 0 : Fin _) : ℕ) := by blk_simp [idx t]
  have h1 : (((win0_8.blk t).view.emb y 1 : Fin _) : ℕ) = win0_0.index t 1 * 2048 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel23 := fun m g _ => Cert.Kernel23.Gen.frame m g

/-- The same over the extended reals. -/
theorem frame_ideal : Cert.quiescent_Kernel23Ideal := fun m g _ => Cert.Kernel23Ideal.Gen.frame m g

/-- The reference runs, keeps its arguments and leaves no counter. -/
theorem frame_reference : Cert.quiescent_Reference23Ideal :=
  fun m g _ => (θ_run Cert.Reference23Ideal.defs _ _).mono (fun r h => ⟨fun c => (h c).2.2.2.2, sem_eq_zero_of_no_sems (by decide) r.2⟩)
    (Cert.Reference23Ideal.Value.run (F := Ideal) m g)

/-- The gradient as the reference sums it. -/
theorem ref_grad (o : Vec Ideal S256x2048 .f32) (r : Vec Ideal S3x256x2048 .bf16) :
    addf (F := Ideal) o (Host.reduceAdd (extf .f32 r Cert.Reference23Ideal.Facts₀.bitsLt_bf16_f32) (constant Cert.Reference23Ideal.S_ .f32 0x00000000#32) Cert.Reference23Ideal.Facts₀.reducesTo_S3x256x2048_S256x2048_d0 Cert.Reference23Ideal.Facts₀.h_S_) = grad o r := by
  funext j
  idx_vars j
  pointwise
  exact grad_sum o r j0 j1

/-- Over the extended reals the kernel and the reference end with the same arrays. -/
theorem algebraic : Cert.algebraic_Kernel23Ideal_Reference23Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference23Ideal.defs _ _).mono (fun r h c => ?_) (Cert.Reference23Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel23Ideal.Val

end
-- ==== Proof.AdamWPleProj.lean ====
module

public import proofs.«01_k».proof.Defs
public import proofs.«01_k».proof.Proof.Update
public import proofs.«01_k».proof.Proof.Gen.Kernel24.Frame
public import proofs.«01_k».proof.Proof.Gen.Kernel24Ideal.Value
public import proofs.«01_k».proof.Proof.Gen.Reference24Ideal.Run

@[expose] public section

set_option maxRecDepth 16384

noncomputable section

/-! The optimiser's step on the weights of the layer embedding's projection. -/

namespace Cert.Kernel24Ideal.Val

open Cert.Kernel24Ideal Cert.Kernel24Ideal.Gen Idealize.ShloMosaic Idealize.ShloMosaic.TcCoe Idealize.SL.Sem Cert.Update

section
variable (o w m v : Vec Ideal S256x256 .f32) (a b c : Vec Ideal S1x256x256 .bf16)

/-- What a step stores as gradient. -/
theorem pay_grad : k0_pay2 o a b c = added o a b c := by
  funext y
  idx_vars y
  pointwise [k0_pay2]
  rfl

/-- What a step stores as first moment. -/
theorem pay_first : k0_pay3 o a b c m = first m (added o a b c) := by
  unfold k0_pay3
  rw [pay_grad]
  funext y
  pointwise
  rfl

/-- What a step stores as second moment. -/
theorem pay_second : k0_pay4 o a b c v = second v (added o a b c) := by
  unfold k0_pay4
  rw [pay_grad]
  funext y
  pointwise
  rfl

/-- What a step stores as step of the weight. -/
theorem pay_delta : k0_pay1 w (k0_pay5 o a b c m) (k0_pay6 o a b c v) = delta w (first m (added o a b c)) (second v (added o a b c)) := by
  unfold k0_pay5 k0_pay6
  rw [pay_first, pay_second]
  funext y
  pointwise [k0_pay1]
  rfl

end

/-- Where a step's blocks lie. -/
theorem idx : ∀ t : Fin grid0.N, win0_5.index t = win0_0.index t ∧ win0_6.index t = win0_0.index t ∧ win0_7.index t = win0_0.index t ∧ win0_8.index t = win0_0.index t
    ∧ win0_1.index t = win0_0.index t ∧ win0_2.index t = win0_0.index t ∧ win0_3.index t = win0_0.index t
    ∧ win0_4.index t 0 = 0 ∧ win0_4.index t 1 = win0_0.index t 0 ∧ win0_4.index t 2 = win0_0.index t 1 := by
  decide +kernel

variable (m : (ℓ : Loc nD τ sig) → Buf (Elt Ideal) ℓ) (c : Dev nD)

/-- The gradient. -/
abbrev G : Vec Ideal S256x256 .f32 := grad (m ((c : Thread nD τ).loc main_arg3)) (m ((c : Thread nD τ).loc main_arg4))

/-- The new first moment. -/
abbrev G1 : Vec Ideal S256x256 .f32 := first (m ((c : Thread nD τ).loc main_arg1)) (G m c)

/-- The new second moment. -/
abbrev G2 : Vec Ideal S256x256 .f32 := second (m ((c : Thread nD τ).loc main_arg2)) (G m c)

/-- The step of the weight. -/
abbrev GD : Vec Ideal S256x256 .f32 := delta (m ((c : Thread nD τ).loc main_arg0)) (G1 m c) (G2 m c)

section
variable (t : Fin grid0.N) (y i : S256x256.Idx) (h0 : ((i 0 : Fin _) : ℕ) = win0_0.index t 0 * 256 + ((y 0 : Fin _) : ℕ)) (h1 : ((i 1 : Fin _) : ℕ) = win0_0.index t 1 * 256 + ((y 1 : Fin _) : ℕ))

include h0 h1

/-- An entry of a block's gradient is an entry of the gradient. -/
theorem blk_grad : added (iblk m c 3 t) (View.ld (iblk m c 4 t) r0_1) (View.ld (iblk m c 4 t) r0_2) (View.ld (iblk m c 4 t) r0_3) y = G m c i := by
  refine added_block ?_ ?_ ?_ ?_
  · blk_ext [iblk, V, idx t, h0, h1]
  all_goals
    rw [View.ld_apply]
    blk_ext [iblk, V, idx t, h0, h1, r0_1, r0_2, r0_3, Rect.idx_unit_val]

/-- The same for the first moment. -/
theorem blk_first : first (iblk m c 1 t) (added (iblk m c 3 t) (View.ld (iblk m c 4 t) r0_1) (View.ld (iblk m c 4 t) r0_2) (View.ld (iblk m c 4 t) r0_3)) y = G1 m c i := by
  refine first_block ?_ (blk_grad m c t y i h0 h1)
  blk_ext [iblk, V, idx t, h0, h1]

/-- The same for the second moment. -/
theorem blk_second : second (iblk m c 2 t) (added (iblk m c 3 t) (View.ld (iblk m c 4 t) r0_1) (View.ld (iblk m c 4 t) r0_2) (View.ld (iblk m c 4 t) r0_3)) y = G2 m c i := by
  refine second_block ?_ (blk_grad m c t y i h0 h1)
  blk_ext [iblk, V, idx t, h0, h1]

/-- The same for the step of the weight. -/
theorem blk_delta : delta (iblk m c 0 t) (first (iblk m c 1 t) (added (iblk m c 3 t) (View.ld (iblk m c 4 t) r0_1) (View.ld (iblk m c 4 t) r0_2) (View.ld (iblk m c 4 t) r0_3)))
    (second (iblk m c 2 t) (added (iblk m c 3 t) (View.ld (iblk m c 4 t) r0_1) (View.ld (iblk m c 4 t) r0_2) (View.ld (iblk m c 4 t) r0_3))) y = GD m c i := by
  refine delta_block ?_ (blk_first m c t y i h0 h1) (blk_second m c t y i h0 h1)
  blk_ext [iblk, V, idx t, h0, h1]

end

/-- The array of the gradient after the run. -/
theorem arr_grad : (dats m 0 c).arrAt 5 cfg0.N = G m c := by
  refine (dats m 0 c).arrAt_eq_of_covers 5 (G m c) (by decide +kernel) (fun t _ y => ?_)
  have h0 : (((win0_5.blk t).view.emb y 0 : Fin _) : ℕ) = win0_0.index t 0 * 256 + ((y 0 : Fin _) : ℕ) := by blk_simp [idx t]
  have h1 : (((win0_5.blk t).view.emb y 1 : Fin _) : ℕ) = win0_0.index t 1 * 256 + ((y 1 : Fin _) : ℕ) := by blk_simp [idx t]
  blk_simp
  rw [after0_5]
  frame_out
  rw [pay_grad]
  exact blk_grad m c t y _ h0 h1

/-- The array of the weight's step after the run. -/
theorem arr_delta : (dats m 0 c).arrAt 6 cfg0.N = GD m c := by
  refine (dats m 0 c).arrAt_eq_of_covers 6 (GD m c) (by decide +kernel) (fun t _ y => ?_)
  have h0 : (((win0_6.blk t).view.emb y 0 : Fin _) : ℕ) = win0_0.index t 0 * 256 + ((y 0 : Fin _) : ℕ) := by blk_simp [idx t]
  have h1 : (((win0_6.blk t).view.emb y 1 : Fin _) : ℕ) = win0_0.index t 1 * 256 + ((y 1 : Fin _) : ℕ) := by blk_simp [idx t]
  blk_simp
  rw [after0_6]
  frame_out
  rw [pay_delta]
  exact blk_delta m c t y _ h0 h1

/-- The array of the first moment after the run. -/
theorem arr_first : (dats m 0 c).arrAt 7 cfg0.N = G1 m c := by
  refine (dats m 0 c).arrAt_eq_of_covers 7 (G1 m c) (by decide +kernel) (fun t _ y => ?_)
  have h0 : (((win0_7.blk t).view.emb y 0 : Fin _) : ℕ) = win0_0.index t 0 * 256 + ((y 0 : Fin _) : ℕ) := by blk_simp [idx t]
  have h1 : (((win0_7.blk t).view.emb y 1 : Fin _) : ℕ) = win0_0.index t 1 * 256 + ((y 1 : Fin _) : ℕ) := by blk_simp [idx t]
  blk_simp
  rw [after0_7]
  frame_out
  rw [pay_first]
  exact blk_first m c t y _ h0 h1

/-- The array of the second moment after the run. -/
theorem arr_second : (dats m 0 c).arrAt 8 cfg0.N = G2 m c := by
  refine (dats m 0 c).arrAt_eq_of_covers 8 (G2 m c) (by decide +kernel) (fun t _ y => ?_)
  have h0 : (((win0_8.blk t).view.emb y 0 : Fin _) : ℕ) = win0_0.index t 0 * 256 + ((y 0 : Fin _) : ℕ) := by blk_simp [idx t]
  have h1 : (((win0_8.blk t).view.emb y 1 : Fin _) : ℕ) = win0_0.index t 1 * 256 + ((y 1 : Fin _) : ℕ) := by blk_simp [idx t]
  blk_simp
  rw [after0_8]
  frame_out
  rw [pay_second]
  exact blk_second m c t y _ h0 h1

/-- The kernel runs, keeps its arguments and leaves no counter. -/
theorem frame_kernel : Cert.quiescent_Kernel24 := fun m g _ => Cert.Kernel24.Gen.frame m g

/-- The same over the extended reals. -/
theorem frame_ideal : Cert.quiescent_Kernel24Ideal := fun m g _ => Cert.Kernel24Ideal.Gen.frame m g

/-- The reference runs, keeps its arguments and leaves no counter. -/
theorem frame_reference : Cert.quiescent_Reference24Ideal :=
  fun m g _ => (θ_run Cert.Reference24Ideal.defs _ _).mono (fun r h => ⟨fun c => (h c).2.2.2.2, sem_eq_zero_of_no_sems (by decide) r.2⟩)
    (Cert.Reference24Ideal.Value.run (F := Ideal) m g)

/-- The gradient as the reference sums it. -/
theorem ref_grad (o : Vec Ideal S256x256 .f32) (r : Vec Ideal S3x256x256 .bf16) :
    addf (F := Ideal) o (Host.reduceAdd (extf .f32 r Cert.Reference24Ideal.Facts₀.bitsLt_bf16_f32) (constant Cert.Reference24Ideal.S_ .f32 0x00000000#32) Cert.Reference24Ideal.Facts₀.reducesTo_S3x256x256_S256x256_d0 Cert.Reference24Ideal.Facts₀.h_S_) = grad o r := by
  funext j
  idx_vars j
  pointwise
  exact grad_sum o r j0 j1

/-- Over the extended reals the kernel and the reference end with the same arrays. -/
theorem algebraic : Cert.algebraic_Kernel24Ideal_Reference24Ideal := by
  intro m g m' g' _ hargs
  refine ⟨fun c => G m c, fun c => GD m c, fun c => G1 m c, fun c => G2 m c, ?_, ?_⟩
  · exact (θ_run defs _ _).mono (fun r h c => ⟨(h c).1.trans (arr_grad m c), (h c).2.1.trans (arr_delta m c), (h c).2.2.1.trans (arr_first m c), (h c).2.2.2.1.trans (arr_second m c), (h c).2.2.2.2⟩)
      (Value.run_blocks (F := Ideal) m g)
  · refine (θ_run Cert.Reference24Ideal.defs _ _).mono (fun r h c => ?_) (Cert.Reference24Ideal.Value.run (F := Ideal) m' g')
    obtain ⟨r0, r1, r2, r3, rest⟩ := h c
    obtain ⟨a0, a1, a2, a3, a4⟩ := hargs c
    rw [a3, a4, ref_grad] at r0
    rw [a0, a1, a2, a3, a4, ref_grad] at r1
    rw [a1, a3, a4, ref_grad] at r2
    rw [a2, a3, a4, ref_grad] at r3
    refine ⟨r0, r1.trans ?_, r2.trans ?_, r3.trans ?_, rest⟩ <;>
      (funext j; pointwise; rfl)

end Cert.Kernel24Ideal.Val

end
-- ==== Proof.Packing.lean ====
module

public import proofs.«01_k».proof.Proof.Update
public import proofs.«01_k».proof.Proof.Gen.Kernel25Ideal
public import Idealize.ShloMosaic.Lib.KernelVsHost

@[expose] public section

set_option maxRecDepth 16384

noncomputable section

/-! Nine arrays laid below each other as rows of 128 numbers, and each of them read back. -/

namespace Cert.Packing

open Cert.Kernel25Ideal Cert.Kernel25Ideal.Facts₀ Idealize.ShloMosaic

/-- Extended reals in a row. -/
abbrev D (n : ℕ) : Shape := ⟨1, ![n]⟩

/-- Rows of 128 extended reals. -/
abbrev R (n : ℕ) : Shape := ⟨2, ![n, 128]⟩

/-- Nothing padded onto a row leaves the row. -/
theorem pad_none {n : ℕ} (x : (D n).Idx → EReal) {u : Shape} (z : u.Idx → EReal)
    (h : (D n).Pads ![0] ![0] ![0] (D n)) (hu : 0 < u.numel) : pad (D n) ![0] ![0] ![0] x z h hu = x := by
  funext j
  refine pad_apply_of_inside _ _ _ x z h hu j j (fun a => ?_)
  match a with
  | 0 => simp

/-- The start of a padded row is the row. -/
theorem slice_pad {n k m : ℕ} (x : (D n).Idx → EReal) {u : Shape} (z : u.Idx → EReal)
    (h : (D n).Pads ![0] ![k] ![0] (D m)) (hu : 0 < u.numel) (hs : (D m).Slices ![0] (D n)) :
    extractStridedSlice (D n) ![0] (pad (D m) ![0] ![k] ![0] x z h hu) hs = x := by
  funext j
  refine pad_apply_of_inside _ _ _ x z h hu _ j (fun a => ?_)
  match a with
  | 0 => simp

/-- The left part of a matrix padded on the right is the matrix. -/
theorem slice_pad₂ {M n k m : ℕ} (x : (⟨2, ![M, n]⟩ : Shape).Idx → EReal) {u : Shape} (z : u.Idx → EReal)
    (h : (⟨2, ![M, n]⟩ : Shape).Pads ![0, 0] ![0, k] ![0, 0] ⟨2, ![M, m]⟩) (hu : 0 < u.numel)
    (hs : (⟨2, ![M, m]⟩ : Shape).Slices ![0, 0] ⟨2, ![M, n]⟩) :
    extractStridedSlice ⟨2, ![M, n]⟩ ![0, 0] (pad ⟨2, ![M, m]⟩ ![0, 0] ![0, k] ![0, 0] x z h hu) hs = x := by
  funext j
  refine pad_apply_of_inside _ _ _ x z h hu _ j (fun a => ?_)
  match a with
  | 0 => simp
  | 1 => simp

/-- The rows of a part among parts laid below each other are the part. -/
theorem slice_part {T N : ℕ} (xs : List ((s : Shape) × (s.Idx → EReal))) (h : Shape.Concatenates (xs.map (·.1)) (R T) 0)
    (k : ℕ) (x : (R N).Idx → EReal) (hx : xs[k]? = some ⟨R N, x⟩) (o : ℕ)
    (ho : (((xs.take k).map (·.1)).map fun s => if h : s.rank = (R T).rank then s.size ((0 : Fin 2).cast h.symm) else 0).sum = o)
    (hs : (R T).Slices ![o, 0] (R N)) : extractStridedSlice (R N) ![o, 0] (concatenate (R T) 0 xs h) hs = x := by
  funext j
  obtain ⟨hk, hx⟩ := List.getElem?_eq_some_iff.mp hx
  refine concatenate_apply_piece (t := R T) 0 xs h _ k hk (R N) x hx rfl o ho j (fun b hb => ?_) ?_
  · match b with
    | 0 => exact absurd rfl hb
    | 1 => simp
  · simp

/-- Rows of the upper of two parts are rows of that part. -/
theorem slice_upper {T P Q N o : ℕ} (x : (R P).Idx → EReal) (y : (R Q).Idx → EReal)
    (h : Shape.Concatenates [R P, R Q] (R T) 0) (hs : (R T).Slices ![o, 0] (R N)) (hs' : (R P).Slices ![o, 0] (R N)) :
    extractStridedSlice (R N) ![o, 0] (concatenate (R T) 0 [⟨R P, x⟩, ⟨R Q, y⟩] h) hs = extractStridedSlice (R N) ![o, 0] x hs' := by
  funext j
  refine concatenate_apply_piece (t := R T) 0 [⟨R P, x⟩, ⟨R Q, y⟩] h _ 0 (Nat.zero_lt_succ _) (R P) x rfl rfl 0 rfl _ (fun b hb => ?_) ?_
  · match b with
    | 0 => exact absurd rfl hb
    | 1 => rfl
  · exact Nat.zero_add _

section
variable (z : S_.Idx → EReal) (x0 : S1x2048.Idx → EReal) (x1 : S2x1024.Idx → EReal) (x2 : S1x128.Idx → EReal) (x3 : S1x8x257.Idx → EReal)
  (x4 : S1x2048.Idx → EReal) (x5 : S1x3x1408.Idx → EReal) (x6 : S1x11264.Idx → EReal) (x7 : S1x2048.Idx → EReal) (x8 : S2048.Idx → EReal)

/-- 2048 numbers as 16 rows. -/
def rows16 (x : S2048.Idx → EReal) : S16x128.Idx → EReal :=
  shapeCast S16x128 (pad S2048 ![0] ![0] ![0] x z pads_S2048_S2048_000 h_S_) shapeCasts_S2048_S16x128

/-- The array of 128 numbers as 8 rows. -/
def rows8 : S8x128.Idx → EReal :=
  shapeCast S8x128 (pad S1024 ![0] ![896] ![0] (shapeCast S128 x2 shapeCasts_S1x128_S128) z pads_S128_S1024_08960 h_S_) shapeCasts_S1024_S8x128

/-- The 8 by 257 array as 24 rows. -/
def rows24 : S24x128.Idx → EReal :=
  shapeCast S24x128 (pad S3072 ![0] ![0] ![0] (shapeCast S3072 (pad S8x384 ![0, 0] ![0, 127] ![0, 0]
    (shapeCast S8x257 x3 shapeCasts_S1x8x257_S8x257) z pads_S8x257_S8x384_000_01270 h_S_) shapeCasts_S8x384_S3072) z pads_S3072_S3072_000 h_S_)
    shapeCasts_S3072_S24x128

/-- The array of 11264 numbers as 88 rows. -/
def rows88 : S88x128.Idx → EReal :=
  shapeCast S88x128 (pad S11264 ![0] ![0] ![0] (shapeCast S11264 x6 shapeCasts_S1x11264_S11264) z pads_S11264_S11264_000 h_S_)
    shapeCasts_S11264_S88x128

/-- The array of 4224 numbers as 40 rows. -/
def rows40 : S40x128.Idx → EReal :=
  shapeCast S40x128 (pad S5120 ![0] ![896] ![0] (shapeCast S4224 x5 shapeCasts_S1x3x1408_S4224) z pads_S4224_S5120_08960 h_S_)
    shapeCasts_S5120_S40x128

/-- The first 200 rows. -/
def upper : S200x128.Idx → EReal :=
  concatenate S200x128 0 [⟨S16x128, rows16 z (shapeCast S2048 x0 shapeCasts_S1x2048_S2048)⟩,
    ⟨S16x128, rows16 z (shapeCast S2048 x1 shapeCasts_S2x1024_S2048)⟩, ⟨S8x128, rows8 z x2⟩, ⟨S24x128, rows24 z x3⟩,
    ⟨S16x128, rows16 z (shapeCast S2048 x4 shapeCasts_S1x2048_S2048)⟩, ⟨S88x128, rows88 z x6⟩,
    ⟨S16x128, rows16 z (shapeCast S2048 x7 shapeCasts_S1x2048_S2048)⟩, ⟨S16x128, rows16 z x8⟩]
    concatenates_S16x128_S16x128_S8x128_S24x128_S16x128_S88x128_S16x128_S16x128_S200x128_d0

/-- The nine arrays as 240 rows of 128 numbers. -/
def pack : S240x128.Idx → EReal :=
  concatenate S240x128 0 [⟨S200x128, upper z x0 x1 x2 x3 x4 x6 x7 x8⟩, ⟨S40x128, rows40 z x5⟩] concatenates_S200x128_S40x128_S240x128_d0

end

section
variable (a : S240x128.Idx → EReal)

/-- The first array read back from the rows. -/
def un0 : S1x2048.Idx → EReal :=
  shapeCast S1x2048 (shapeCast S2048 (extractStridedSlice S16x128 ![0, 0] a slices_S240x128_S16x128_0_0) shapeCasts_S16x128_S2048) shapeCasts_S2048_S1x2048

/-- The second array read back from the rows. -/
def un1 : S2x1024.Idx → EReal :=
  shapeCast S2x1024 (shapeCast S2048 (extractStridedSlice S16x128 ![16, 0] a slices_S240x128_S16x128_16_0) shapeCasts_S16x128_S2048) shapeCasts_S2048_S2x1024

/-- The third array read back from the rows. -/
def un2 : S1x128.Idx → EReal :=
  shapeCast S1x128 (extractStridedSlice S128 ![0] (shapeCast S1024 (extractStridedSlice S8x128 ![32, 0] a slices_S240x128_S8x128_32_0) shapeCasts_S8x128_S1024) slices_S1024_S128_0) shapeCasts_S128_S1x128

/-- The fourth array read back from the rows. -/
def un3 : S1x8x257.Idx → EReal :=
  shapeCast S1x8x257 (extractStridedSlice S8x257 ![0, 0] (shapeCast S8x384 (extractStridedSlice S24x128 ![40, 0] a slices_S240x128_S24x128_40_0)
    shapeCasts_S24x128_S8x384) slices_S8x384_S8x257_0_0) shapeCasts_S8x257_S1x8x257

/-- The fifth array read back from the rows. -/
def un4 : S1x2048.Idx → EReal :=
  shapeCast S1x2048 (shapeCast S2048 (extractStridedSlice S16x128 ![64, 0] a slices_S240x128_S16x128_64_0) shapeCasts_S16x128_S2048) shapeCasts_S2048_S1x2048

/-- The sixth array read back from the rows. -/
def un5 : S1x3x1408.Idx → EReal :=
  shapeCast S1x3x1408 (extractStridedSlice S4224 ![0] (shapeCast S5120 (extractStridedSlice S40x128 ![200, 0] a slices_S240x128_S40x128_200_0)
    shapeCasts_S40x128_S5120) slices_S5120_S4224_0) shapeCasts_S4224_S1x3x1408

/-- The seventh array read back from the rows. -/
def un6 : S1x11264.Idx → EReal :=
  shapeCast S1x11264 (shapeCast S11264 (extractStridedSlice S88x128 ![80, 0] a slices_S240x128_S88x128_80_0) shapeCasts_S88x128_S11264) shapeCasts_S11264_S1x11264

/-- The eighth array read back from the rows. -/
def un7 : S1x2048.Idx → EReal :=
  shapeCast S1x2048 (shapeCast S2048 (extractStridedSlice S16x128 ![168, 0] a slices_S240x128_S16x128_168_0) shapeCasts_S16x128_S2048) shapeCasts_S2048_S1x2048

/-- The ninth array read back from the rows. -/
def un8 : S2048.Idx → EReal :=
  shapeCast S2048 (extractStridedSlice S16x128 ![184, 0] a slices_S240x128_S16x128_184_0) shapeCasts_S16x128_S2048

end

/-- Numbers recast to a shape, to another, and back keep their order. -/
theorem cast_thrice {s t u : Shape} (x : s.Idx → EReal) (h : s.ShapeCasts t) (h' : t.ShapeCasts u) (h'' : u.ShapeCasts s) :
    shapeCast s (shapeCast u (shapeCast t x h) h') h'' = x :=
  funext fun i => congrArg x (by
    show Shape.reshapeEquiv _ (Shape.reshapeEquiv _ (Shape.reshapeEquiv _ i)) = i
    rw [Shape.reshapeEquiv_reshapeEquiv, Shape.reshapeEquiv_reshapeEquiv, Shape.reshapeEquiv_self])

section
variable (z : S_.Idx → EReal) (x0 : S1x2048.Idx → EReal) (x1 : S2x1024.Idx → EReal) (x2 : S1x128.Idx → EReal) (x3 : S1x8x257.Idx → EReal)
  (x4 : S1x2048.Idx → EReal) (x5 : S1x3x1408.Idx → EReal) (x6 : S1x11264.Idx → EReal) (x7 : S1x2048.Idx → EReal) (x8 : S2048.Idx → EReal)

/-- The first array is read back. -/
theorem un0_pack : un0 (pack z x0 x1 x2 x3 x4 x5 x6 x7 x8) = x0 := by
  unfold un0 pack
  rw [slice_upper (P := 200) (hs' := by decide)]
  unfold upper
  rw [slice_part (T := 200) (N := 16) _ _ 0 (rows16 z (shapeCast S2048 x0 shapeCasts_S1x2048_S2048)) ?_ 0 ?_, rows16, shapeCast_shapeCast, pad_none, shapeCast_shapeCast]
  all_goals rfl

/-- The second array is read back. -/
theorem un1_pack : un1 (pack z x0 x1 x2 x3 x4 x5 x6 x7 x8) = x1 := by
  unfold un1 pack
  rw [slice_upper (P := 200) (hs' := by decide)]
  unfold upper
  rw [slice_part (T := 200) (N := 16) _ _ 1 (rows16 z (shapeCast S2048 x1 shapeCasts_S2x1024_S2048)) ?_ 16 ?_, rows16, shapeCast_shapeCast, pad_none, shapeCast_shapeCast]
  all_goals rfl

/-- The third array is read back. -/
theorem un2_pack : un2 (pack z x0 x1 x2 x3 x4 x5 x6 x7 x8) = x2 := by
  unfold un2 pack
  rw [slice_upper (P := 200) (hs' := by decide)]
  unfold upper
  rw [slice_part (T := 200) (N := 8) _ _ 2 (rows8 z x2) ?_ 32 ?_, rows8, shapeCast_shapeCast, slice_pad, shapeCast_shapeCast]
  all_goals rfl

/-- The fourth array is read back. -/
theorem un3_pack : un3 (pack z x0 x1 x2 x3 x4 x5 x6 x7 x8) = x3 := by
  unfold un3 pack
  rw [slice_upper (P := 200) (hs' := by decide)]
  unfold upper
  rw [slice_part (T := 200) (N := 24) _ _ 3 (rows24 z x3) ?_ 40 ?_, rows24, pad_none, cast_thrice, slice_pad₂, shapeCast_shapeCast]
  all_goals rfl

/-- The fifth array is read back. -/
theorem un4_pack : un4 (pack z x0 x1 x2 x3 x4 x5 x6 x7 x8) = x4 := by
  unfold un4 pack
  rw [slice_upper (P := 200) (hs' := by decide)]
  unfold upper
  rw [slice_part (T := 200) (N := 16) _ _ 4 (rows16 z (shapeCast S2048 x4 shapeCasts_S1x2048_S2048)) ?_ 64 ?_, rows16, shapeCast_shapeCast, pad_none, shapeCast_shapeCast]
  all_goals rfl

/-- The sixth array is read back. -/
theorem un5_pack : un5 (pack z x0 x1 x2 x3 x4 x5 x6 x7 x8) = x5 := by
  unfold un5 pack
  rw [slice_part (T := 240) (N := 40) _ _ 1 (rows40 z x5) ?_ 200 ?_, rows40, shapeCast_shapeCast, slice_pad, shapeCast_shapeCast]
  all_goals rfl

/-- The seventh array is read back. -/
theorem un6_pack : un6 (pack z x0 x1 x2 x3 x4 x5 x6 x7 x8) = x6 := by
  unfold un6 pack
  rw [slice_upper (P := 200) (hs' := by decide)]
  unfold upper
  rw [slice_part (T := 200) (N := 88) _ _ 5 (rows88 z x6) ?_ 80 ?_, rows88, shapeCast_shapeCast, pad_none, shapeCast_shapeCast]
  all_goals rfl

/-- The eighth array is read back. -/
theorem un7_pack : un7 (pack z x0 x1 x2 x3 x4 x5 x6 x7 x8) = x7 := by
  unfold un7 pack
  rw [slice_upper (P := 200) (hs' := by decide)]
  unfold upper
  rw [slice_part (T := 200) (N := 16) _ _ 6 (rows16 z (shapeCast S2048 x7 shapeCasts_S1x2048_S2048)) ?_ 168 ?_, rows16, shapeCast_shapeCast, pad_none, shapeCast_shapeCast]
  all_goals rfl

/-- The ninth array is read back. -/
theorem un8_pack : un8 (pack z x0 x1 x2 x3 x4 x5 x6 x7 x8) = x8 := by
  unfold un8 pack
  rw [slice_upper (P := 200) (hs' := by decide)]
  unfold upper
  rw [slice_part (T := 200) (N := 16) _ _ 7 (rows16 z x8) ?_ 184 ?_, rows16, shapeCast_shapeCast, pad_none]
  all_goals rfl

end

end Cert.Packing

end
-- ==== Proof.SmallPack.lean ====
module

public import proofs.«01_k».proof.Proof.Packing
public import Idealize.ShloMosaic.Lib.StableHlo.RunRead
public import proofs.«01_k».proof.Proof.Gen.Kernel25Ideal.Launch

@[expose] public section

set_option maxRecDepth 16384

noncomputable section

/-! What the host operations before the call leave in its four arrays: the nine small arrays of each kind, packed. -/

namespace Cert.Kernel25Ideal.Val

open Cert.Kernel25Ideal Cert.Kernel25Ideal.Gen Idealize.ShloMosaic Idealize.ShloMosaic.StableHlo Idealize.ShloMosaic.TcCoe Idealize.SL.Sem Cert.Packing

variable (W : Valuation τ sig (Elt Ideal))

/-- What fills the rows up: zero. -/
abbrev fill : S_.Idx → EReal := sitofp (F := Ideal) .f32 (constantI S_ 32 0#32)

/-- The host operations before the call. -/
abbrev before : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80]

set_option maxHeartbeats 4000000 in
/-- The packed weights. -/
theorem pack_weights : after before W (Proc.devRef .tc main_v29) = pack fill (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  after_reads_simp
  rfl

set_option maxHeartbeats 4000000 in
/-- The packed gradients. -/
theorem pack_grads : after before W (Proc.devRef .tc main_v59) = pack fill (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  after_reads_simp
  rfl

set_option maxHeartbeats 4000000 in
/-- The packed first moments. -/
theorem pack_firsts : after before W (Proc.devRef .tc main_v89) = pack fill (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) := by
  after_reads_simp
  rfl

set_option maxHeartbeats 4000000 in
/-- The packed second moments. -/
theorem pack_seconds : after before W (Proc.devRef .tc main_v119) = pack fill (W (Proc.devRef .tc main_arg27)) (W (Proc.devRef .tc main_arg28)) (W (Proc.devRef .tc main_arg29)) (W (Proc.devRef .tc main_arg30)) (W (Proc.devRef .tc main_arg31)) (W (Proc.devRef .tc main_arg32)) (W (Proc.devRef .tc main_arg33)) (W (Proc.devRef .tc main_arg34)) (W (Proc.devRef .tc main_arg35)) := by
  after_reads_simp
  rfl

end Cert.Kernel25Ideal.Val

end
-- ==== Proof.SmallCall.lean ====
module

public import proofs.«01_k».proof.Proof.Update
public import proofs.«01_k».proof.Proof.Gen.Kernel25Ideal.Frame

@[expose] public section

set_option maxRecDepth 16384

noncomputable section

/-! The optimiser's step on the nine small weights: what the one call on the packed arrays leaves. -/

namespace Cert.Kernel25Ideal.Val

open Cert.Kernel25Ideal Cert.Kernel25Ideal.Gen Idealize.ShloMosaic Idealize.ShloMosaic.TcCoe Idealize.SL.Sem Cert.Update

section
variable (w g m v : Vec Ideal S240x128 .f32)

/-- What the call stores as first moment. -/
theorem pay_first : k0_pay2 g m = first m g := by
  funext y
  pointwise [k0_pay2, k0_pay1]
  rfl

/-- What the call stores as second moment. -/
theorem pay_second : k0_pay3 g v = second v g := by
  funext y
  pointwise [k0_pay3, k0_pay1]
  rfl

/-- What the call stores as step of the weight. -/
theorem pay_delta : k0_pay4 w g m v = delta w (first m g) (second v g) := by
  unfold k0_pay4
  rw [pay_first, pay_second]
  funext y
  pointwise
  rfl

end

/-- Where the blocks lie: each is its array. -/
theorem idx : ∀ t : Fin grid0.N, ∀ a, win0_4.index t a = 0 ∧ win0_5.index t a = 0 ∧ win0_6.index t a = 0
    ∧ win0_0.index t a = 0 ∧ win0_1.index t a = 0 ∧ win0_2.index t a = 0 ∧ win0_3.index t a = 0 := by
  decide +kernel

variable (m : (ℓ : Loc nD τ sig) → Buf (Elt Ideal) ℓ) (c : Dev nD)

/-- The new first moment, packed. -/
abbrev G1 : Vec Ideal S240x128 .f32 := first (V m c main_v89) (V m c main_v59)

/-- The new second moment, packed. -/
abbrev G2 : Vec Ideal S240x128 .f32 := second (V m c main_v119) (V m c main_v59)

/-- The step of the weights, packed. -/
abbrev GD : Vec Ideal S240x128 .f32 := delta (V m c main_v29) (G1 m c) (G2 m c)

set_option maxHeartbeats 2000000 in
/-- An index of the one block of an array that the call reads is that of the array. -/
theorem emb_entry (t : Fin cfg0.N) (y : S240x128.Idx) : (win0_0.blk t).view.emb y = y ∧ (win0_1.blk t).view.emb y = y
    ∧ (win0_2.blk t).view.emb y = y ∧ (win0_3.blk t).view.emb y = y := by
  refine ⟨?_, ?_, ?_, ?_⟩ <;> blk_ext [idx t]

/-- The one block of an array that the call reads is the array. -/
theorem block (X : S240x128.Idx → EReal) (t : Fin cfg0.N) (y : S240x128.Idx) :
    (win0_0.blk t).view.read (Elt Ideal) X y = X y ∧ (win0_1.blk t).view.read (Elt Ideal) X y = X y
    ∧ (win0_2.blk t).view.read (Elt Ideal) X y = X y ∧ (win0_3.blk t).view.read (Elt Ideal) X y = X y :=
  ⟨congrArg X (emb_entry t y).1, congrArg X (emb_entry t y).2.1, congrArg X (emb_entry t y).2.2.1, congrArg X (emb_entry t y).2.2.2⟩

/-- The blocks that the call reads. -/
theorem iblk_entry (t : Fin cfg0.N) (y : S240x128.Idx) :
    iblk m c 0 t y = V m c main_v29 y ∧ iblk m c 1 t y = V m c main_v59 y
    ∧ iblk m c 2 t y = V m c main_v89 y ∧ iblk m c 3 t y = V m c main_v119 y :=
  ⟨(block (V m c main_v29) t y).1, (block (V m c main_v59) t y).2.1, (block (V m c main_v89) t y).2.2.1, (block (V m c main_v119) t y).2.2.2⟩

/-- The array of the first moment after the run. -/
theorem arr_first : (dats m 0 c).arrAt 5 cfg0.N = G1 m c := by
  refine (dats m 0 c).arrAt_eq_of_covers 5 (G1 m c) (by decide +kernel) (fun t _ y => ?_)
  have e : (win0_5.blk t).view.emb y = y := by blk_ext [idx t]
  blk_simp
  rw [after0_5]
  frame_out
  rw [pay_first]
  exact (first_block (iblk_entry m c t y).2.2.1 (iblk_entry m c t y).2.1).trans (congrArg (G1 m c) e.symm)

/-- The array of the second moment after the run. -/
theorem arr_second : (dats m 0 c).arrAt 6 cfg0.N = G2 m c := by
  refine (dats m 0 c).arrAt_eq_of_covers 6 (G2 m c) (by decide +kernel) (fun t _ y => ?_)
  have e : (win0_6.blk t).view.emb y = y := by blk_ext [idx t]
  blk_simp
  rw [after0_6]
  frame_out
  rw [pay_second]
  exact (second_block (iblk_entry m c t y).2.2.2 (iblk_entry m c t y).2.1).trans (congrArg (G2 m c) e.symm)

/-- The array of the weights' step after the run. -/
theorem arr_delta : (dats m 0 c).arrAt 4 cfg0.N = GD m c := by
  refine (dats m 0 c).arrAt_eq_of_covers 4 (GD m c) (by decide +kernel) (fun t _ y => ?_)
  have e : (win0_4.blk t).view.emb y = y := by blk_ext [idx t]
  blk_simp
  rw [after0_4]
  frame_out
  rw [pay_delta]
  exact (delta_block (iblk_entry m c t y).1 (first_block (iblk_entry m c t y).2.2.1 (iblk_entry m c t y).2.1)
    (second_block (iblk_entry m c t y).2.2.2 (iblk_entry m c t y).2.1)).trans (congrArg (GD m c) e.symm)

end Cert.Kernel25Ideal.Val

end
-- ==== Proof.SmallUnpack.lean ====
module

public import proofs.«01_k».proof.Proof.Packing
public import Idealize.ShloMosaic.Lib.StableHlo.RunRead
public import proofs.«01_k».proof.Proof.Gen.Kernel25Ideal.Launch

@[expose] public section

set_option maxRecDepth 16384

noncomputable section

/-! What the host operations after the call read back from its three arrays. -/

namespace Cert.Kernel25Ideal.Val

open Cert.Kernel25Ideal Cert.Kernel25Ideal.Gen Idealize.ShloMosaic Idealize.ShloMosaic.StableHlo Idealize.ShloMosaic.TcCoe Idealize.SL.Sem Cert.Packing

variable (W : Valuation τ sig (Elt Ideal))

set_option maxHeartbeats 4000000 in
/-- The steps of the weights, read back. -/
theorem unpack_deltas : after hostOps1 W (Proc.devRef .tc main_v123) = un0 (W (Proc.devRef .tc main_v120_0))
    ∧ after hostOps1 W (Proc.devRef .tc main_v126) = un1 (W (Proc.devRef .tc main_v120_0))
    ∧ after hostOps1 W (Proc.devRef .tc main_v130) = un2 (W (Proc.devRef .tc main_v120_0))
    ∧ after hostOps1 W (Proc.devRef .tc main_v134) = un3 (W (Proc.devRef .tc main_v120_0))
    ∧ after hostOps1 W (Proc.devRef .tc main_v137) = un4 (W (Proc.devRef .tc main_v120_0))
    ∧ after hostOps1 W (Proc.devRef .tc main_v149) = un5 (W (Proc.devRef .tc main_v120_0))
    ∧ after hostOps1 W (Proc.devRef .tc main_v140) = un6 (W (Proc.devRef .tc main_v120_0))
    ∧ after hostOps1 W (Proc.devRef .tc main_v143) = un7 (W (Proc.devRef .tc main_v120_0))
    ∧ after hostOps1 W (Proc.devRef .tc main_v145) = un8 (W (Proc.devRef .tc main_v120_0)) := by
  refine ⟨?_, ?_, ?_, ?_, ?_, ?_, ?_, ?_, ?_⟩ <;> (after_reads_simp; rfl)

set_option maxHeartbeats 4000000 in
/-- The first moments, read back. -/
theorem unpack_firsts : after hostOps1 W (Proc.devRef .tc main_v152) = un0 (W (Proc.devRef .tc main_v120_1))
    ∧ after hostOps1 W (Proc.devRef .tc main_v155) = un1 (W (Proc.devRef .tc main_v120_1))
    ∧ after hostOps1 W (Proc.devRef .tc main_v159) = un2 (W (Proc.devRef .tc main_v120_1))
    ∧ after hostOps1 W (Proc.devRef .tc main_v163) = un3 (W (Proc.devRef .tc main_v120_1))
    ∧ after hostOps1 W (Proc.devRef .tc main_v166) = un4 (W (Proc.devRef .tc main_v120_1))
    ∧ after hostOps1 W (Proc.devRef .tc main_v178) = un5 (W (Proc.devRef .tc main_v120_1))
    ∧ after hostOps1 W (Proc.devRef .tc main_v169) = un6 (W (Proc.devRef .tc main_v120_1))
    ∧ after hostOps1 W (Proc.devRef .tc main_v172) = un7 (W (Proc.devRef .tc main_v120_1))
    ∧ after hostOps1 W (Proc.devRef .tc main_v174) = un8 (W (Proc.devRef .tc main_v120_1)) := by
  refine ⟨?_, ?_, ?_, ?_, ?_, ?_, ?_, ?_, ?_⟩ <;> (after_reads_simp; rfl)

set_option maxHeartbeats 4000000 in
/-- The second moments, read back. -/
theorem unpack_seconds : after hostOps1 W (Proc.devRef .tc main_v181) = un0 (W (Proc.devRef .tc main_v120_2))
    ∧ after hostOps1 W (Proc.devRef .tc main_v184) = un1 (W (Proc.devRef .tc main_v120_2))
    ∧ after hostOps1 W (Proc.devRef .tc main_v188) = un2 (W (Proc.devRef .tc main_v120_2))
    ∧ after hostOps1 W (Proc.devRef .tc main_v192) = un3 (W (Proc.devRef .tc main_v120_2))
    ∧ after hostOps1 W (Proc.devRef .tc main_v195) = un4 (W (Proc.devRef .tc main_v120_2))
    ∧ after hostOps1 W (Proc.devRef .tc main_v207) = un5 (W (Proc.devRef .tc main_v120_2))
    ∧ after hostOps1 W (Proc.devRef .tc main_v198) = un6 (W (Proc.devRef .tc main_v120_2))
    ∧ after hostOps1 W (Proc.devRef .tc main_v201) = un7 (W (Proc.devRef .tc main_v120_2))
    ∧ after hostOps1 W (Proc.devRef .tc main_v203) = un8 (W (Proc.devRef .tc main_v120_2)) := by
  refine ⟨?_, ?_, ?_, ?_, ?_, ?_, ?_, ?_, ?_⟩ <;> (after_reads_simp; rfl)

end Cert.Kernel25Ideal.Val

end
-- ==== Proof.AdamSmall.lean ====
module

public import proofs.«01_k».proof.Defs
public import proofs.«01_k».proof.Proof.SmallPack
public import proofs.«01_k».proof.Proof.SmallCall
public import proofs.«01_k».proof.Proof.SmallUnpack
public import proofs.«01_k».proof.Proof.Gen.Kernel25.Frame
public import proofs.«01_k».proof.Proof.Gen.Kernel25Ideal.Frame
public import proofs.«01_k».proof.Proof.Gen.Reference25Ideal.Run
public import Idealize.ShloMosaic.Lib.Claim

@[expose] public section

set_option maxRecDepth 16384

noncomputable section

/-! The optimiser's step on the nine small weights: packed into one array, stepped together and read back. -/

namespace Cert.Kernel25Ideal.Val

open Cert.Kernel25Ideal Cert.Kernel25Ideal.Gen Idealize.ShloMosaic Idealize.ShloMosaic.TcCoe Idealize.SL.Sem Cert.Update Cert.Packing

section
variable {s : Shape}

/-- The new first moment, of arrays of any shape. -/
def vfirst (m g : s.Idx → EReal) : s.Idx → EReal :=
  fun i => Ideal.ofBits FTy.f32 0x3F666666#32 * m i + Ideal.ofBits FTy.f32 0x3DCCCCCD#32 * g i

/-- The new second moment, of arrays of any shape. -/
def vsecond (v g : s.Idx → EReal) : s.Idx → EReal :=
  fun i => Ideal.ofBits FTy.f32 0x3F7FBE77#32 * v i + Ideal.ofBits FTy.f32 0x3A83126F#32 * (g i * g i)

/-- The step of the weight, of arrays of any shape. -/
def vdelta (w m v : s.Idx → EReal) : s.Idx → EReal :=
  fun i => Ideal.ofBits FTy.f32 0xBA83126F#32 * (Ideal.div (Ideal.div (m i) (Ideal.ofBits FTy.f32 0x3F26BD02#32))
    (Ideal.sqrt (Ideal.div (v i) (Ideal.ofBits FTy.f32 0x3C231ACC#32)) + Ideal.ofBits FTy.f32 0x322BCC77#32) + Ideal.ofBits FTy.f32 0x3C23D70A#32 * w i)

/-- An array read from the rows entry by entry. -/
def Reads (u : (S240x128.Idx → EReal) → s.Idx → EReal) : Prop := ∃ p : s.Idx → S240x128.Idx, ∀ a, u a = fun i => a (p i)

variable {u : (S240x128.Idx → EReal) → s.Idx → EReal} {W M V G : S240x128.Idx → EReal} {w m v g : s.Idx → EReal}

/-- The first moment of the packed arrays, read back. -/
theorem Reads.first (h : Reads u) (hm : u M = m) (hg : u G = g) : u (first M G) = vfirst m g := by
  obtain ⟨p, h⟩ := h
  subst hm hg
  simp only [h]
  rfl

/-- The second moment of the packed arrays, read back. -/
theorem Reads.second (h : Reads u) (hv : u V = v) (hg : u G = g) : u (second V G) = vsecond v g := by
  obtain ⟨p, h⟩ := h
  subst hv hg
  simp only [h]
  rfl

/-- The step of the packed weights, read back. -/
theorem Reads.delta (h : Reads u) (hw : u W = w) (hm : u M = m) (hv : u V = v) (hg : u G = g) :
    u (Update.delta W (Update.first M G) (Update.second V G)) = vdelta w (vfirst m g) (vsecond v g) := by
  obtain ⟨p, h⟩ := h
  subst hw hm hv hg
  simp only [h]
  rfl

end

variable (m : (ℓ : Loc nD τ sig) → Buf (Elt Ideal) ℓ) (c : Dev nD)

/-- What is read back is read entry by entry. -/
theorem reads : Reads un0 ∧ Reads un1 ∧ Reads un2 ∧ Reads un3 ∧ Reads un4 ∧ Reads un5 ∧ Reads un6 ∧ Reads un7 ∧ Reads un8 :=
  ⟨⟨_, fun _ => rfl⟩, ⟨_, fun _ => rfl⟩, ⟨_, fun _ => rfl⟩, ⟨_, fun _ => rfl⟩, ⟨_, fun _ => rfl⟩, ⟨_, fun _ => rfl⟩, ⟨_, fun _ => rfl⟩,
    ⟨_, fun _ => rfl⟩, ⟨_, fun _ => rfl⟩⟩

/-- What the buffers hold after the call. -/
abbrev A : Valuation τ sig (Elt Ideal) := Pipeline.withArrays (cfgs 0).spec c (V0 m c) fun w => (dats m 0 c).arrAt w (cfgs 0).N

/-- The step of the weights after the call. -/
theorem A_delta : A m c (Proc.devRef .tc main_v120_0) = GD m c :=
  (Pipeline.withArrays_arr (cfgs 0).spec (by decide) c (V0 m c) _ 4).trans (arr_delta m c)

/-- The first moment after the call. -/
theorem A_first : A m c (Proc.devRef .tc main_v120_1) = G1 m c :=
  (Pipeline.withArrays_arr (cfgs 0).spec (by decide) c (V0 m c) _ 5).trans (arr_first m c)

/-- The second moment after the call. -/
theorem A_second : A m c (Proc.devRef .tc main_v120_2) = G2 m c :=
  (Pipeline.withArrays_arr (cfgs 0).spec (by decide) c (V0 m c) _ 6).trans (arr_second m c)

/-- The packed arrays as the call finds them. -/
theorem V_packed : V m c main_v29 = pack fill (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    ∧ V m c main_v59 = pack fill (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
    ∧ V m c main_v89 = pack fill (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26))
    ∧ V m c main_v119 = pack fill (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) :=
  ⟨pack_weights _, pack_grads _, pack_firsts _, pack_seconds _⟩

/-- The small arrays number 0, read back from what the call finds. -/
theorem un0_V : un0 (V m c main_v29) = (m ((c : Thread nD τ).loc main_arg0)) ∧ un0 (V m c main_v59) = (m ((c : Thread nD τ).loc main_arg9))
    ∧ un0 (V m c main_v89) = (m ((c : Thread nD τ).loc main_arg18)) ∧ un0 (V m c main_v119) = (m ((c : Thread nD τ).loc main_arg27)) := by
  obtain ⟨hw, hg, hm, hv⟩ := V_packed m c
  exact ⟨(congrArg un0 hw).trans (un0_pack ..), (congrArg un0 hg).trans (un0_pack ..), (congrArg un0 hm).trans (un0_pack ..), (congrArg un0 hv).trans (un0_pack ..)⟩

/-- The small arrays number 1, read back from what the call finds. -/
theorem un1_V : un1 (V m c main_v29) = (m ((c : Thread nD τ).loc main_arg1)) ∧ un1 (V m c main_v59) = (m ((c : Thread nD τ).loc main_arg10))
    ∧ un1 (V m c main_v89) = (m ((c : Thread nD τ).loc main_arg19)) ∧ un1 (V m c main_v119) = (m ((c : Thread nD τ).loc main_arg28)) := by
  obtain ⟨hw, hg, hm, hv⟩ := V_packed m c
  exact ⟨(congrArg un1 hw).trans (un1_pack ..), (congrArg un1 hg).trans (un1_pack ..), (congrArg un1 hm).trans (un1_pack ..), (congrArg un1 hv).trans (un1_pack ..)⟩

/-- The small arrays number 2, read back from what the call finds. -/
theorem un2_V : un2 (V m c main_v29) = (m ((c : Thread nD τ).loc main_arg2)) ∧ un2 (V m c main_v59) = (m ((c : Thread nD τ).loc main_arg11))
    ∧ un2 (V m c main_v89) = (m ((c : Thread nD τ).loc main_arg20)) ∧ un2 (V m c main_v119) = (m ((c : Thread nD τ).loc main_arg29)) := by
  obtain ⟨hw, hg, hm, hv⟩ := V_packed m c
  exact ⟨(congrArg un2 hw).trans (un2_pack ..), (congrArg un2 hg).trans (un2_pack ..), (congrArg un2 hm).trans (un2_pack ..), (congrArg un2 hv).trans (un2_pack ..)⟩

/-- The small arrays number 3, read back from what the call finds. -/
theorem un3_V : un3 (V m c main_v29) = (m ((c : Thread nD τ).loc main_arg3)) ∧ un3 (V m c main_v59) = (m ((c : Thread nD τ).loc main_arg12))
    ∧ un3 (V m c main_v89) = (m ((c : Thread nD τ).loc main_arg21)) ∧ un3 (V m c main_v119) = (m ((c : Thread nD τ).loc main_arg30)) := by
  obtain ⟨hw, hg, hm, hv⟩ := V_packed m c
  exact ⟨(congrArg un3 hw).trans (un3_pack ..), (congrArg un3 hg).trans (un3_pack ..), (congrArg un3 hm).trans (un3_pack ..), (congrArg un3 hv).trans (un3_pack ..)⟩

/-- The small arrays number 4, read back from what the call finds. -/
theorem un4_V : un4 (V m c main_v29) = (m ((c : Thread nD τ).loc main_arg4)) ∧ un4 (V m c main_v59) = (m ((c : Thread nD τ).loc main_arg13))
    ∧ un4 (V m c main_v89) = (m ((c : Thread nD τ).loc main_arg22)) ∧ un4 (V m c main_v119) = (m ((c : Thread nD τ).loc main_arg31)) := by
  obtain ⟨hw, hg, hm, hv⟩ := V_packed m c
  exact ⟨(congrArg un4 hw).trans (un4_pack ..), (congrArg un4 hg).trans (un4_pack ..), (congrArg un4 hm).trans (un4_pack ..), (congrArg un4 hv).trans (un4_pack ..)⟩

/-- The small arrays number 5, read back from what the call finds. -/
theorem un5_V : un5 (V m c main_v29) = (m ((c : Thread nD τ).loc main_arg5)) ∧ un5 (V m c main_v59) = (m ((c : Thread nD τ).loc main_arg14))
    ∧ un5 (V m c main_v89) = (m ((c : Thread nD τ).loc main_arg23)) ∧ un5 (V m c main_v119) = (m ((c : Thread nD τ).loc main_arg32)) := by
  obtain ⟨hw, hg, hm, hv⟩ := V_packed m c
  exact ⟨(congrArg un5 hw).trans (un5_pack ..), (congrArg un5 hg).trans (un5_pack ..), (congrArg un5 hm).trans (un5_pack ..), (congrArg un5 hv).trans (un5_pack ..)⟩

/-- The small arrays number 6, read back from what the call finds. -/
theorem un6_V : un6 (V m c main_v29) = (m ((c : Thread nD τ).loc main_arg6)) ∧ un6 (V m c main_v59) = (m ((c : Thread nD τ).loc main_arg15))
    ∧ un6 (V m c main_v89) = (m ((c : Thread nD τ).loc main_arg24)) ∧ un6 (V m c main_v119) = (m ((c : Thread nD τ).loc main_arg33)) := by
  obtain ⟨hw, hg, hm, hv⟩ := V_packed m c
  exact ⟨(congrArg un6 hw).trans (un6_pack ..), (congrArg un6 hg).trans (un6_pack ..), (congrArg un6 hm).trans (un6_pack ..), (congrArg un6 hv).trans (un6_pack ..)⟩

/-- The small arrays number 7, read back from what the call finds. -/
theorem un7_V : un7 (V m c main_v29) = (m ((c : Thread nD τ).loc main_arg7)) ∧ un7 (V m c main_v59) = (m ((c : Thread nD τ).loc main_arg16))
    ∧ un7 (V m c main_v89) = (m ((c : Thread nD τ).loc main_arg25)) ∧ un7 (V m c main_v119) = (m ((c : Thread nD τ).loc main_arg34)) := by
  obtain ⟨hw, hg, hm, hv⟩ := V_packed m c
  exact ⟨(congrArg un7 hw).trans (un7_pack ..), (congrArg un7 hg).trans (un7_pack ..), (congrArg un7 hm).trans (un7_pack ..), (congrArg un7 hv).trans (un7_pack ..)⟩

/-- The small arrays number 8, read back from what the call finds. -/
theorem un8_V : un8 (V m c main_v29) = (m ((c : Thread nD τ).loc main_arg8)) ∧ un8 (V m c main_v59) = (m ((c : Thread nD τ).loc main_arg17))
    ∧ un8 (V m c main_v89) = (m ((c : Thread nD τ).loc main_arg26)) ∧ un8 (V m c main_v119) = (m ((c : Thread nD τ).loc main_arg35)) := by
  obtain ⟨hw, hg, hm, hv⟩ := V_packed m c
  exact ⟨(congrArg un8 hw).trans (un8_pack ..), (congrArg un8 hg).trans (un8_pack ..), (congrArg un8 hm).trans (un8_pack ..), (congrArg un8 hv).trans (un8_pack ..)⟩

set_option maxHeartbeats 2000000 in
/-- The steps of the weights. -/
theorem out_deltas : Pipeline.afterTail₀ cfgs (dats m) 0 (V0 m) [hostOps1] c main_v123 = vdelta (m ((c : Thread nD τ).loc main_arg0)) (vfirst (m ((c : Thread nD τ).loc main_arg18)) (m ((c : Thread nD τ).loc main_arg9))) (vsecond (m ((c : Thread nD τ).loc main_arg27)) (m ((c : Thread nD τ).loc main_arg9)))
    ∧ Pipeline.afterTail₀ cfgs (dats m) 0 (V0 m) [hostOps1] c main_v126 = vdelta (m ((c : Thread nD τ).loc main_arg1)) (vfirst (m ((c : Thread nD τ).loc main_arg19)) (m ((c : Thread nD τ).loc main_arg10))) (vsecond (m ((c : Thread nD τ).loc main_arg28)) (m ((c : Thread nD τ).loc main_arg10)))
    ∧ Pipeline.afterTail₀ cfgs (dats m) 0 (V0 m) [hostOps1] c main_v130 = vdelta (m ((c : Thread nD τ).loc main_arg2)) (vfirst (m ((c : Thread nD τ).loc main_arg20)) (m ((c : Thread nD τ).loc main_arg11))) (vsecond (m ((c : Thread nD τ).loc main_arg29)) (m ((c : Thread nD τ).loc main_arg11)))
    ∧ Pipeline.afterTail₀ cfgs (dats m) 0 (V0 m) [hostOps1] c main_v134 = vdelta (m ((c : Thread nD τ).loc main_arg3)) (vfirst (m ((c : Thread nD τ).loc main_arg21)) (m ((c : Thread nD τ).loc main_arg12))) (vsecond (m ((c : Thread nD τ).loc main_arg30)) (m ((c : Thread nD τ).loc main_arg12)))
    ∧ Pipeline.afterTail₀ cfgs (dats m) 0 (V0 m) [hostOps1] c main_v137 = vdelta (m ((c : Thread nD τ).loc main_arg4)) (vfirst (m ((c : Thread nD τ).loc main_arg22)) (m ((c : Thread nD τ).loc main_arg13))) (vsecond (m ((c : Thread nD τ).loc main_arg31)) (m ((c : Thread nD τ).loc main_arg13)))
    ∧ Pipeline.afterTail₀ cfgs (dats m) 0 (V0 m) [hostOps1] c main_v149 = vdelta (m ((c : Thread nD τ).loc main_arg5)) (vfirst (m ((c : Thread nD τ).loc main_arg23)) (m ((c : Thread nD τ).loc main_arg14))) (vsecond (m ((c : Thread nD τ).loc main_arg32)) (m ((c : Thread nD τ).loc main_arg14)))
    ∧ Pipeline.afterTail₀ cfgs (dats m) 0 (V0 m) [hostOps1] c main_v140 = vdelta (m ((c : Thread nD τ).loc main_arg6)) (vfirst (m ((c : Thread nD τ).loc main_arg24)) (m ((c : Thread nD τ).loc main_arg15))) (vsecond (m ((c : Thread nD τ).loc main_arg33)) (m ((c : Thread nD τ).loc main_arg15)))
    ∧ Pipeline.afterTail₀ cfgs (dats m) 0 (V0 m) [hostOps1] c main_v143 = vdelta (m ((c : Thread nD τ).loc main_arg7)) (vfirst (m ((c : Thread nD τ).loc main_arg25)) (m ((c : Thread nD τ).loc main_arg16))) (vsecond (m ((c : Thread nD τ).loc main_arg34)) (m ((c : Thread nD τ).loc main_arg16)))
    ∧ Pipeline.afterTail₀ cfgs (dats m) 0 (V0 m) [hostOps1] c main_v145 = vdelta (m ((c : Thread nD τ).loc main_arg8)) (vfirst (m ((c : Thread nD τ).loc main_arg26)) (m ((c : Thread nD τ).loc main_arg17))) (vsecond (m ((c : Thread nD τ).loc main_arg35)) (m ((c : Thread nD τ).loc main_arg17))) := by
  obtain ⟨h0, h1, h2, h3, h4, h5, h6, h7, h8⟩ := unpack_deltas (A m c)
  obtain ⟨r0, r1, r2, r3, r4, r5, r6, r7, r8⟩ := reads
  exact ⟨(h0.trans ((congrArg un0 (A_delta m c)).trans (r0.delta (un0_V m c).1 (un0_V m c).2.2.1 (un0_V m c).2.2.2 (un0_V m c).2.1))),
    (h1.trans ((congrArg un1 (A_delta m c)).trans (r1.delta (un1_V m c).1 (un1_V m c).2.2.1 (un1_V m c).2.2.2 (un1_V m c).2.1))),
    (h2.trans ((congrArg un2 (A_delta m c)).trans (r2.delta (un2_V m c).1 (un2_V m c).2.2.1 (un2_V m c).2.2.2 (un2_V m c).2.1))),
    (h3.trans ((congrArg un3 (A_delta m c)).trans (r3.delta (un3_V m c).1 (un3_V m c).2.2.1 (un3_V m c).2.2.2 (un3_V m c).2.1))),
    (h4.trans ((congrArg un4 (A_delta m c)).trans (r4.delta (un4_V m c).1 (un4_V m c).2.2.1 (un4_V m c).2.2.2 (un4_V m c).2.1))),
    (h5.trans ((congrArg un5 (A_delta m c)).trans (r5.delta (un5_V m c).1 (un5_V m c).2.2.1 (un5_V m c).2.2.2 (un5_V m c).2.1))),
    (h6.trans ((congrArg un6 (A_delta m c)).trans (r6.delta (un6_V m c).1 (un6_V m c).2.2.1 (un6_V m c).2.2.2 (un6_V m c).2.1))),
    (h7.trans ((congrArg un7 (A_delta m c)).trans (r7.delta (un7_V m c).1 (un7_V m c).2.2.1 (un7_V m c).2.2.2 (un7_V m c).2.1))),
    (h8.trans ((congrArg un8 (A_delta m c)).trans (r8.delta (un8_V m c).1 (un8_V m c).2.2.1 (un8_V m c).2.2.2 (un8_V m c).2.1)))⟩

set_option maxHeartbeats 2000000 in
/-- The new first moments. -/
theorem out_firsts : Pipeline.afterTail₀ cfgs (dats m) 0 (V0 m) [hostOps1] c main_v152 = vfirst (m ((c : Thread nD τ).loc main_arg18)) (m ((c : Thread nD τ).loc main_arg9))
    ∧ Pipeline.afterTail₀ cfgs (dats m) 0 (V0 m) [hostOps1] c main_v155 = vfirst (m ((c : Thread nD τ).loc main_arg19)) (m ((c : Thread nD τ).loc main_arg10))
    ∧ Pipeline.afterTail₀ cfgs (dats m) 0 (V0 m) [hostOps1] c main_v159 = vfirst (m ((c : Thread nD τ).loc main_arg20)) (m ((c : Thread nD τ).loc main_arg11))
    ∧ Pipeline.afterTail₀ cfgs (dats m) 0 (V0 m) [hostOps1] c main_v163 = vfirst (m ((c : Thread nD τ).loc main_arg21)) (m ((c : Thread nD τ).loc main_arg12))
    ∧ Pipeline.afterTail₀ cfgs (dats m) 0 (V0 m) [hostOps1] c main_v166 = vfirst (m ((c : Thread nD τ).loc main_arg22)) (m ((c : Thread nD τ).loc main_arg13))
    ∧ Pipeline.afterTail₀ cfgs (dats m) 0 (V0 m) [hostOps1] c main_v178 = vfirst (m ((c : Thread nD τ).loc main_arg23)) (m ((c : Thread nD τ).loc main_arg14))
    ∧ Pipeline.afterTail₀ cfgs (dats m) 0 (V0 m) [hostOps1] c main_v169 = vfirst (m ((c : Thread nD τ).loc main_arg24)) (m ((c : Thread nD τ).loc main_arg15))
    ∧ Pipeline.afterTail₀ cfgs (dats m) 0 (V0 m) [hostOps1] c main_v172 = vfirst (m ((c : Thread nD τ).loc main_arg25)) (m ((c : Thread nD τ).loc main_arg16))
    ∧ Pipeline.afterTail₀ cfgs (dats m) 0 (V0 m) [hostOps1] c main_v174 = vfirst (m ((c : Thread nD τ).loc main_arg26)) (m ((c : Thread nD τ).loc main_arg17)) := by
  obtain ⟨h0, h1, h2, h3, h4, h5, h6, h7, h8⟩ := unpack_firsts (A m c)
  obtain ⟨r0, r1, r2, r3, r4, r5, r6, r7, r8⟩ := reads
  exact ⟨(h0.trans ((congrArg un0 (A_first m c)).trans (r0.first (un0_V m c).2.2.1 (un0_V m c).2.1))),
    (h1.trans ((congrArg un1 (A_first m c)).trans (r1.first (un1_V m c).2.2.1 (un1_V m c).2.1))),
    (h2.trans ((congrArg un2 (A_first m c)).trans (r2.first (un2_V m c).2.2.1 (un2_V m c).2.1))),
    (h3.trans ((congrArg un3 (A_first m c)).trans (r3.first (un3_V m c).2.2.1 (un3_V m c).2.1))),
    (h4.trans ((congrArg un4 (A_first m c)).trans (r4.first (un4_V m c).2.2.1 (un4_V m c).2.1))),
    (h5.trans ((congrArg un5 (A_first m c)).trans (r5.first (un5_V m c).2.2.1 (un5_V m c).2.1))),
    (h6.trans ((congrArg un6 (A_first m c)).trans (r6.first (un6_V m c).2.2.1 (un6_V m c).2.1))),
    (h7.trans ((congrArg un7 (A_first m c)).trans (r7.first (un7_V m c).2.2.1 (un7_V m c).2.1))),
    (h8.trans ((congrArg un8 (A_first m c)).trans (r8.first (un8_V m c).2.2.1 (un8_V m c).2.1)))⟩

set_option maxHeartbeats 2000000 in
/-- The new second moments. -/
theorem out_seconds : Pipeline.afterTail₀ cfgs (dats m) 0 (V0 m) [hostOps1] c main_v181 = vsecond (m ((c : Thread nD τ).loc main_arg27)) (m ((c : Thread nD τ).loc main_arg9))
    ∧ Pipeline.afterTail₀ cfgs (dats m) 0 (V0 m) [hostOps1] c main_v184 = vsecond (m ((c : Thread nD τ).loc main_arg28)) (m ((c : Thread nD τ).loc main_arg10))
    ∧ Pipeline.afterTail₀ cfgs (dats m) 0 (V0 m) [hostOps1] c main_v188 = vsecond (m ((c : Thread nD τ).loc main_arg29)) (m ((c : Thread nD τ).loc main_arg11))
    ∧ Pipeline.afterTail₀ cfgs (dats m) 0 (V0 m) [hostOps1] c main_v192 = vsecond (m ((c : Thread nD τ).loc main_arg30)) (m ((c : Thread nD τ).loc main_arg12))
    ∧ Pipeline.afterTail₀ cfgs (dats m) 0 (V0 m) [hostOps1] c main_v195 = vsecond (m ((c : Thread nD τ).loc main_arg31)) (m ((c : Thread nD τ).loc main_arg13))
    ∧ Pipeline.afterTail₀ cfgs (dats m) 0 (V0 m) [hostOps1] c main_v207 = vsecond (m ((c : Thread nD τ).loc main_arg32)) (m ((c : Thread nD τ).loc main_arg14))
    ∧ Pipeline.afterTail₀ cfgs (dats m) 0 (V0 m) [hostOps1] c main_v198 = vsecond (m ((c : Thread nD τ).loc main_arg33)) (m ((c : Thread nD τ).loc main_arg15))
    ∧ Pipeline.afterTail₀ cfgs (dats m) 0 (V0 m) [hostOps1] c main_v201 = vsecond (m ((c : Thread nD τ).loc main_arg34)) (m ((c : Thread nD τ).loc main_arg16))
    ∧ Pipeline.afterTail₀ cfgs (dats m) 0 (V0 m) [hostOps1] c main_v203 = vsecond (m ((c : Thread nD τ).loc main_arg35)) (m ((c : Thread nD τ).loc main_arg17)) := by
  obtain ⟨h0, h1, h2, h3, h4, h5, h6, h7, h8⟩ := unpack_seconds (A m c)
  obtain ⟨r0, r1, r2, r3, r4, r5, r6, r7, r8⟩ := reads
  exact ⟨(h0.trans ((congrArg un0 (A_second m c)).trans (r0.second (un0_V m c).2.2.2 (un0_V m c).2.1))),
    (h1.trans ((congrArg un1 (A_second m c)).trans (r1.second (un1_V m c).2.2.2 (un1_V m c).2.1))),
    (h2.trans ((congrArg un2 (A_second m c)).trans (r2.second (un2_V m c).2.2.2 (un2_V m c).2.1))),
    (h3.trans ((congrArg un3 (A_second m c)).trans (r3.second (un3_V m c).2.2.2 (un3_V m c).2.1))),
    (h4.trans ((congrArg un4 (A_second m c)).trans (r4.second (un4_V m c).2.2.2 (un4_V m c).2.1))),
    (h5.trans ((congrArg un5 (A_second m c)).trans (r5.second (un5_V m c).2.2.2 (un5_V m c).2.1))),
    (h6.trans ((congrArg un6 (A_second m c)).trans (r6.second (un6_V m c).2.2.2 (un6_V m c).2.1))),
    (h7.trans ((congrArg un7 (A_second m c)).trans (r7.second (un7_V m c).2.2.2 (un7_V m c).2.1))),
    (h8.trans ((congrArg un8 (A_second m c)).trans (r8.second (un8_V m c).2.2.2 (un8_V m c).2.1)))⟩

/-- The kernel runs, keeps its arguments and leaves no counter. -/
theorem frame_kernel : Cert.quiescent_Kernel25 := fun m g _ => Cert.Kernel25.Gen.frame m g

/-- The same over the extended reals. -/
theorem frame_ideal : Cert.quiescent_Kernel25Ideal := fun m g _ => Cert.Kernel25Ideal.Gen.frame m g

/-- The reference runs, keeps its arguments and leaves no counter. -/
theorem frame_reference : Cert.quiescent_Reference25Ideal :=
  fun m g _ => (θ_run Cert.Reference25Ideal.defs _ _).mono
    (fun r h => ⟨fun c => (h c).2.2.2.2.2.2.2.2.2.2.2.2.2.2.2.2.2.2.2.2.2.2.2.2.2.2.2, sem_eq_zero_of_no_sems (by decide) r.2⟩)
    (Cert.Reference25Ideal.Value.run (F := Ideal) m g)

/-- Over the extended reals the kernel and the reference end with the same arrays. -/
theorem algebraic : Cert.algebraic_Kernel25Ideal_Reference25Ideal := by
  intro m g m' g' _ hargs
  refine ⟨fun c => vdelta (m ((c : Thread nD τ).loc main_arg0)) (vfirst (m ((c : Thread nD τ).loc main_arg18)) (m ((c : Thread nD τ).loc main_arg9))) (vsecond (m ((c : Thread nD τ).loc main_arg27)) (m ((c : Thread nD τ).loc main_arg9))), fun c => vdelta (m ((c : Thread nD τ).loc main_arg1)) (vfirst (m ((c : Thread nD τ).loc main_arg19)) (m ((c : Thread nD τ).loc main_arg10))) (vsecond (m ((c : Thread nD τ).loc main_arg28)) (m ((c : Thread nD τ).loc main_arg10))), fun c => vdelta (m ((c : Thread nD τ).loc main_arg2)) (vfirst (m ((c : Thread nD τ).loc main_arg20)) (m ((c : Thread nD τ).loc main_arg11))) (vsecond (m ((c : Thread nD τ).loc main_arg29)) (m ((c : Thread nD τ).loc main_arg11))), fun c => vdelta (m ((c : Thread nD τ).loc main_arg3)) (vfirst (m ((c : Thread nD τ).loc main_arg21)) (m ((c : Thread nD τ).loc main_arg12))) (vsecond (m ((c : Thread nD τ).loc main_arg30)) (m ((c : Thread nD τ).loc main_arg12))), fun c => vdelta (m ((c : Thread nD τ).loc main_arg4)) (vfirst (m ((c : Thread nD τ).loc main_arg22)) (m ((c : Thread nD τ).loc main_arg13))) (vsecond (m ((c : Thread nD τ).loc main_arg31)) (m ((c : Thread nD τ).loc main_arg13))), fun c => vdelta (m ((c : Thread nD τ).loc main_arg5)) (vfirst (m ((c : Thread nD τ).loc main_arg23)) (m ((c : Thread nD τ).loc main_arg14))) (vsecond (m ((c : Thread nD τ).loc main_arg32)) (m ((c : Thread nD τ).loc main_arg14))), fun c => vdelta (m ((c : Thread nD τ).loc main_arg6)) (vfirst (m ((c : Thread nD τ).loc main_arg24)) (m ((c : Thread nD τ).loc main_arg15))) (vsecond (m ((c : Thread nD τ).loc main_arg33)) (m ((c : Thread nD τ).loc main_arg15))), fun c => vdelta (m ((c : Thread nD τ).loc main_arg7)) (vfirst (m ((c : Thread nD τ).loc main_arg25)) (m ((c : Thread nD τ).loc main_arg16))) (vsecond (m ((c : Thread nD τ).loc main_arg34)) (m ((c : Thread nD τ).loc main_arg16))), fun c => vdelta (m ((c : Thread nD τ).loc main_arg8)) (vfirst (m ((c : Thread nD τ).loc main_arg26)) (m ((c : Thread nD τ).loc main_arg17))) (vsecond (m ((c : Thread nD τ).loc main_arg35)) (m ((c : Thread nD τ).loc main_arg17))), fun c => vfirst (m ((c : Thread nD τ).loc main_arg18)) (m ((c : Thread nD τ).loc main_arg9)), fun c => vfirst (m ((c : Thread nD τ).loc main_arg19)) (m ((c : Thread nD τ).loc main_arg10)), fun c => vfirst (m ((c : Thread nD τ).loc main_arg20)) (m ((c : Thread nD τ).loc main_arg11)), fun c => vfirst (m ((c : Thread nD τ).loc main_arg21)) (m ((c : Thread nD τ).loc main_arg12)), fun c => vfirst (m ((c : Thread nD τ).loc main_arg22)) (m ((c : Thread nD τ).loc main_arg13)), fun c => vfirst (m ((c : Thread nD τ).loc main_arg23)) (m ((c : Thread nD τ).loc main_arg14)), fun c => vfirst (m ((c : Thread nD τ).loc main_arg24)) (m ((c : Thread nD τ).loc main_arg15)), fun c => vfirst (m ((c : Thread nD τ).loc main_arg25)) (m ((c : Thread nD τ).loc main_arg16)), fun c => vfirst (m ((c : Thread nD τ).loc main_arg26)) (m ((c : Thread nD τ).loc main_arg17)), fun c => vsecond (m ((c : Thread nD τ).loc main_arg27)) (m ((c : Thread nD τ).loc main_arg9)), fun c => vsecond (m ((c : Thread nD τ).loc main_arg28)) (m ((c : Thread nD τ).loc main_arg10)), fun c => vsecond (m ((c : Thread nD τ).loc main_arg29)) (m ((c : Thread nD τ).loc main_arg11)), fun c => vsecond (m ((c : Thread nD τ).loc main_arg30)) (m ((c : Thread nD τ).loc main_arg12)), fun c => vsecond (m ((c : Thread nD τ).loc main_arg31)) (m ((c : Thread nD τ).loc main_arg13)), fun c => vsecond (m ((c : Thread nD τ).loc main_arg32)) (m ((c : Thread nD τ).loc main_arg14)), fun c => vsecond (m ((c : Thread nD τ).loc main_arg33)) (m ((c : Thread nD τ).loc main_arg15)), fun c => vsecond (m ((c : Thread nD τ).loc main_arg34)) (m ((c : Thread nD τ).loc main_arg16)), fun c => vsecond (m ((c : Thread nD τ).loc main_arg35)) (m ((c : Thread nD τ).loc main_arg17)), ?_, ?_⟩
  · refine (θ_run defs _ _).mono (fun r h c => ?_) (θ_run_and (run_main (F := Ideal) m g) (unchanged (F := Ideal) m g))
    have k : ∀ b ∈ Pipeline.restRefs sig (cfgs 0).spec, r.2.mem ((c : Thread nD τ).loc b) = Pipeline.afterTail₀ cfgs (dats m) 0 (V0 m) [hostOps1] c b :=
      (h.1 c).2
    obtain ⟨d0, d1, d2, d3, d4, d5, d6, d7, d8⟩ := out_deltas m c
    obtain ⟨f0, f1, f2, f3, f4, f5, f6, f7, f8⟩ := out_firsts m c
    obtain ⟨s0, s1, s2, s3, s4, s5, s6, s7, s8⟩ := out_seconds m c
    exact ⟨(k main_v123 (Pipeline.mem_restRefs_of main_v123 (by decide) (by decide))).trans d0,
      (k main_v126 (Pipeline.mem_restRefs_of main_v126 (by decide) (by decide))).trans d1,
      (k main_v130 (Pipeline.mem_restRefs_of main_v130 (by decide) (by decide))).trans d2,
      (k main_v134 (Pipeline.mem_restRefs_of main_v134 (by decide) (by decide))).trans d3,
      (k main_v137 (Pipeline.mem_restRefs_of main_v137 (by decide) (by decide))).trans d4,
      (k main_v149 (Pipeline.mem_restRefs_of main_v149 (by decide) (by decide))).trans d5,
      (k main_v140 (Pipeline.mem_restRefs_of main_v140 (by decide) (by decide))).trans d6,
      (k main_v143 (Pipeline.mem_restRefs_of main_v143 (by decide) (by decide))).trans d7,
      (k main_v145 (Pipeline.mem_restRefs_of main_v145 (by decide) (by decide))).trans d8,
      (k main_v152 (Pipeline.mem_restRefs_of main_v152 (by decide) (by decide))).trans f0,
      (k main_v155 (Pipeline.mem_restRefs_of main_v155 (by decide) (by decide))).trans f1,
      (k main_v159 (Pipeline.mem_restRefs_of main_v159 (by decide) (by decide))).trans f2,
      (k main_v163 (Pipeline.mem_restRefs_of main_v163 (by decide) (by decide))).trans f3,
      (k main_v166 (Pipeline.mem_restRefs_of main_v166 (by decide) (by decide))).trans f4,
      (k main_v178 (Pipeline.mem_restRefs_of main_v178 (by decide) (by decide))).trans f5,
      (k main_v169 (Pipeline.mem_restRefs_of main_v169 (by decide) (by decide))).trans f6,
      (k main_v172 (Pipeline.mem_restRefs_of main_v172 (by decide) (by decide))).trans f7,
      (k main_v174 (Pipeline.mem_restRefs_of main_v174 (by decide) (by decide))).trans f8,
      (k main_v181 (Pipeline.mem_restRefs_of main_v181 (by decide) (by decide))).trans s0,
      (k main_v184 (Pipeline.mem_restRefs_of main_v184 (by decide) (by decide))).trans s1,
      (k main_v188 (Pipeline.mem_restRefs_of main_v188 (by decide) (by decide))).trans s2,
      (k main_v192 (Pipeline.mem_restRefs_of main_v192 (by decide) (by decide))).trans s3,
      (k main_v195 (Pipeline.mem_restRefs_of main_v195 (by decide) (by decide))).trans s4,
      (k main_v207 (Pipeline.mem_restRefs_of main_v207 (by decide) (by decide))).trans s5,
      (k main_v198 (Pipeline.mem_restRefs_of main_v198 (by decide) (by decide))).trans s6,
      (k main_v201 (Pipeline.mem_restRefs_of main_v201 (by decide) (by decide))).trans s7,
      (k main_v203 (Pipeline.mem_restRefs_of main_v203 (by decide) (by decide))).trans s8,
      h.2 c⟩
  · refine (θ_run Cert.Reference25Ideal.defs _ _).mono (fun r h c => ?_) (Cert.Reference25Ideal.Value.run (F := Ideal) m' g')
    obtain ⟨r0, r1, r2, r3, r4, r5, r6, r7, r8, r9, r10, r11, r12, r13, r14, r15, r16, r17, r18, r19, r20, r21, r22, r23, r24, r25, r26, rest⟩ := h c
    obtain ⟨a0, a1, a2, a3, a4, a5, a6, a7, a8, a9, a10, a11, a12, a13, a14, a15, a16, a17, a18, a19, a20, a21, a22, a23, a24, a25, a26, a27, a28, a29, a30, a31, a32, a33, a34, a35⟩ := hargs c
    refine ⟨r0.trans ?_, r1.trans ?_, r2.trans ?_, r3.trans ?_, r4.trans ?_, r5.trans ?_, r6.trans ?_, r7.trans ?_, r8.trans ?_, r9.trans ?_, r10.trans ?_, r11.trans ?_, r12.trans ?_, r13.trans ?_, r14.trans ?_, r15.trans ?_, r16.trans ?_, r17.trans ?_, r18.trans ?_, r19.trans ?_, r20.trans ?_, r21.trans ?_, r22.trans ?_, r23.trans ?_, r24.trans ?_, r25.trans ?_, r26.trans ?_, rest⟩
    all_goals
      simp only [← a0, ← a1, ← a2, ← a3, ← a4, ← a5, ← a6, ← a7, ← a8, ← a9, ← a10, ← a11, ← a12, ← a13, ← a14, ← a15, ← a16, ← a17, ← a18, ← a19, ← a20, ← a21, ← a22, ← a23, ← a24, ← a25, ← a26, ← a27, ← a28, ← a29, ← a30, ← a31, ← a32, ← a33, ← a34, ← a35]
      funext j
      pointwise [vdelta, vfirst, vsecond]

end Cert.Kernel25Ideal.Val

end
-- ==== Proof.lean ====
module

public import proofs.«01_k».proof.Defs
public import proofs.«01_k».proof.Proof.Bits.Body
public import proofs.«01_k».proof.Proof.Pre
public import proofs.«01_k».proof.Proof.RefVal
public import proofs.«01_k».proof.Proof.Gen.ReferenceIdeal.Run
public import proofs.«01_k».proof.Proof.DWUp
public import proofs.«01_k».proof.Proof.DNormFfnOut
public import proofs.«01_k».proof.Proof.DWIn
public import proofs.«01_k».proof.Proof.DNormMixOut
public import proofs.«01_k».proof.Proof.DWDown
public import proofs.«01_k».proof.Proof.DFfnAct
public import proofs.«01_k».proof.Proof.DWOut
public import proofs.«01_k».proof.Proof.DMixOut
public import proofs.«01_k».proof.Proof.DWPleGate
public import proofs.«01_k».proof.Proof.DNormPleOut
public import proofs.«01_k».proof.Proof.DWPleProj
public import proofs.«01_k».proof.Proof.UpProj
public import proofs.«01_k».proof.Proof.DownProj
public import proofs.«01_k».proof.Proof.InProj
public import proofs.«01_k».proof.Proof.OutProj
public import proofs.«01_k».proof.Proof.PleGate
public import proofs.«01_k».proof.Proof.PleProj
public import proofs.«01_k».proof.Proof.AdamWIn
public import proofs.«01_k».proof.Proof.AdamWOut
public import proofs.«01_k».proof.Proof.AdamWUp
public import proofs.«01_k».proof.Proof.AdamWDown
public import proofs.«01_k».proof.Proof.AdamWPleGate
public import proofs.«01_k».proof.Proof.AdamWPleProj
public import proofs.«01_k».proof.Proof.AdamSmall
public import Idealize.ShloMosaic.Adequacy
public import Idealize.ShloMosaic.Init

@[expose] public section

noncomputable section

namespace Cert.Proof

open Idealize.ShloMosaic Idealize.SL.Sem

/-- The shape relations of the precondition's text. -/
theorem factsPre : Cert.Pre_finite_scores.Facts := ⟨by decide, by decide, by decide⟩

/-- The kernel as printed runs, keeps its arguments and leaves no counter. -/
theorem frame_kernel : Cert.quiescent_Kernel (hKernel := Cert.Kernel.Gen.facts) :=
  fun m g _ => Cert.Kernel.Att.frame (F := Bits) m g

/-- The same over the extended reals. -/
theorem frame_ideal : Cert.quiescent_KernelIdeal (hKernelIdeal := Cert.KernelIdeal.Gen.facts) :=
  fun m g _ => Cert.KernelIdeal.Att.frame (F := Ideal) m g

/-- The same where the precondition holds. -/
theorem frame_ideal_pre : Cert.quiescent_KernelIdeal_pre_finite_scores (hKernelIdeal := Cert.KernelIdeal.Gen.facts) (hPre_finite_scores := factsPre) :=
  fun m g _ => Cert.KernelIdeal.Att.frame (F := Ideal) m g

/-- The reference runs, keeps its arguments and leaves no counter. -/
theorem frame_reference : Cert.quiescent_ReferenceIdeal (hReferenceIdeal := Cert.ReferenceIdeal.Gen.facts) :=
  fun m g _ => (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- The same where the precondition holds. -/
theorem frame_reference_pre : Cert.quiescent_ReferenceIdeal_pre_finite_scores (hReferenceIdeal := Cert.ReferenceIdeal.Gen.facts) (hPre_finite_scores := factsPre) :=
  fun m g _ => frame_reference m g trivial

/-- The mask's constant stands for minus infinity. -/
theorem preserves : Cert.preserves_Kernel_KernelIdeal :=
  IdealRules.named_const.statement Cert.KernelIdeal.κ "masked" .f32 0xF149F2CA#32 ⊥ rfl

section
open Cert.KernelIdeal.Att
variable (m : (ℓ : Loc Cert.KernelIdeal.nD Cert.KernelIdeal.τ Cert.KernelIdeal.sig) → Buf (Elt Ideal) ℓ) (c : Dev Cert.KernelIdeal.nD)

/-- The reference's first result is the projections' gradient. -/
theorem G0_eq : Cert.ReferenceIdeal.Stage.out0 (X m c) (B m c) (Y m c) (m ((c.tc : Thread Cert.KernelIdeal.nD Cert.KernelIdeal.τ).loc Cert.KernelIdeal.main_arg3)) = G0 m c := by
  funext j
  idx_vars j
  exact Cert.ReferenceIdeal.Stage.out0_apply _ _ _ _ _ _

/-- The reference's second result is the keys' gradient. -/
theorem G1_eq : Cert.ReferenceIdeal.Stage.out1 (X m c) (B m c) (Y m c) = G1 m c := by
  funext j
  idx_vars j
  exact Cert.ReferenceIdeal.Stage.out1_apply _ _ _ _ _

/-- The reference's third result is the values' gradient. -/
theorem G2_eq : Cert.ReferenceIdeal.Stage.out2 (X m c) (B m c) (Y m c) = G2 m c := by
  funext j
  idx_vars j
  exact Cert.ReferenceIdeal.Stage.out2_apply _ _ _ _ _

end

open Cert.KernelIdeal.Att in
/-- Over the extended reals the kernel and the reference end with the same three gradients. -/
theorem algebraic : Cert.algebraic_KernelIdeal_ReferenceIdeal_pre_finite_scores (hKernelIdeal := Cert.KernelIdeal.Gen.facts) (hReferenceIdeal := Cert.ReferenceIdeal.Gen.facts) (hPre_finite_scores := factsPre) := by
  intro m g m' g' hpre hargs
  haveI := factsPre
  have hf : ∀ c, Fin' m c := fun c => fin_of_pre m c (hpre c).1 (hpre c).2
  refine ⟨fun c => G0 m c, fun c => G1 m c, fun c => G2 m c, ?_, ?_⟩
  · exact (θ_run Cert.KernelIdeal.defs _ _).mono (fun r h c => ⟨(h.1 c).1, (h.1 c).2.1, (h.1 c).2.2, h.2 c⟩) (θ_run_and (value m g hf) (unchanged (F := Ideal) m g))
  · refine (θ_run Cert.ReferenceIdeal.defs _ _).mono (fun r h c => ?_) (Cert.ReferenceIdeal.Value.run (F := Ideal) m' g')
    obtain ⟨a0, a1, a2, a3⟩ := hargs c
    obtain ⟨r0, r1, r2, rest⟩ := h c
    refine ⟨r0.trans ((Cert.ReferenceIdeal.Stage.res0 m' c).trans ?_), r1.trans ((Cert.ReferenceIdeal.Stage.res1 m' c).trans ?_), r2.trans ((Cert.ReferenceIdeal.Stage.res2 m' c).trans ?_), rest⟩
    · rw [a0, a1, a2, a3]; exact G0_eq m c
    · rw [a0, a1, a2]; exact G1_eq m c
    · rw [a0, a1, a2]; exact G2_eq m c

/-- Every claim of the certificate: the attention's backward call, then the seventeen products, then the optimiser's seven calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  factsPre, frame_kernel, frame_ideal, frame_ideal_pre, frame_reference, frame_reference_pre,
  Cert.Kernel2Ideal.Val.frame_kernel, Cert.Kernel2Ideal.Val.frame_ideal, Cert.Kernel2Ideal.Val.frame_reference,
  Cert.Kernel3Ideal.Val.frame_kernel, Cert.Kernel3Ideal.Val.frame_ideal, Cert.Kernel3Ideal.Val.frame_reference,
  Cert.Kernel4Ideal.Val.frame_kernel, Cert.Kernel4Ideal.Val.frame_ideal, Cert.Kernel4Ideal.Val.frame_reference,
  Cert.Kernel5Ideal.Val.frame_kernel, Cert.Kernel5Ideal.Val.frame_ideal, Cert.Kernel5Ideal.Val.frame_reference,
  Cert.Kernel6Ideal.Val.frame_kernel, Cert.Kernel6Ideal.Val.frame_ideal, Cert.Kernel6Ideal.Val.frame_reference,
  Cert.Kernel7Ideal.Val.frame_kernel, Cert.Kernel7Ideal.Val.frame_ideal, Cert.Kernel7Ideal.Val.frame_reference,
  Cert.Kernel8Ideal.Val.frame_kernel, Cert.Kernel8Ideal.Val.frame_ideal, Cert.Kernel8Ideal.Val.frame_reference,
  Cert.Kernel9Ideal.Val.frame_kernel, Cert.Kernel9Ideal.Val.frame_ideal, Cert.Kernel9Ideal.Val.frame_reference,
  Cert.Kernel10Ideal.Val.frame_kernel, Cert.Kernel10Ideal.Val.frame_ideal, Cert.Kernel10Ideal.Val.frame_reference,
  Cert.Kernel11Ideal.Val.frame_kernel, Cert.Kernel11Ideal.Val.frame_ideal, Cert.Kernel11Ideal.Val.frame_reference,
  Cert.Kernel12Ideal.Val.frame_kernel, Cert.Kernel12Ideal.Val.frame_ideal, Cert.Kernel12Ideal.Val.frame_reference,
  Cert.Kernel13Ideal.Val.frame_kernel, Cert.Kernel13Ideal.Val.frame_ideal, Cert.Kernel13Ideal.Val.frame_reference,
  Cert.Kernel14Ideal.Val.frame_kernel, Cert.Kernel14Ideal.Val.frame_ideal, Cert.Kernel14Ideal.Val.frame_reference,
  Cert.Kernel15Ideal.Val.frame_kernel, Cert.Kernel15Ideal.Val.frame_ideal, Cert.Kernel15Ideal.Val.frame_reference,
  Cert.Kernel16Ideal.Val.frame_kernel, Cert.Kernel16Ideal.Val.frame_ideal, Cert.Kernel16Ideal.Val.frame_reference,
  Cert.Kernel17Ideal.Val.frame_kernel, Cert.Kernel17Ideal.Val.frame_ideal, Cert.Kernel17Ideal.Val.frame_reference,
  Cert.Kernel18Ideal.Val.frame_kernel, Cert.Kernel18Ideal.Val.frame_ideal, Cert.Kernel18Ideal.Val.frame_reference,
  Cert.Kernel19Ideal.Val.frame_kernel, Cert.Kernel19Ideal.Val.frame_ideal, Cert.Kernel19Ideal.Val.frame_reference,
  Cert.Kernel20Ideal.Val.frame_kernel, Cert.Kernel20Ideal.Val.frame_ideal, Cert.Kernel20Ideal.Val.frame_reference,
  Cert.Kernel21Ideal.Val.frame_kernel, Cert.Kernel21Ideal.Val.frame_ideal, Cert.Kernel21Ideal.Val.frame_reference,
  Cert.Kernel22Ideal.Val.frame_kernel, Cert.Kernel22Ideal.Val.frame_ideal, Cert.Kernel22Ideal.Val.frame_reference,
  Cert.Kernel23Ideal.Val.frame_kernel, Cert.Kernel23Ideal.Val.frame_ideal, Cert.Kernel23Ideal.Val.frame_reference,
  Cert.Kernel24Ideal.Val.frame_kernel, Cert.Kernel24Ideal.Val.frame_ideal, Cert.Kernel24Ideal.Val.frame_reference,
  Cert.Kernel25Ideal.Val.frame_kernel, Cert.Kernel25Ideal.Val.frame_ideal, Cert.Kernel25Ideal.Val.frame_reference,
  preserves, algebraic,
  trivial, Cert.Kernel2Ideal.Val.algebraic,
  trivial, Cert.Kernel3Ideal.Val.algebraic,
  trivial, Cert.Kernel4Ideal.Val.algebraic,
  trivial, Cert.Kernel5Ideal.Val.algebraic,
  trivial, Cert.Kernel6Ideal.Val.algebraic,
  trivial, Cert.Kernel7Ideal.Val.algebraic,
  trivial, Cert.Kernel8Ideal.Val.algebraic,
  trivial, Cert.Kernel9Ideal.Val.algebraic,
  trivial, Cert.Kernel10Ideal.Val.algebraic,
  trivial, Cert.Kernel11Ideal.Val.algebraic,
  trivial, Cert.Kernel12Ideal.Val.algebraic,
  trivial, Cert.Kernel13Ideal.Val.algebraic,
  trivial, Cert.Kernel14Ideal.Val.algebraic,
  trivial, Cert.Kernel15Ideal.Val.algebraic,
  trivial, Cert.Kernel16Ideal.Val.algebraic,
  trivial, Cert.Kernel17Ideal.Val.algebraic,
  trivial, Cert.Kernel18Ideal.Val.algebraic,
  trivial, Cert.Kernel19Ideal.Val.algebraic,
  trivial, Cert.Kernel20Ideal.Val.algebraic,
  trivial, Cert.Kernel21Ideal.Val.algebraic,
  trivial, Cert.Kernel22Ideal.Val.algebraic,
  trivial, Cert.Kernel23Ideal.Val.algebraic,
  trivial, Cert.Kernel24Ideal.Val.algebraic,
  trivial, Cert.Kernel25Ideal.Val.algebraic⟩

end Cert.Proof

end
